-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2)
      ∧ r.2.mem ((c.tc : Thread Cert.DownDxReferenceIdeal.nD Cert.DownDxReferenceIdeal.τ).loc Cert.DownDxReferenceIdeal.main_arg3) = m ((c.tc : Thread Cert.DownDxReferenceIdeal.nD Cert.DownDxReferenceIdeal.τ).loc Cert.DownDxReferenceIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v99_0)) (v1 : (c : Dev Cert.KernelIdeal.nD) → Buf (Elt Ideal) ((c.tc : Thread Cert.KernelIdeal.nD Cert.KernelIdeal.τ).loc Cert.KernelIdeal.main_v99_1)) (v2 : (c : Dev Cert.KernelIdeal.nD) → Buf (Elt Ideal) ((c.tc : Thread Cert.KernelIdeal.nD Cert.KernelIdeal.τ).loc Cert.KernelIdeal.main_v99_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99_0) = v0 c
          ∧ r.2.mem ((c.tc : Thread Cert.KernelIdeal.nD Cert.KernelIdeal.τ).loc Cert.KernelIdeal.main_v99_1) = v1 c
          ∧ r.2.mem ((c.tc : Thread Cert.KernelIdeal.nD Cert.KernelIdeal.τ).loc Cert.KernelIdeal.main_v99_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)
      ∧ m' ((c.tc : Thread Cert.DownDxReferenceIdeal.nD Cert.DownDxReferenceIdeal.τ).loc Cert.DownDxReferenceIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v5)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v5) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v13) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2)
          ∧ r.2.mem ((c.tc : Thread Cert.DownDxReferenceIdeal.nD Cert.DownDxReferenceIdeal.τ).loc Cert.DownDxReferenceIdeal.main_arg3) = m' ((c.tc : Thread Cert.DownDxReferenceIdeal.nD Cert.DownDxReferenceIdeal.τ).loc Cert.DownDxReferenceIdeal.main_arg3))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)
      ∧ m' ((c.tc : Thread Cert.DownDwReferenceIdeal.nD Cert.DownDwReferenceIdeal.τ).loc Cert.DownDwReferenceIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v4)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v4) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v7) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v6) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v2) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v1) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDw : Cert.UpDw.Facts) (hUpDwIdeal : Cert.UpDwIdeal.Facts) (hUpDwReferenceIdeal : Cert.UpDwReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hDown : Cert.Down.Facts) (hDownIdeal : Cert.DownIdeal.Facts) (hDownReferenceIdeal : Cert.DownReferenceIdeal.Facts) (hOutProj : Cert.OutProj.Facts) (hOutProjIdeal : Cert.OutProjIdeal.Facts) (hOutProjReferenceIdeal : Cert.OutProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_Down (hDown := hDown)
    ∧ quiescent_DownIdeal (hDownIdeal := hDownIdeal)
    ∧ quiescent_DownReferenceIdeal (hDownReferenceIdeal := hDownReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDw_UpDwIdeal
    ∧ algebraic_UpDwIdeal_UpDwReferenceIdeal (hUpDwIdeal := hUpDwIdeal) (hUpDwReferenceIdeal := hUpDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_Down_DownIdeal
    ∧ algebraic_DownIdeal_DownReferenceIdeal (hDownIdeal := hDownIdeal) (hDownReferenceIdeal := hDownReferenceIdeal)
    ∧ preserves_OutProj_OutProjIdeal
    ∧ algebraic_OutProjIdeal_OutProjReferenceIdeal (hOutProjIdeal := hOutProjIdeal) (hOutProjReferenceIdeal := hOutProjReferenceIdeal)
-- ==== Pre_finite.lean ====
abbrev S16x512x1024 : Shape := ⟨3, ![16, 512, 1024]⟩
abbrev S16x512x16x64 : Shape := ⟨4, ![16, 512, 16, 64]⟩
abbrev S16x512x16 : Shape := ⟨3, ![16, 512, 16]⟩
abbrev S_ : Shape := ⟨0, ![]⟩

class Facts : Prop where
  bitsLt_bf16_f32 : FTy.bits .bf16 < FTy.bits .f32
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S16x512x16x64 : S_.BroadcastsInDim S16x512x16x64 (![] : Fin 0 → Fin S16x512x16x64.rank)
  reducesTo_S16x512x16x64_S_d0_1_2_3 : S16x512x16x64.ReducesTo [0, 1, 2, 3] S_
  bcast_S_S16x512x16 : S_.BroadcastsInDim S16x512x16 (![] : Fin 0 → Fin S16x512x16.rank)
  reducesTo_S16x512x16_S_d0_1_2 : S16x512x16.ReducesTo [0, 1, 2] S_

variable [Facts]

def fn_part2 {F : FTy → Type} [FloatOps F] (main_arg7 : FVec F S16x512x1024 .bf16) (main_v31 : IVec S_ 1) (main_v34 : IVec S16x512x16 1) : IVec S_ 1 :=
  let main_c_11 : IVec S_ 1 := constantI S_ 1 1#1
  let main_v35 : IVec S_ 1 := (fun x v => Host.reduce IntOp.andi x v reducesTo_S16x512x16_S_d0_1_2 h_S_) main_v34 main_c_11
  let main_v36 : IVec S_ 1 := andi main_v31 main_v35
  let main_v37 : FVec F S16x512x1024 .f32 := (extf .f32 · bitsLt_bf16_f32) main_arg7
  let main_v38 : FVec F S16x512x1024 .f32 := Host.absf main_v37
  let main_cst_12 : FVec F S_ .f32 := constant S_ .f32 0x7F800000#32
  let main_v39 : FVec F S16x512x1024 .f32 := broadcastInDim S16x512x1024 ![] bcast_S_S16x512x1024 main_cst_12
  let main_v40 : IVec S16x512x1024 1 := cmpf .olt main_v38 main_v39
  let main_c_13 : IVec S_ 1 := constantI S_ 1 1#1
  let main_v41 : IVec S_ 1 := (fun x v => Host.reduce IntOp.andi x v reducesTo_S16x512x1024_S_d0_1_2 h_S_) main_v40 main_c_13
  let main_v42 : IVec S_ 1 := andi main_v36 main_v41
  main_v42

def fn_part1 {F : FTy → Type} [FloatOps F] (main_arg4 : FVec F S16x512x16 .f32) (main_arg5 : FVec F S16x512x16x64 .f32) (main_arg6 : FVec F S16x512x16 .f32) (main_arg7 : FVec F S16x512x1024 .bf16) (main_v16 : IVec S_ 1) (main_v17 : FVec F S16x512x16x64 .f32) : IVec S_ 1 :=
  let main_cst_4 : FVec F S_ .f32 := constant S_ .f32 0x7F800000#32
  let main_v18 : FVec F S16x512x16x64 .f32 := broadcastInDim S16x512x16x64 ![] bcast_S_S16x512x16x64 main_cst_4
  let main_v19 : IVec S16x512x16x64 1 := cmpf .olt main_v17 main_v18
  let main_c_5 : IVec S_ 1 := constantI S_ 1 1#1
  let main_v20 : IVec S_ 1 := (fun x v => Host.reduce IntOp.andi x v reducesTo_S16x512x16x64_S_d0_1_2_3 h_S_) main_v19 main_c_5
  let main_v21 : IVec S_ 1 := andi main_v16 main_v20
  let main_v22 : FVec F S16x512x16 .f32 := Host.absf main_arg4
  let main_cst_6 : FVec F S_ .f32 := constant S_ .f32 0x7F800000#32
  let main_v23 : FVec F S16x512x16 .f32 := broadcastInDim S16x512x16 ![] bcast_S_S16x512x16 main_cst_6
  let main_v24 : IVec S16x512x16 1 := cmpf .olt main_v22 main_v23
  let main_c_7 : IVec S_ 1 := constantI S_ 1 1#1
  let main_v25 : IVec S_ 1 := (fun x v => Host.reduce IntOp.andi x v reducesTo_S16x512x16_S_d0_1_2 h_S_) main_v24 main_c_7
  let main_v26 : IVec S_ 1 := andi main_v21 main_v25
  let main_v27 : FVec F S16x512x16x64 .f32 := Host.absf main_arg5
  let main_cst_8 : FVec F S_ .f32 := constant S_ .f32 0x7F800000#32
  let main_v28 : FVec F S16x512x16x64 .f32 := broadcastInDim S16x512x16x64 ![] bcast_S_S16x512x16x64 main_cst_8
  let main_v29 : IVec S16x512x16x64 1 := cmpf .olt main_v27 main_v28
  let main_c_9 : IVec S_ 1 := constantI S_ 1 1#1
  let main_v30 : IVec S_ 1 := (fun x v => Host.reduce IntOp.andi x v reducesTo_S16x512x16x64_S_d0_1_2_3 h_S_) main_v29 main_c_9
  let main_v31 : IVec S_ 1 := andi main_v26 main_v30
  let main_v32 : FVec F S16x512x16 .f32 := Host.absf main_arg6
  let main_cst_10 : FVec F S_ .f32 := constant S_ .f32 0x7F800000#32
  let main_v33 : FVec F S16x512x16 .f32 := broadcastInDim S16x512x16 ![] bcast_S_S16x512x16 main_cst_10
  let main_v34 : IVec S16x512x16 1 := cmpf .olt main_v32 main_v33
  fn_part2 (F := F) main_arg7 main_v31 main_v34

def fn {F : FTy → Type} [FloatOps F] (main_arg0 : FVec F S16x512x1024 .bf16) (main_arg1 : FVec F S16x512x1024 .bf16) (main_arg2 : FVec F S16x512x1024 .bf16) (main_arg3 : FVec F S16x512x16x64 .f32) (main_arg4 : FVec F S16x512x16 .f32) (main_arg5 : FVec F S16x512x16x64 .f32) (main_arg6 : FVec F S16x512x16 .f32) (main_arg7 : FVec F S16x512x1024 .bf16) : IVec S_ 1 :=
  let main_v0 : FVec F S16x512x1024 .f32 := (extf .f32 · bitsLt_bf16_f32) main_arg0
  let main_v1 : FVec F S16x512x1024 .f32 := Host.absf main_v0
  let main_cst : FVec F S_ .f32 := constant S_ .f32 0x7F800000#32
  let main_v2 : FVec F S16x512x1024 .f32 := broadcastInDim S16x512x1024 ![] bcast_S_S16x512x1024 main_cst
  let main_v3 : IVec S16x512x1024 1 := cmpf .olt main_v1 main_v2
  let main_c : IVec S_ 1 := constantI S_ 1 1#1
  let main_v4 : IVec S_ 1 := (fun x v => Host.reduce IntOp.andi x v reducesTo_S16x512x1024_S_d0_1_2 h_S_) main_v3 main_c
  let main_v5 : FVec F S16x512x1024 .f32 := (extf .f32 · bitsLt_bf16_f32) main_arg1
  let main_v6 : FVec F S16x512x1024 .f32 := Host.absf main_v5
  let main_cst_0 : FVec F S_ .f32 := constant S_ .f32 0x7F800000#32
  let main_v7 : FVec F S16x512x1024 .f32 := broadcastInDim S16x512x1024 ![] bcast_S_S16x512x1024 main_cst_0
  let main_v8 : IVec S16x512x1024 1 := cmpf .olt main_v6 main_v7
  let main_c_1 : IVec S_ 1 := constantI S_ 1 1#1
  let main_v9 : IVec S_ 1 := (fun x v => Host.reduce IntOp.andi x v reducesTo_S16x512x1024_S_d0_1_2 h_S_) main_v8 main_c_1
  let main_v10 : IVec S_ 1 := andi main_v4 main_v9
  let main_v11 : FVec F S16x512x1024 .f32 := (extf .f32 · bitsLt_bf16_f32) main_arg2
  let main_v12 : FVec F S16x512x1024 .f32 := Host.absf main_v11
  let main_cst_2 : FVec F S_ .f32 := constant S_ .f32 0x7F800000#32
  let main_v13 : FVec F S16x512x1024 .f32 := broadcastInDim S16x512x1024 ![] bcast_S_S16x512x1024 main_cst_2
  let main_v14 : IVec S16x512x1024 1 := cmpf .olt main_v12 main_v13
  let main_c_3 : IVec S_ 1 := constantI S_ 1 1#1
  let main_v15 : IVec S_ 1 := (fun x v => Host.reduce IntOp.andi x v reducesTo_S16x512x1024_S_d0_1_2 h_S_) main_v14 main_c_3
  let main_v16 : IVec S_ 1 := andi main_v10 main_v15
  let main_v17 : FVec F S16x512x16x64 .f32 := Host.absf main_arg3
  fn_part1 (F := F) main_arg4 main_arg5 main_arg6 main_arg7 main_v16 main_v17
-- ==== Kernel.lean ====
abbrev S16x512x1024 : Shape := ⟨3, ![16, 512, 1024]⟩
abbrev S16x512x16x64 : Shape := ⟨4, ![16, 512, 16, 64]⟩
abbrev S16x512x16 : Shape := ⟨3, ![16, 512, 16]⟩
abbrev S4x1x1 : Shape := ⟨3, ![4, 1, 1]⟩
abbrev S16x1x1 : Shape := ⟨3, ![16, 1, 1]⟩
abbrev S16x4x128x16x64 : Shape := ⟨5, ![16, 4, 128, 16, 64]⟩
abbrev S_ : Shape := ⟨0, ![]⟩
abbrev S16x1x128x16x64 : Shape := ⟨5, ![16, 1, 128, 16, 64]⟩
abbrev S16x3x128x16x64 : Shape := ⟨5, ![16, 3, 128, 16, 64]⟩
abbrev S16x4x256x16x64 : Shape := ⟨5, ![16, 4, 256, 16, 64]⟩
abbrev S16x4x16x128x256 : Shape := ⟨5, ![16, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S16x128x256 : Shape := ⟨3, ![16, 128, 256]⟩
abbrev S1x4x1x128x256 : Shape := ⟨5, ![1, 4, 1, 128, 256]⟩
abbrev S1x1x16x128x256 : Shape := ⟨5, ![1, 1, 16, 128, 256]⟩
abbrev S16x4x16x128 : Shape := ⟨4, ![16, 4, 16, 128]⟩
abbrev S16x4x16x128x1 : Shape := ⟨5, ![16, 4, 16, 128, 1]⟩
abbrev S16x4x16x64x128 : Shape := ⟨5, ![16, 4, 16, 64, 128]⟩
abbrev S16x4x128x16 : Shape := ⟨4, ![16, 4, 128, 16]⟩
abbrev S16x4x128x16x1 : Shape := ⟨5, ![16, 4, 128, 16, 1]⟩
abbrev S16x512x128 : Shape := ⟨3, ![16, 512, 128]⟩
abbrev S1x128x1024 : Shape := ⟨3, ![1, 128, 1024]⟩
abbrev S1x128x128 : Shape := ⟨3, ![1, 128, 128]⟩
abbrev S128x1024 : Shape := ⟨2, ![128, 1024]⟩
abbrev S2x8x256x256 : Shape := ⟨4, ![2, 8, 256, 256]⟩
abbrev S256x256 : Shape := ⟨2, ![256, 256]⟩
abbrev S1x1x256x256 : Shape := ⟨4, ![1, 1, 256, 256]⟩
abbrev S128x128 : Shape := ⟨2, ![128, 128]⟩
abbrev S256x128 : Shape := ⟨2, ![256, 128]⟩
abbrev S1x128x1 : Shape := ⟨3, ![1, 128, 1]⟩
abbrev S256x1 : Shape := ⟨2, ![256, 1]⟩

abbrev nBuf : Space → Nat
  | .hbm => 127
  | .vmem => 25
  | .smem => 0
  | _ => 0

abbrev bufTy : (tb : Table) → Fin (tcTables nBuf tb) → BufTy
  | .hbm, ⟨0, _⟩ => ⟨S16x512x1024, .bf16⟩
  | .hbm, ⟨1, _⟩ => ⟨S16x512x1024, .bf16⟩
  | .hbm, ⟨2, _⟩ => ⟨S16x512x1024, .bf16⟩
  | .hbm, ⟨3, _⟩ => ⟨S16x512x16x64, .f32⟩
  | .hbm, ⟨4, _⟩ => ⟨S16x512x16, .f32⟩
  | .hbm, ⟨5, _⟩ => ⟨S16x512x16x64, .f32⟩
  | .hbm, ⟨6, _⟩ => ⟨S16x512x16, .f32⟩
  | .hbm, ⟨7, _⟩ => ⟨S16x512x1024, .bf16⟩
  | .hbm, ⟨8, _⟩ => ⟨S4x1x1, .i32⟩
  | .hbm, ⟨9, _⟩ => ⟨S16x1x1, .f32⟩
  | .hbm, ⟨10, _⟩ => ⟨S16x512x1024, .f32⟩
  | .hbm, ⟨11, _⟩ => ⟨S16x512x16x64, .f32⟩
  | .hbm, ⟨12, _⟩ => ⟨S16x512x1024, .f32⟩
  | .hbm, ⟨13, _⟩ => ⟨S16x512x16x64, .f32⟩
  | .hbm, ⟨14, _⟩ => ⟨S16x512x1024, .f32⟩
  | .hbm, ⟨15, _⟩ => ⟨S16x512x16x64, .f32⟩
  | .hbm, ⟨16, _⟩ => ⟨S16x4x128x16x64, .f32⟩
  | .hbm, ⟨17, _⟩ => ⟨S_, .f32⟩
  | .hbm, ⟨18, _⟩ => ⟨S16x1x128x16x64, .f32⟩
  | .hbm, ⟨19, _⟩ => ⟨S16x4x128x16x64, .f32⟩
  | .hbm, ⟨20, _⟩ => ⟨S16x3x128x16x64, .f32⟩
  | .hbm, ⟨21, _⟩ => ⟨S16x4x128x16x64, .f32⟩
  | .hbm, ⟨22, _⟩ => ⟨S16x4x256x16x64, .f32⟩
  | .hbm, ⟨23, _⟩ => ⟨S16x4x128x16x64, .f32⟩
  | .hbm, ⟨24, _⟩ => ⟨S16x3x128x16x64, .f32⟩
  | .hbm, ⟨25, _⟩ => ⟨S16x4x128x16x64, .f32⟩
  | .hbm, ⟨26, _⟩ => ⟨S16x4x256x16x64, .f32⟩
  | .hbm, ⟨27, _⟩ => ⟨S16x4x16x128x256, .f32⟩
  | .hbm, ⟨28, _⟩ => ⟨S_, .f32⟩
  | .hbm, ⟨29, _⟩ => ⟨S16x4x16x128x256, .f32⟩
  | .hbm, ⟨30, _⟩ => ⟨S16x4x16x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S1x1x256, .i32⟩
  | .hbm, ⟨42, _⟩ => ⟨S4x1x256, .i32⟩
  | .hbm, ⟨43, _⟩ => ⟨S4x1x256, .i32⟩
  | .hbm, ⟨44, _⟩ => ⟨S4x1x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i1⟩
  | .hbm, ⟨52, _⟩ => ⟨S_, .i32⟩
  | .hbm, ⟨53, _⟩ => ⟨S4x1x256, .i32⟩
  | .hbm, ⟨54, _⟩ => ⟨S4x1x256, .i1⟩
  | .hbm, ⟨55, _⟩ => ⟨S1x128x256, .i1⟩
  | .hbm, ⟨56, _⟩ => ⟨S4x128x256, .i1⟩
  | .hbm, ⟨57, _⟩ => ⟨S4x128x256, .i1⟩
  | .hbm, ⟨58, _⟩ => ⟨S4x128x256, .i1⟩
  | .hbm, ⟨59, _⟩ => ⟨S_, .i32⟩
  | .hbm, ⟨60, _⟩ => ⟨S128x256, .i32⟩
  | .hbm, ⟨61, _⟩ => ⟨S128x256, .i32⟩
  | .hbm, ⟨62, _⟩ => ⟨S128x256, .f32⟩
  | .hbm, ⟨63, _⟩ => ⟨S1x128x256, .f32⟩
  | .hbm, ⟨64, _⟩ => ⟨S16x128x256, .f32⟩
  | .hbm, ⟨65, _⟩ => ⟨S16x128x256, .f32⟩
  | .hbm, ⟨66, _⟩ => ⟨S16x128x256, .f32⟩
  | .hbm, ⟨67, _⟩ => ⟨S1x4x1x128x256, .i1⟩
  | .hbm, ⟨68, _⟩ => ⟨S1x1x16x128x256, .f32⟩
  | .hbm, ⟨69, _⟩ => ⟨S16x4x16x128x256, .f32⟩
  | .hbm, ⟨70, _⟩ => ⟨S16x4x16x128x256, .f32⟩
  | .hbm, ⟨71, _⟩ => ⟨S_, .f32⟩
  | .hbm, ⟨72, _⟩ => ⟨S16x4x16x128x256, .i1⟩
  | .hbm, ⟨73, _⟩ => ⟨S16x4x16x128x256, .f32⟩
  | .hbm, ⟨74, _⟩ => ⟨S16x4x16x128x256, .f32⟩
  | .hbm, ⟨75, _⟩ => ⟨S_, .f32⟩
  | .hbm, ⟨76, _⟩ => ⟨S16x4x16x128, .f32⟩
  | .hbm, ⟨77, _⟩ => ⟨S16x4x16x128x1, .f32⟩
  | .hbm, ⟨78, _⟩ => ⟨S16x4x16x128x256, .f32⟩
  | .hbm, ⟨79, _⟩ => ⟨S16x4x16x128x256, .f32⟩
  | .hbm, ⟨80, _⟩ => ⟨S16x4x16x128x256, .f32⟩
  | .hbm, ⟨81, _⟩ => ⟨S_, .f32⟩
  | .hbm, ⟨82, _⟩ => ⟨S16x4x16x128, .f32⟩
  | .hbm, ⟨83, _⟩ => ⟨S16x4x16x64x128, .f32⟩
  | .hbm, ⟨84, _⟩ => ⟨S16x4x128x16x64, .f32⟩
  | .hbm, ⟨85, _⟩ => ⟨S16x4x128x16, .f32⟩
  | .hbm, ⟨86, _⟩ => ⟨S16x4x128x16x1, .f32⟩
  | .hbm, ⟨87, _⟩ => ⟨S16x4x128x16x64, .f32⟩
  | .hbm, ⟨88, _⟩ => ⟨S16x4x128x16x64, .f32⟩
  | .hbm, ⟨89, _⟩ => ⟨S16x4x16x128, .f32⟩
  | .hbm, ⟨90, _⟩ => ⟨S16x4x16x128, .f32⟩
  | .hbm, ⟨91, _⟩ => ⟨S16x4x128x16, .f32⟩
  | .hbm, ⟨92, _⟩ => ⟨S16x512x16x64, .f32⟩
  | .hbm, ⟨93, _⟩ => ⟨S16x512x16, .f32⟩
  | .hbm, ⟨94, _⟩ => ⟨S16x512x16, .f32⟩
  | .hbm, ⟨95, _⟩ => ⟨S16x512x16, .f32⟩
  | .hbm, ⟨96, _⟩ => ⟨S16x512x16, .f32⟩
  | .hbm, ⟨97, _⟩ => ⟨S16x512x16, .f32⟩
  | .hbm, ⟨98, _⟩ => ⟨S16x512x16, .f32⟩
  | .hbm, ⟨99, _⟩ => ⟨S16x512x16, .f32⟩
  | .hbm, ⟨100, _⟩ => ⟨S16x512x16, .f32⟩
  | .hbm, ⟨101, _⟩ => ⟨S16x512x16, .f32⟩
  | .hbm, ⟨102, _⟩ => ⟨S16x512x16, .f32⟩
  | .hbm, ⟨103, _⟩ => ⟨S16x512x16, .f32⟩
  | .hbm, ⟨104, _⟩ => ⟨S16x512x16, .f32⟩
  | .hbm, ⟨105, _⟩ => ⟨S16x512x16, .f32⟩
  | .hbm, ⟨106, _⟩ => ⟨S16x512x16x64, .f32⟩
  | .hbm, ⟨107, _⟩ => ⟨S16x512x16x64, .f32⟩
  | .hbm, ⟨108, _⟩ => ⟨S16x512x16x64, .f32⟩
  | .hbm, ⟨109, _⟩ => ⟨S16x512x16x64, .f32⟩
  | .hbm, ⟨110, _⟩ => ⟨S16x512x16x64, .f32⟩
  | .hbm, ⟨111, _⟩ => ⟨S16x512x16x64, .f32⟩
  | .hbm, ⟨112, _⟩ => ⟨S16x512x16x64, .f32⟩
  | .hbm, ⟨113, _⟩ => ⟨S16x512x16x64, .f32⟩
  | .hbm, ⟨114, _⟩ => ⟨S16x512x1024, .f32⟩
  | .hbm, ⟨115, _⟩ => ⟨S16x512x16x64, .f32⟩
  | .hbm, ⟨116, _⟩ => ⟨S16x512x16x64, .f32⟩
  | .hbm, ⟨117, _⟩ => ⟨S_, .f32⟩
  | .hbm, ⟨118, _⟩ => ⟨S16x512x16, .f32⟩
  | .hbm, ⟨119, _⟩ => ⟨S16x512x16, .f32⟩
  | .hbm, ⟨120, _⟩ => ⟨S_, .f32⟩
  | .hbm, ⟨121, _⟩ => ⟨S16x512x128, .f32⟩
  | .hbm, ⟨122, _⟩ => ⟨S_, .f32⟩
  | .hbm, ⟨123, _⟩ => ⟨S16x512x128, .f32⟩
  | .hbm, ⟨124, _⟩ => ⟨S16x512x1024, .bf16⟩
  | .hbm, ⟨125, _⟩ => ⟨S16x512x1024, .bf16⟩
  | .hbm, ⟨126, _⟩ => ⟨S16x512x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x128x1024, .bf16⟩
  | .local _ .vmem, ⟨21, _⟩ => ⟨S1x128x1024, .bf16⟩
  | .local _ .vmem, ⟨22, _⟩ => ⟨S128x1024, .f32⟩
  | .local _ .vmem, ⟨23, _⟩ => ⟨S128x1024, .f32⟩
  | .local _ .vmem, ⟨24, _⟩ => ⟨S2x8x256x256, .f32⟩
  | _, _ => ⟨S16x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_10 : Ref sig .tc := ⟨.hbm, 117, rfl⟩
abbrev main_v95 : Ref sig .tc := ⟨.hbm, 118, rfl⟩
abbrev main_v96 : Ref sig .tc := ⟨.hbm, 119, rfl⟩
abbrev main_cst_11 : Ref sig .tc := ⟨.hbm, 120, rfl⟩
abbrev main_v97 : Ref sig .tc := ⟨.hbm, 121, rfl⟩
abbrev main_cst_12 : Ref sig .tc := ⟨.hbm, 122, rfl⟩
abbrev main_v98 : Ref sig .tc := ⟨.hbm, 123, rfl⟩
abbrev main_v99_0 : Ref sig .tc := ⟨.hbm, 124, rfl⟩
abbrev main_v99_1 : Ref sig .tc := ⟨.hbm, 125, rfl⟩
abbrev main_v99_2 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 5], ![false, false]⟩

def k0_cond4 (i : grid0.Coords) : BitVec 1 :=
  let arg1 : BitVec 32 := BitVec.ofNat 32 (i 1).val
  let c4_i32_5 : BitVec 32 := 4#32
  let v11 : BitVec 1 := Scalar.cmpi .slt arg1 c4_i32_5
  let v12 : BitVec 32 := Scalar.extui v11
  let c0_i32_6 : BitVec 32 := 0#32
  let v13 : BitVec 1 := Scalar.cmpi .ne v12 c0_i32_6
  v13

def k0_off1 (i : grid0.Coords) : Fin 4 → Nat :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let v54 : Index := Scalar.indexCast v15
  let c0_39 : Index := 0#32
  let c0_40 : Index := 0#32
  let c0_41 : Index := 0#32
  ![v54.toNat, 0, 0, 0]
def k0_off2 (i : grid0.Coords) : Fin 4 → Nat :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let v136 : Index := Scalar.indexCast v15
  let c1_95 : Index := 1#32
  let c0_96 : Index := 0#32
  let c0_97 : Index := 0#32
  ![v136.toNat, 1, 0, 0]
def k0_off3 (i : grid0.Coords) : Fin 4 → Nat :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let v218 : Index := Scalar.indexCast v15
  let c2_151 : Index := 2#32
  let c0_152 : Index := 0#32
  let c0_153 : Index := 0#32
  ![v218.toNat, 2, 0, 0]
def k0_off4 (i : grid0.Coords) : Fin 4 → Nat :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let v300 : Index := Scalar.indexCast v15
  let c3_207 : Index := 3#32
  let c0_208 : Index := 0#32
  let c0_209 : Index := 0#32
  ![v300.toNat, 3, 0, 0]
def k0_off5 (i : grid0.Coords) : Fin 4 → Nat :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let v382 : Index := Scalar.indexCast v15
  let c4_263 : Index := 4#32
  let c0_264 : Index := 0#32
  let c0_265 : Index := 0#32
  ![v382.toNat, 4, 0, 0]
def k0_off6 (i : grid0.Coords) : Fin 4 → Nat :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let v464 : Index := Scalar.indexCast v15
  let c5_319 : Index := 5#32
  let c0_320 : Index := 0#32
  let c0_321 : Index := 0#32
  ![v464.toNat, 5, 0, 0]
def k0_off7 (i : grid0.Coords) : Fin 4 → Nat :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let v546 : Index := Scalar.indexCast v15
  let c6_375 : Index := 6#32
  let c0_376 : Index := 0#32
  let c0_377 : Index := 0#32
  ![v546.toNat, 6, 0, 0]
def k0_off8 (i : grid0.Coords) : Fin 4 → Nat :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let v628 : Index := Scalar.indexCast v15
  let c7_431 : Index := 7#32
  let c0_432 : Index := 0#32
  let c0_433 : Index := 0#32
  ![v628.toNat, 7, 0, 0]
def k0_cond3 (i : grid0.Coords) : BitVec 1 :=
  let arg1 : BitVec 32 := BitVec.ofNat 32 (i 1).val
  let c4_i32 : BitVec 32 := 4#32
  let v8 : BitVec 1 := Scalar.cmpi .eq arg1 c4_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x512x1024 : Shape := ⟨3, ![16, 512, 1024]⟩
abbrev S16x512x16x64 : Shape := ⟨4, ![16, 512, 16, 64]⟩
abbrev S16x512x16 : Shape := ⟨3, ![16, 512, 16]⟩
abbrev S4x1x1 : Shape := ⟨3, ![4, 1, 1]⟩
abbrev S16x1x1 : Shape := ⟨3, ![16, 1, 1]⟩
abbrev S16x4x128x16x64 : Shape := ⟨5, ![16, 4, 128, 16, 64]⟩
abbrev S_ : Shape := ⟨0, ![]⟩
abbrev S16x1x128x16x64 : Shape := ⟨5, ![16, 1, 128, 16, 64]⟩
abbrev S16x3x128x16x64 : Shape := ⟨5, ![16, 3, 128, 16, 64]⟩
abbrev S16x4x256x16x64 : Shape := ⟨5, ![16, 4, 256, 16, 64]⟩
abbrev S16x4x16x128x256 : Shape := ⟨5, ![16, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S16x128x256 : Shape := ⟨3, ![16, 128, 256]⟩
abbrev S1x4x1x128x256 : Shape := ⟨5, ![1, 4, 1, 128, 256]⟩
abbrev S1x1x16x128x256 : Shape := ⟨5, ![1, 1, 16, 128, 256]⟩
abbrev S16x4x16x128 : Shape := ⟨4, ![16, 4, 16, 128]⟩
abbrev S16x4x16x128x1 : Shape := ⟨5, ![16, 4, 16, 128, 1]⟩
abbrev S16x4x16x64x128 : Shape := ⟨5, ![16, 4, 16, 64, 128]⟩
abbrev S16x4x128x16 : Shape := ⟨4, ![16, 4, 128, 16]⟩
abbrev S16x4x128x16x1 : Shape := ⟨5, ![16, 4, 128, 16, 1]⟩
abbrev S1x16x512x16 : Shape := ⟨4, ![1, 16, 512, 16]⟩
abbrev S3x16x512x16 : Shape := ⟨4, ![3, 16, 512, 16]⟩
abbrev S3x16x512x16x1 : Shape := ⟨5, ![3, 16, 512, 16, 1]⟩
abbrev S1x16x512x16x64 : Shape := ⟨5, ![1, 16, 512, 16, 64]⟩
abbrev S3x16x512x16x64 : Shape := ⟨5, ![3, 16, 512, 16, 64]⟩
abbrev S16x4x16x64x256 : Shape := ⟨5, ![16, 4, 16, 64, 256]⟩
abbrev S16x4x16x256x64 : Shape := ⟨5, ![16, 4, 16, 256, 64]⟩
abbrev S16x4x16x128x64 : Shape := ⟨5, ![16, 4, 16, 128, 64]⟩

abbrev nBuf : Space → Nat
  | .hbm => 258
  | .vmem => 0
  | .smem => 0
  | _ => 0

abbrev hbmTy0_0 (i : Nat) : BufTy := match i % 128 with
  | 0 => ⟨S16x512x1024, .bf16⟩
  | 1 => ⟨S16x512x1024, .bf16⟩
  | 2 => ⟨S16x512x1024, .bf16⟩
  | 3 => ⟨S16x512x16x64, .f32⟩
  | 4 => ⟨S16x512x16, .f32⟩
  | 5 => ⟨S16x512x16x64, .f32⟩
  | 6 => ⟨S16x512x16, .f32⟩
  | 7 => ⟨S16x512x1024, .bf16⟩
  | 8 => ⟨S4x1x1, .i32⟩
  | 9 => ⟨S16x1x1, .f32⟩
  | 10 => ⟨S16x512x1024, .f32⟩
  | 11 => ⟨S16x512x16x64, .f32⟩
  | 12 => ⟨S16x512x1024, .f32⟩
  | 13 => ⟨S16x512x16x64, .f32⟩
  | 14 => ⟨S16x512x1024, .f32⟩
  | 15 => ⟨S16x512x16x64, .f32⟩
  | 16 => ⟨S16x4x128x16x64, .f32⟩
  | 17 => ⟨S_, .f32⟩
  | 18 => ⟨S16x1x128x16x64, .f32⟩
  | 19 => ⟨S16x4x128x16x64, .f32⟩
  | 20 => ⟨S16x3x128x16x64, .f32⟩
  | 21 => ⟨S16x4x128x16x64, .f32⟩
  | 22 => ⟨S_, .f32⟩
  | 23 => ⟨S16x1x128x16x64, .f32⟩
  | 24 => ⟨S16x4x256x16x64, .f32⟩
  | 25 => ⟨S16x4x128x16x64, .f32⟩
  | 26 => ⟨S16x3x128x16x64, .f32⟩
  | 27 => ⟨S16x4x128x16x64, .f32⟩
  | 28 => ⟨S_, .f32⟩
  | 29 => ⟨S16x1x128x16x64, .f32⟩
  | 30 => ⟨S16x4x256x16x64, .f32⟩
  | 31 => ⟨S16x4x16x128x256, .f32⟩
  | 32 => ⟨S_, .f32⟩
  | 33 => ⟨S16x4x16x128x256, .f32⟩
  | 34 => ⟨S16x4x16x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S1x1x256, .i32⟩
  | 46 => ⟨S4x1x256, .i32⟩
  | 47 => ⟨S4x1x256, .i32⟩
  | 48 => ⟨S4x1x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i1⟩
  | 55 => ⟨S128x256, .i1⟩
  | 56 => ⟨S_, .i32⟩
  | 57 => ⟨S4x1x256, .i32⟩
  | 58 => ⟨S4x1x256, .i1⟩
  | 59 => ⟨S1x128x256, .i1⟩
  | 60 => ⟨S4x128x256, .i1⟩
  | 61 => ⟨S4x128x256, .i1⟩
  | 62 => ⟨S4x128x256, .i1⟩
  | 63 => ⟨S_, .i32⟩
  | 64 => ⟨S128x256, .i32⟩
  | 65 => ⟨S128x256, .i32⟩
  | 66 => ⟨S128x256, .f32⟩
  | 67 => ⟨S1x128x256, .f32⟩
  | 68 => ⟨S16x128x256, .f32⟩
  | 69 => ⟨S16x128x256, .f32⟩
  | 70 => ⟨S16x128x256, .f32⟩
  | 71 => ⟨S1x4x1x128x256, .i1⟩
  | 72 => ⟨S1x1x16x128x256, .f32⟩
  | 73 => ⟨S16x4x16x128x256, .f32⟩
  | 74 => ⟨S16x4x16x128x256, .f32⟩
  | 75 => ⟨S_, .f32⟩
  | 76 => ⟨S16x4x16x128x256, .i1⟩
  | 77 => ⟨S16x4x16x128x256, .f32⟩
  | 78 => ⟨S16x4x16x128x256, .f32⟩
  | 79 => ⟨S_, .f32⟩
  | 80 => ⟨S16x4x16x128x256, .f32⟩
  | 81 => ⟨S_, .f32⟩
  | 82 => ⟨S16x4x16x128, .f32⟩
  | 83 => ⟨S16x4x16x128x1, .f32⟩
  | 84 => ⟨S16x4x16x128x256, .f32⟩
  | 85 => ⟨S16x4x16x128x256, .f32⟩
  | 86 => ⟨S16x4x16x128x256, .f32⟩
  | 87 => ⟨S_, .f32⟩
  | 88 => ⟨S16x4x16x128, .f32⟩
  | 89 => ⟨S16x4x16x64x128, .f32⟩
  | 90 => ⟨S16x4x128x16x64, .f32⟩
  | 91 => ⟨S16x4x128x16, .f32⟩
  | 92 => ⟨S16x4x128x16x1, .f32⟩
  | 93 => ⟨S16x4x128x16x64, .f32⟩
  | 94 => ⟨S16x4x128x16x64, .f32⟩
  | 95 => ⟨S16x4x128x16x1, .f32⟩
  | 96 => ⟨S_, .f32⟩
  | 97 => ⟨S16x4x128x16x1, .f32⟩
  | 98 => ⟨S16x4x128x16x1, .f32⟩
  | 99 => ⟨S16x4x16x128, .f32⟩
  | 100 => ⟨S16x4x16x128, .f32⟩
  | 101 => ⟨S16x4x128x16, .f32⟩
  | 102 => ⟨S16x512x16x64, .f32⟩
  | 103 => ⟨S16x512x16, .f32⟩
  | 104 => ⟨S1x16x512x16, .f32⟩
  | 105 => ⟨S1x16x512x16, .f32⟩
  | 106 => ⟨S1x16x512x16, .f32⟩
  | 107 => ⟨S3x16x512x16, .f32⟩
  | 108 => ⟨S_, .f32⟩
  | 109 => ⟨S16x512x16, .f32⟩
  | 110 => ⟨S_, .f32⟩
  | 111 => ⟨S16x512x16, .f32⟩
  | 112 => ⟨S_, .f32⟩
  | 113 => ⟨S16x512x16, .f32⟩
  | 114 => ⟨S1x16x512x16, .f32⟩
  | 115 => ⟨S3x16x512x16, .f32⟩
  | 116 => ⟨S3x16x512x16, .i1⟩
  | 117 => ⟨S3x16x512x16, .f32⟩
  | 118 => ⟨S_, .f32⟩
  | 119 => ⟨S16x512x16, .f32⟩
  | 120 => ⟨S_, .f32⟩
  | 121 => ⟨S16x512x16, .f32⟩
  | 122 => ⟨S16x512x16, .f32⟩
  | 123 => ⟨S_, .f32⟩
  | 124 => ⟨S16x512x16, .f32⟩
  | 125 => ⟨S16x512x16, .i1⟩
  | 126 => ⟨S_, .f32⟩
  | 127 => ⟨S16x512x16, .f32⟩
  | _ => ⟨S16x512x1024, .bf16⟩

abbrev hbmTy0_1 (i : Nat) : BufTy := match i % 128 with
  | 0 => ⟨S16x512x16, .i1⟩
  | 1 => ⟨S_, .f32⟩
  | 2 => ⟨S16x512x16, .f32⟩
  | 3 => ⟨S_, .f32⟩
  | 4 => ⟨S16x512x16, .f32⟩
  | 5 => ⟨S_, .f32⟩
  | 6 => ⟨S16x512x16, .f32⟩
  | 7 => ⟨S16x512x16, .f32⟩
  | 8 => ⟨S16x512x16, .f32⟩
  | 9 => ⟨S1x16x512x16, .f32⟩
  | 10 => ⟨S3x16x512x16, .f32⟩
  | 11 => ⟨S3x16x512x16, .f32⟩
  | 12 => ⟨S3x16x512x16, .f32⟩
  | 13 => ⟨S_, .f32⟩
  | 14 => ⟨S16x512x16, .f32⟩
  | 15 => ⟨S1x16x512x16, .f32⟩
  | 16 => ⟨S3x16x512x16, .f32⟩
  | 17 => ⟨S3x16x512x16, .f32⟩
  | 18 => ⟨S1x16x512x16, .f32⟩
  | 19 => ⟨S_, .f32⟩
  | 20 => ⟨S1x16x512x16, .f32⟩
  | 21 => ⟨S1x16x512x16, .f32⟩
  | 22 => ⟨S3x16x512x16x1, .f32⟩
  | 23 => ⟨S1x16x512x16x64, .f32⟩
  | 24 => ⟨S1x16x512x16x64, .f32⟩
  | 25 => ⟨S1x16x512x16x64, .f32⟩
  | 26 => ⟨S3x16x512x16x64, .f32⟩
  | 27 => ⟨S_, .f32⟩
  | 28 => ⟨S16x512x16x64, .f32⟩
  | 29 => ⟨S_, .f32⟩
  | 30 => ⟨S16x512x16x64, .f32⟩
  | 31 => ⟨S3x16x512x16x64, .f32⟩
  | 32 => ⟨S3x16x512x16x64, .f32⟩
  | 33 => ⟨S_, .f32⟩
  | 34 => ⟨S16x512x16x64, .f32⟩
  | 35 => ⟨S16x512x1024, .f32⟩
  | 36 => ⟨S16x512x1024, .f32⟩
  | 37 => ⟨S16x512x16x64, .f32⟩
  | 38 => ⟨S3x16x512x16x64, .f32⟩
  | 39 => ⟨S3x16x512x16x64, .f32⟩
  | 40 => ⟨S3x16x512x16x64, .f32⟩
  | 41 => ⟨S3x16x512x16x64, .f32⟩
  | 42 => ⟨S_, .f32⟩
  | 43 => ⟨S3x16x512x16, .f32⟩
  | 44 => ⟨S3x16x512x16x1, .f32⟩
  | 45 => ⟨S1x16x512x16x64, .f32⟩
  | 46 => ⟨S16x512x16x64, .f32⟩
  | 47 => ⟨S1x16x512x16x64, .f32⟩
  | 48 => ⟨S16x512x16x64, .f32⟩
  | 49 => ⟨S1x16x512x16x64, .f32⟩
  | 50 => ⟨S16x512x16x64, .f32⟩
  | 51 => ⟨S_, .f32⟩
  | 52 => ⟨S3x16x512x16, .f32⟩
  | 53 => ⟨S3x16x512x16, .f32⟩
  | 54 => ⟨S3x16x512x16, .f32⟩
  | 55 => ⟨S3x16x512x16, .f32⟩
  | 56 => ⟨S_, .f32⟩
  | 57 => ⟨S16x512x16, .f32⟩
  | 58 => ⟨S1x16x512x16, .f32⟩
  | 59 => ⟨S1x16x512x16, .f32⟩
  | 60 => ⟨S3x16x512x16, .f32⟩
  | 61 => ⟨S3x16x512x16, .f32⟩
  | 62 => ⟨S_, .f32⟩
  | 63 => ⟨S16x512x16, .f32⟩
  | 64 => ⟨S3x16x512x16, .f32⟩
  | 65 => ⟨S3x16x512x16, .f32⟩
  | 66 => ⟨S3x16x512x16, .f32⟩
  | 67 => ⟨S1x16x512x16, .f32⟩
  | 68 => ⟨S16x512x16, .f32⟩
  | 69 => ⟨S1x16x512x16, .f32⟩
  | 70 => ⟨S16x512x16, .f32⟩
  | 71 => ⟨S1x16x512x16, .f32⟩
  | 72 => ⟨S16x512x16, .f32⟩
  | 73 => ⟨S16x4x128x16, .f32⟩
  | 74 => ⟨S16x4x128x16x64, .f32⟩
  | 75 => ⟨S16x4x16x128, .f32⟩
  | 76 => ⟨S16x4x16x128, .f32⟩
  | 77 => ⟨S16x4x128x16x64, .f32⟩
  | 78 => ⟨S16x4x128x16x64, .f32⟩
  | 79 => ⟨S16x4x128x16x64, .f32⟩
  | 80 => ⟨S_, .f32⟩
  | 81 => ⟨S16x4x128x16, .f32⟩
  | 82 => ⟨S16x4x128x16x1, .f32⟩
  | 83 => ⟨S16x4x128x16x1, .f32⟩
  | 84 => ⟨S16x4x128x16x64, .f32⟩
  | 85 => ⟨S16x4x128x16x64, .f32⟩
  | 86 => ⟨S_, .f32⟩
  | 87 => ⟨S16x4x128x16, .f32⟩
  | 88 => ⟨S16x4x16x128, .f32⟩
  | 89 => ⟨S16x4x16x128, .f32⟩
  | 90 => ⟨S16x4x16x64x128, .f32⟩
  | 91 => ⟨S16x4x16x128x256, .f32⟩
  | 92 => ⟨S16x4x16x64x256, .f32⟩
  | 93 => ⟨S16x4x256x16x64, .f32⟩
  | 94 => ⟨S16x4x16x128x256, .f32⟩
  | 95 => ⟨S16x4x16x128x256, .f32⟩
  | 96 => ⟨S16x4x16x128x256, .f32⟩
  | 97 => ⟨S_, .f32⟩
  | 98 => ⟨S16x4x16x128x256, .f32⟩
  | 99 => ⟨S16x4x16x128x256, .f32⟩
  | 100 => ⟨S_, .f32⟩
  | 101 => ⟨S16x4x16x128x256, .f32⟩
  | 102 => ⟨S16x4x16x128x256, .f32⟩
  | 103 => ⟨S16x4x16x256x64, .f32⟩
  | 104 => ⟨S16x4x256x16x64, .f32⟩
  | 105 => ⟨S16x4x16x128x64, .f32⟩
  | 106 => ⟨S16x4x128x16x64, .f32⟩
  | 107 => ⟨S16x4x128x16x64, .f32⟩
  | 108 => ⟨S16x4x128x16x64, .f32⟩
  | 109 => ⟨S16x1x128x16x64, .f32⟩
  | 110 => ⟨S16x3x128x16x64, .f32⟩
  | 111 => ⟨S_, .f32⟩
  | 112 => ⟨S16x4x128x16x64, .f32⟩
  | 113 => ⟨S16x4x128x16x64, .f32⟩
  | 114 => ⟨S16x512x16x64, .f32⟩
  | 115 => ⟨S16x4x128x16x64, .f32⟩
  | 116 => ⟨S16x4x128x16x64, .f32⟩
  | 117 => ⟨S16x1x128x16x64, .f32⟩
  | 118 => ⟨S16x3x128x16x64, .f32⟩
  | 119 => ⟨S_, .f32⟩
  | 120 => ⟨S16x4x128x16x64, .f32⟩
  | 121 => ⟨S16x4x128x16x64, .f32⟩
  | 122 => ⟨S16x512x16x64, .f32⟩
  | 123 => ⟨S16x512x16x64, .f32⟩
  | 124 => ⟨S16x512x1024, .f32⟩
  | 125 => ⟨S16x512x1024, .bf16⟩
  | 126 => ⟨S16x512x1024, .f32⟩
  | 127 => ⟨S16x512x1024, .bf16⟩
  | _ => ⟨S16x512x1024, .bf16⟩

abbrev hbmTy0_2 (i : Nat) : BufTy := match i % 128 with
  | 0 => ⟨S16x512x1024, .f32⟩
  | 1 => ⟨S16x512x1024, .bf16⟩
  | _ => ⟨S16x512x1024, .bf16⟩

abbrev hbmTy (i : Nat) : BufTy := match i / 128 with
  | 0 => hbmTy0_0 i
  | 1 => hbmTy0_1 i
  | 2 => hbmTy0_2 i
  | _ => ⟨S16x512x1024, .bf16⟩

abbrev bufTy : (tb : Table) → Fin (tcTables nBuf tb) → BufTy
  | .hbm, ⟨i, _⟩ => hbmTy i
  | _, _ => ⟨S16x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56_1 : Ref sig .tc := ⟨.hbm, 76, rfl⟩
abbrev main_call0_v1 : Ref sig .tc := ⟨.hbm, 77, rfl⟩
abbrev main_v56_0 : Ref sig .tc := ⟨.hbm, 78, rfl⟩
abbrev main_call0_cst : Ref sig .tc := ⟨.hbm, 79, rfl⟩
abbrev main_v56_2 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_cst_14 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_16 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_cst_21 : Ref sig .tc := ⟨.hbm, 131, rfl⟩
abbrev main_v96 : Ref sig .tc := ⟨.hbm, 132, rfl⟩
abbrev main_cst_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_23 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_24 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_25 : Ref sig .tc := ⟨.hbm, 155, rfl⟩
abbrev main_v116 : Ref sig .tc := ⟨.hbm, 156, rfl⟩
abbrev main_cst_26 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_27 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_28 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_29 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_30 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_31 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_32 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_33 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_call1_cst : Ref sig .tc := ⟨.hbm, 225, rfl⟩
abbrev main_call1_v0 : Ref sig .tc := ⟨.hbm, 226, rfl⟩
abbrev main_v177 : Ref sig .tc := ⟨.hbm, 227, rfl⟩
abbrev main_cst_34 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_35 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_36 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩

abbrev nD : Nat := 1
abbrev τ : Topo := Topo.v7x

variable {F : FTy → Type} [FloatOps F]

def κ : String → Option EReal := fun
  | "mask" => some ⊥
  | _ => none
-- ==== DownDx.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S8192x2048, .bf16⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .bf16⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxReferenceIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== DownDw.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x2048 : Shape := ⟨2, ![8192, 2048]⟩
abbrev S2048x8192 : Shape := ⟨2, ![2048, 8192]⟩
abbrev S_ : Shape := ⟨0, ![]⟩
abbrev S8192x8192 : Shape := ⟨2, ![8192, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x2048, .f32⟩
  | .hbm, ⟨11, _⟩ => ⟨S2048x8192, .f32⟩
  | .hbm, ⟨12, _⟩ => ⟨S8192x2048, .f32⟩
  | .hbm, ⟨13, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== UpDw.lean ====
abbrev S8192x2048 : Shape := ⟨2, ![8192, 2048]⟩
abbrev S8192x8192 : Shape := ⟨2, ![8192, 8192]⟩
abbrev S4x2048x2048 : Shape := ⟨3, ![4, 2048, 2048]⟩
abbrev S2048x1024 : Shape := ⟨2, ![2048, 1024]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .bf16⟩
  | .hbm, ⟨3, _⟩ => ⟨S8192x8192, .bf16⟩
  | .hbm, ⟨4, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S_, .f32⟩
  | .hbm, ⟨3, _⟩ => ⟨S2048x8192, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S2048x4x2048, .f32⟩
  | .hbm, ⟨8, _⟩ => ⟨S4x2048x2048, .f32⟩
  | .hbm, ⟨9, _⟩ => ⟨S4x2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S2048x2048, .bf16⟩
  | .hbm, ⟨3, _⟩ => ⟨S8192x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S8192x2048 : Shape := ⟨2, ![8192, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Down.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjReferenceIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Attn.Spec.lean ====
/- The gradient of the banded attention of one branch, merged with two others by their log-sums, over the reals. -/
module

public import Mathlib.Analysis.SpecialFunctions.Log.Basic
public import Mathlib.Analysis.SpecialFunctions.Exp
public import Idealize.ShloMosaic.PureOps.Ideal
public import Idealize.ShloMosaic.Lib.Tactic.WordOmega

@[expose] public section

noncomputable section

namespace Cert.Attn

open Idealize.ShloMosaic

/-- The position of query `q` of block `n` in the sequence. -/
def pos (n : Fin 4) (q : Fin 128) : Fin 512 := ⟨n.val * 128 + q.val, by omega⟩
/-- The column of element `d` of head `h`. -/
def col (h : Fin 16) (d : Fin 64) : Fin 1024 := ⟨h.val * 64 + d.val, by omega⟩

/-- Which keys of its block's window a query sees. -/
def ok (n : Fin 4) (q : Fin 128) (j : Fin 256) : Prop := q.val ≤ j.val ∧ j.val ≤ q.val + 128 ∧ 128 ≤ n.val * 128 + j.val

instance (n : Fin 4) (q : Fin 128) (j : Fin 256) : Decidable (ok n q j) := by unfold ok; infer_instance

/-- An extended real that is the given real number. -/
abbrev IsR (x : EReal) (r : ℝ) : Prop := x = (r : EReal)

/-- Row `j` of the window of block `n`: the block before it and the block itself, zeros before the first. -/
def win (K : Fin 16 → Fin 512 → Fin 1024 → ℝ) (a : Fin 16) (n : Fin 4) (h : Fin 16) (j : Fin 256) (d : Fin 64) : ℝ :=
  if hj : 128 ≤ n.val * 128 + j.val then K a ⟨n.val * 128 + j.val - 128, by omega⟩ (col h d) else 0

/-- What the two programs are given, as real numbers: the three branch's operands, the other branches' outputs and log-sums, and the gradient. -/
structure Data where
  Q : Fin 16 → Fin 512 → Fin 1024 → ℝ
  K : Fin 16 → Fin 512 → Fin 1024 → ℝ
  U : Fin 16 → Fin 512 → Fin 1024 → ℝ
  O1 : Fin 16 → Fin 512 → Fin 16 → Fin 64 → ℝ
  L1 : Fin 16 → Fin 512 → Fin 16 → ℝ
  O2 : Fin 16 → Fin 512 → Fin 16 → Fin 64 → ℝ
  L2 : Fin 16 → Fin 512 → Fin 16 → ℝ
  C : Fin 16 → Fin 512 → Fin 1024 → ℝ
  slope : Fin 16 → ℝ

namespace Data

variable (X : Data) (a : Fin 16) (n : Fin 4) (h : Fin 16) (q : Fin 128) (j : Fin 256) (d : Fin 64)

/-- The score of a query and a key: their product over eight, less the head's slope times the distance. -/
def S : ℝ := (∑ d, X.Q a (pos n q) (col h d) * win X.K a n h j d) * (1 / 8) - X.slope h * (16 * ((q.val : ℝ) + 128 - j.val))
/-- The score's exponential, zero where the query does not see the key. -/
def E : ℝ := if ok n q j then Real.exp (X.S a n h q j) else 0
/-- The sum of the exponentials of the branch's scores. -/
def D : ℝ := ∑ j, X.E a n h q j
/-- The sum over the three branches. -/
def Z : ℝ := Real.exp (X.L1 a (pos n q) h) + Real.exp (X.L2 a (pos n q) h) + X.D a n h q
/-- The merged softmax's weight of a key. -/
def A : ℝ := X.E a n h q j / X.Z a n h q
/-- The branch's output before its division. -/
def OU : ℝ := ∑ j, win X.U a n h j d * X.E a n h q j
/-- The product of the merged output with the incoming gradient. -/
def T : ℝ := (∑ d, X.C a (pos n q) (col h d) * (Real.exp (X.L1 a (pos n q) h) * X.O1 a (pos n q) h d + Real.exp (X.L2 a (pos n q) h) * X.O2 a (pos n q) h d + X.OU a n h q d)) / X.Z a n h q
/-- The gradient of a score. -/
def G : ℝ := X.A a n h q j * ((∑ d, X.C a (pos n q) (col h d) * win X.U a n h j d) - X.T a n h q)
/-- The gradient of a query. -/
def DQ : ℝ := (∑ j, X.G a n h q j * win X.K a n h j d) * (1 / 8)
/-- The gradient of a row of a block's window of keys. -/
def DKW : ℝ := ∑ q, X.G a n h q j * (X.Q a (pos n q) (col h d) * (1 / 8))
/-- The gradient of a row of a block's window of values. -/
def DUW : ℝ := ∑ q, X.A a n h q j * X.C a (pos n q) (col h d)

theorem E_nonneg : 0 ≤ X.E a n h q j := by
  unfold E; split
  · exact (Real.exp_pos _).le
  · exact le_rfl

theorem D_pos : 0 < X.D a n h q := by
  refine Finset.sum_pos' (fun j _ => X.E_nonneg a n h q j) ⟨⟨q.val + 128, by omega⟩, Finset.mem_univ _, ?_⟩
  unfold E
  rw [if_pos ⟨by show q.val ≤ q.val + 128; omega, le_rfl, by show 128 ≤ n.val * 128 + (q.val + 128); omega⟩]
  exact Real.exp_pos _

theorem Z_pos : 0 < X.Z a n h q := by
  unfold Z
  have := X.D_pos a n h q
  positivity

/-- The three branches' sums of exponentials. -/
def W (i : Fin 3) : ℝ :=
  match i with
  | 0 => Real.exp (X.L1 a (pos n q) h)
  | 1 => Real.exp (X.L2 a (pos n q) h)
  | 2 => X.D a n h q

theorem W_zero : X.W a n h q 0 = Real.exp (X.L1 a (pos n q) h) := rfl
theorem W_one : X.W a n h q 1 = Real.exp (X.L2 a (pos n q) h) := rfl
theorem W_two : X.W a n h q 2 = X.D a n h q := rfl

theorem W_pos (i : Fin 3) : 0 < X.W a n h q i := by
  fin_cases i
  · exact Real.exp_pos _
  · exact Real.exp_pos _
  · exact X.D_pos a n h q

theorem sum_W : ∑ i, X.W a n h q i = X.Z a n h q := by
  rw [Fin.sum_univ_three]; rfl

/-- The three branches' outputs. -/
def O (i : Fin 3) : ℝ :=
  match i with
  | 0 => X.O1 a (pos n q) h d
  | 1 => X.O2 a (pos n q) h d
  | 2 => X.OU a n h q d / X.D a n h q

theorem O_zero : X.O a n h q d 0 = X.O1 a (pos n q) h d := rfl
theorem O_one : X.O a n h q d 1 = X.O2 a (pos n q) h d := rfl
theorem O_two : X.O a n h q d 2 = X.OU a n h q d / X.D a n h q := rfl

/-- Their products with the incoming gradient. -/
def CO (i : Fin 3) : ℝ := ∑ d, X.C a (pos n q) (col h d) * X.O a n h q d i

theorem sum_WCO : ∑ i, X.CO a n h q i * X.W a n h q i / X.Z a n h q = X.T a n h q := by
  rw [Fin.sum_univ_three, ← add_div, ← add_div]
  unfold T CO
  congr 1
  simp only [Finset.sum_mul, ← Finset.sum_add_distrib]
  refine Finset.sum_congr rfl fun d _ => ?_
  have hD := (X.D_pos a n h q).ne'
  unfold W O
  dsimp only
  field_simp

theorem CO_two : X.CO a n h q 2 = (∑ d, X.C a (pos n q) (col h d) * X.OU a n h q d) / X.D a n h q := by
  unfold CO O
  dsimp only
  rw [Finset.sum_div]
  simp only [mul_div_assoc]

end Data

/-! ## Extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem div_coe (x y : ℝ) (hy : y ≠ 0) : Ideal.div (x : EReal) (y : EReal) = ((x / y : ℝ) : EReal) := by
  have : (y : EReal) ≠ 0 := by exact_mod_cast hy
  simp [Ideal.div, this, div_eq_mul_inv, EReal.coe_mul, EReal.coe_inv]

theorem log_coe (x : ℝ) (hx : 0 < x) : Ideal.log (x : EReal) = ((Real.log x : ℝ) : EReal) := by
  rw [Ideal.log_coe, if_neg (not_le.mpr hx)]

theorem max_coe (x y : ℝ) : max (x : EReal) (y : EReal) = ((max x y : ℝ) : EReal) := by
  rcases le_total x y with h | h
  · rw [max_eq_right h, max_eq_right (by exact_mod_cast h)]
  · rw [max_eq_left h, max_eq_left (by exact_mod_cast h)]

/-- A log-sum from a sum taken against a shift. -/
theorem lse_shift (m d : ℝ) (hd : 0 < d) : (m : EReal) + Ideal.log ((d / Real.exp m : ℝ) : EReal) = ((Real.log d : ℝ) : EReal) := by
  rw [log_coe _ (div_pos hd (Real.exp_pos _)), ← EReal.coe_add, Real.log_div hd.ne' (Real.exp_pos _).ne', Real.log_exp]
  congr 1
  ring

/-- An exponential against a shift, from the logarithm. -/
theorem exp_shift (w t : ℝ) (hw : 0 < w) : Ideal.exp (((Real.log w : ℝ) : EReal) - (t : EReal)) = ((w / Real.exp t : ℝ) : EReal) := by
  rw [← EReal.coe_sub]
  refine (Ideal.exp_coe _).trans ?_
  rw [Real.exp_sub, Real.exp_log hw]

theorem three (i : Fin 3) : i = 0 ∨ i = 1 ∨ i = 2 := by
  revert i; decide

theorem exp_bot : Ideal.exp ⊥ = 0 := rfl

theorem eighth : Ideal.ofBits FTy.f32 0x3E000000#32 = ((1 / 8 : ℝ) : EReal) := by
  simp [Ideal.ofBits, Ideal.ieee, -EReal.coe_mul]; norm_num

theorem eighth_bf16 : Ideal.ofBits FTy.bf16 0x3E00#16 = ((1 / 8 : ℝ) : EReal) := by
  simp [Ideal.ofBits, Ideal.ieee, -EReal.coe_mul]; norm_num

theorem minus_infinity : Ideal.ofBits FTy.f32 0xFF800000#32 = ⊥ := by
  simp [Ideal.ofBits, Ideal.ieee]

/-- The slopes' words. -/
def slopeBits (h : Fin 16) : BitVec 32 :=
  match h.val with
  | 0 => 0x3F3504F3#32
  | 1 => 0x3F000000#32
  | 2 => 0x3EB504F3#32
  | 3 => 0x3E800000#32
  | 4 => 0x3E3504F3#32
  | 5 => 0x3E000000#32
  | 6 => 0x3DB504F3#32
  | 7 => 0x3D800000#32
  | 8 => 0x3D3504F3#32
  | 9 => 0x3D000000#32
  | 10 => 0x3CB504F3#32
  | 11 => 0x3C800000#32
  | 12 => 0x3C3504F3#32
  | 13 => 0x3C000000#32
  | 14 => 0x3BB504F3#32
  | _ => 0x3B800000#32

/-- The slopes as real numbers. -/
def slopeR (h : Fin 16) : ℝ := (Ideal.ofBits FTy.f32 (slopeBits h)).toReal

theorem slopeR_coe (h : Fin 16) : Ideal.ofBits FTy.f32 (slopeBits h) = ((slopeR h : ℝ) : EReal) := by
  unfold slopeR
  refine (EReal.coe_toReal ?_ ?_).symm <;> fin_cases h <;> simp [slopeBits, Ideal.ofBits, Ideal.ieee, -EReal.coe_mul]

theorem nat_toInt (x : ℕ) (hx : x < 256) : (BitVec.ofNat 32 x).toInt = x := by
  word_omega

/-- A distance, as a word. -/
theorem diff_toInt (q : Fin 128) (j : Fin 256) :
    (IntOp.subi (IntOp.addi (BitVec.ofNat 32 q.val) 128#32) (BitVec.ofNat 32 j.val)).toInt = (q.val : Int) + 128 - j.val := by
  have hq := q.isLt
  have hj := j.isLt
  have e4 : (128#32).toInt = 128 := rfl
  unfold IntOp.subi IntOp.addi
  rw [BitVec.toInt_sub, BitVec.toInt_add, nat_toInt _ (by omega), nat_toInt _ hj, e4]
  simp only [Int.bmod_def]
  split_ifs <;> omega

/-- Sixteen times a distance, as a word. -/
theorem dist_toInt (q : Fin 128) (j : Fin 256) :
    (IntOp.muli (16#32) (IntOp.subi (IntOp.addi (BitVec.ofNat 32 q.val) 128#32) (BitVec.ofNat 32 j.val))).toInt = 16 * ((q.val : Int) + 128 - j.val) := by
  have hq := q.isLt
  have hj := j.isLt
  have e3 : (16#32).toInt = 16 := rfl
  have h : ∀ x y : BitVec 32, IntOp.muli x y = x * y := fun _ _ => rfl
  rw [h, BitVec.toInt_mul, diff_toInt, e3]
  simp only [Int.bmod_def]
  split_ifs <;> omega

theorem andi_iff (x y : BitVec 1) : IntOp.andi x y = 1#1 ↔ x = 1#1 ∧ y = 1#1 := by
  revert x y; decide

theorem ofBool_iff (p : Prop) [Decidable p] : BitVec.ofBool (decide p) = 1#1 ↔ p := by
  by_cases hp : p <;> simp [hp]

theorem sge_eq (x y : BitVec 32) : IntOp.cmpi .sge x y = BitVec.ofBool (decide (y.toInt ≤ x.toInt)) := rfl
theorem sle_eq (x y : BitVec 32) : IntOp.cmpi .sle x y = BitVec.ofBool (decide (x.toInt ≤ y.toInt)) := rfl

/-- The band's word. -/
theorem band_iff (q : Fin 128) (j : Fin 256) :
    IntOp.andi (IntOp.cmpi .sge (IntOp.subi (IntOp.addi (BitVec.ofNat 32 q.val) 128#32) (BitVec.ofNat 32 j.val)) 0#32)
      (IntOp.cmpi .sle (IntOp.subi (IntOp.addi (BitVec.ofNat 32 q.val) 128#32) (BitVec.ofNat 32 j.val)) 128#32) = 1#1
    ↔ q.val ≤ j.val ∧ j.val ≤ q.val + 128 := by
  have e0 : (0#32).toInt = 0 := rfl
  have e4 : (128#32).toInt = 128 := rfl
  rw [andi_iff, sge_eq, sle_eq, ofBool_iff, ofBool_iff, diff_toInt, e0, e4]
  omega

/-- The word that tells whether a key's position is in the sequence. -/
theorem start_iff (n : Fin 4) (w : BitVec 32) (hw : w.toInt = (n.val : Int) * 128 - 128) (j : Fin 256) :
    IntOp.cmpi .sge (IntOp.addi w (BitVec.ofNat 32 j.val)) 0#32 = 1#1 ↔ 128 ≤ n.val * 128 + j.val := by
  have hn := n.isLt
  have hj := j.isLt
  have e0 : (0#32).toInt = 0 := rfl
  have h : ∀ x y : BitVec 32, IntOp.addi x y = x + y := fun _ _ => rfl
  rw [sge_eq, ofBool_iff, h, BitVec.toInt_add, hw, nat_toInt _ hj, e0]
  simp only [Int.bmod_def]
  split_ifs <;> omega

/-! ## The row -/

variable {X : Data} {a : Fin 16} {n : Fin 4} {h : Fin 16} {q : Fin 128}

/-- The branch's exponentials against any shift `m`. -/
theorem sum_shift (m : ℝ) : ∑ j, X.E a n h q j / Real.exp m = X.D a n h q / Real.exp m := by
  rw [Data.D, Finset.sum_div]

/-- The three exponentials against any shift `t`, the third by its log-sum. -/
theorem exp_lse (m : ℝ) : Real.exp (m + Real.log (X.D a n h q / Real.exp m)) = X.D a n h q := by
  rw [Real.exp_add, Real.exp_log (div_pos (X.D_pos a n h q) (Real.exp_pos m)), mul_div_cancel₀ _ (Real.exp_pos m).ne']

/-- The log of the merged sum, from exponentials against a shift. -/
theorem lse (t : ℝ) : t + Real.log (X.Z a n h q / Real.exp t) = Real.log (X.Z a n h q) := by
  rw [Real.log_div (X.Z_pos a n h q).ne' (Real.exp_pos t).ne', Real.log_exp]; ring

theorem Data.G_of_not (X : Data) (a : Fin 16) (n : Fin 4) (h : Fin 16) (q : Fin 128) (j : Fin 256) (ho : ¬ ok n q j) : X.G a n h q j = 0 := by
  unfold Data.G Data.A Data.E
  rw [if_neg ho, zero_div, zero_mul]

theorem quot_shift (d z c m : ℝ) (hd : d ≠ 0) :
    Ideal.div ((d / z * c : ℝ) : EReal) ((d / Real.exp m : ℝ) : EReal) = ((Real.exp m / z * c : ℝ) : EReal) := by
  have he := (Real.exp_pos m).ne'
  rw [div_coe _ _ (div_ne_zero hd he)]
  congr 1
  field_simp

theorem weight_shift (e z c m : ℝ) : Real.exp m / z * c * (e / Real.exp m) = e / z * c := by
  have he := (Real.exp_pos m).ne'
  field_simp

/-- The gradient of a score as the reference forms it, from exponentials against the shift `m`. -/
theorem grad_shift (X : Data) (a : Fin 16) (n : Fin 4) (h : Fin 16) (q : Fin 128) (j : Fin 256) (m : ℝ) :
    ((∑ d, ((Real.exp m / X.Z a n h q * X.C a (pos n q) (col h d) : ℝ) : EReal) * ((win X.U a n h j d : ℝ) : EReal)
        + (Ideal.div ((X.D a n h q / X.Z a n h q * (X.CO a n h q 2 - X.T a n h q) : ℝ) : EReal) ((X.D a n h q / Real.exp m : ℝ) : EReal)
          + ∑ _x : Fin 1, -∑ d, ((X.D a n h q / X.Z a n h q * X.C a (pos n q) (col h d) : ℝ) : EReal)
              * Ideal.div 1 (((X.D a n h q / Real.exp m : ℝ) : EReal) * ((X.D a n h q / Real.exp m : ℝ) : EReal)) * ((X.OU a n h q d / Real.exp m : ℝ) : EReal)))
      * ((X.E a n h q j / Real.exp m : ℝ) : EReal)) * (((1 / 8 : ℝ)) : EReal) = ((X.G a n h q j * (1 / 8) : ℝ) : EReal) := by
  have hz := (X.Z_pos a n h q).ne'
  have hd := (X.D_pos a n h q).ne'
  have he := (Real.exp_pos m).ne'
  have hde : X.D a n h q / Real.exp m ≠ 0 := div_ne_zero hd he
  rw [quot_shift _ _ _ _ hd, ← EReal.coe_mul (X.D a n h q / Real.exp m), show (1 : EReal) = ((1 : ℝ) : EReal) from rfl, div_coe _ _ (mul_ne_zero hde hde)]
  simp only [← EReal.coe_mul, coe_sum, ← EReal.coe_neg, ← EReal.coe_add, Fin.sum_univ_one]
  congr 1
  have e1 : ∑ d, Real.exp m / X.Z a n h q * X.C a (pos n q) (col h d) * win X.U a n h j d
      = Real.exp m / X.Z a n h q * ∑ d, X.C a (pos n q) (col h d) * win X.U a n h j d := by
    rw [Finset.mul_sum]; exact Finset.sum_congr rfl fun d _ => by ring
  have e2 : ∑ d, X.D a n h q / X.Z a n h q * X.C a (pos n q) (col h d) * (1 / (X.D a n h q / Real.exp m * (X.D a n h q / Real.exp m))) * (X.OU a n h q d / Real.exp m)
      = Real.exp m / X.Z a n h q * X.CO a n h q 2 := by
    rw [X.CO_two, Finset.sum_div, Finset.mul_sum]
    exact Finset.sum_congr rfl fun d _ => by field_simp
  rw [e1, e2]
  unfold Data.G Data.A
  field_simp
  ring

/-! ## The results by position and column -/

/-- The block of a position. -/
def blk (l : Fin 512) : Fin 4 := ⟨l.val / 128, by omega⟩
/-- The place of a position in its block. -/
def row (l : Fin 512) : Fin 128 := ⟨l.val % 128, by omega⟩
/-- The head of a column. -/
def hd (c : Fin 1024) : Fin 16 := ⟨c.val / 64, by omega⟩
/-- The element of a column within its head. -/
def el (c : Fin 1024) : Fin 64 := ⟨c.val % 64, by omega⟩

/-- The gradient of the queries. -/
def Data.dq (X : Data) (a : Fin 16) (l : Fin 512) (c : Fin 1024) : ℝ := X.DQ a (blk l) (hd c) (row l) (el c)

/-- What a position gets from the windows of its own block and, but for the last, of the next. -/
def shift (W : Fin 16 → Fin 4 → Fin 16 → Fin 256 → Fin 64 → ℝ) (a : Fin 16) (l : Fin 512) (c : Fin 1024) : ℝ :=
  W a (blk l) (hd c) ⟨128 + (row l).val, by omega⟩ (el c)
    + if hn : (blk l).val < 3 then W a ⟨(blk l).val + 1, by omega⟩ (hd c) ⟨(row l).val, by omega⟩ (el c) else 0

end Cert.Attn

end
end
-- ==== Proof.Attn.Pre.lean ====
/- What the precondition says: every argument is a real number. -/
module

public import proofs.«01_k».proof.Pre_finite
public import proofs.«01_k».proof.Proof.Attn.Spec
public import Idealize.ShloMosaic.Lib.ReduceAll
public import Idealize.ShloMosaic.Lib.Pointwise

@[expose] public section

set_option maxRecDepth 16384

noncomputable section

namespace Cert.Pre_finite

open Idealize.ShloMosaic Cert.Attn

instance facts : Facts where
  bitsLt_bf16_f32 := by decide
  bcast_S_S16x512x1024 := by decide
  reducesTo_S16x512x1024_S_d0_1_2 := by decide
  h_S_ := by decide
  bcast_S_S16x512x16x64 := by decide
  reducesTo_S16x512x16x64_S_d0_1_2_3 := by decide
  bcast_S_S16x512x16 := by decide
  reducesTo_S16x512x16_S_d0_1_2 := by decide

instance : Subsingleton S_.Idx := ⟨fun a b => funext fun i => Fin.elim0 i⟩

theorem infinity : Ideal.ofBits FTy.f32 0x7F800000#32 = ⊤ := by
  simp [Ideal.ofBits, Ideal.ieee]

theorem real_of_lt (x : EReal) (h : max x (-x) < ⊤) : IsR x x.toReal := by
  refine (EReal.coe_toReal ?_ ?_).symm
  · rintro rfl
    exact absurd (lt_of_le_of_lt (le_max_left _ _) h) (lt_irrefl _)
  · rintro rfl
    exact absurd (lt_of_le_of_lt (le_max_right _ _) h) (by simp)

theorem real_of_cmp {s : Shape} (x : FVec Ideal s .f32) (y : FVec Ideal s .f32) (hy : ∀ i, y i = Ideal.ofBits FTy.f32 0x7F800000#32) (i : s.Idx)
    (h : cmpf .olt (Host.absf x) y i = 1#1) : IsR (x i) (x i).toReal := by
  have e : cmpf .olt (Host.absf x) y i = BitVec.ofBool (decide (max (x i : EReal) (-(x i : EReal)) < (y i : EReal))) := by
    first
    | rfl
    | (pointwise; rfl)
  rw [e, ofBool_iff, hy, infinity] at h
  exact real_of_lt _ h

/-- The precondition's word is one exactly where every element of every argument is finite. -/
theorem real_of_fn (x0 x1 x2 : FVec Ideal S16x512x1024 .bf16) (x3 : FVec Ideal S16x512x16x64 .f32) (x4 : FVec Ideal S16x512x16 .f32) (x5 : FVec Ideal S16x512x16x64 .f32)
    (x6 : FVec Ideal S16x512x16 .f32) (x7 : FVec Ideal S16x512x1024 .bf16) (h : fn (F := Ideal) x0 x1 x2 x3 x4 x5 x6 x7 = fun _ => 1#1) :
    (∀ i, IsR (x0 i) (EReal.toReal (x0 i))) ∧ (∀ i, IsR (x1 i) (EReal.toReal (x1 i))) ∧ (∀ i, IsR (x2 i) (EReal.toReal (x2 i))) ∧ (∀ i, IsR (x3 i) (EReal.toReal (x3 i)))
      ∧ (∀ i, IsR (x4 i) (EReal.toReal (x4 i))) ∧ (∀ i, IsR (x5 i) (EReal.toReal (x5 i))) ∧ (∀ i, IsR (x6 i) (EReal.toReal (x6 i))) ∧ (∀ i, IsR (x7 i) (EReal.toReal (x7 i))) := by
  have hz := congrFun h (fun i => Fin.elim0 i)
  unfold fn fn_part1 fn_part2 at hz
  simp only [andi, andi_iff] at hz
  obtain ⟨⟨⟨⟨⟨⟨⟨h0, h1⟩, h2⟩, h3⟩, h4⟩, h5⟩, h6⟩, h7⟩ := hz
  exact ⟨fun i => real_of_cmp (s := S16x512x1024) _ _ (fun _ => rfl) i (Host.reduce_andi_all _ _ _ _ _ h0 i),
    fun i => real_of_cmp (s := S16x512x1024) _ _ (fun _ => rfl) i (Host.reduce_andi_all _ _ _ _ _ h1 i),
    fun i => real_of_cmp (s := S16x512x1024) _ _ (fun _ => rfl) i (Host.reduce_andi_all _ _ _ _ _ h2 i),
    fun i => real_of_cmp _ _ (fun _ => rfl) i (Host.reduce_andi_all _ _ _ _ _ h3 i),
    fun i => real_of_cmp _ _ (fun _ => rfl) i (Host.reduce_andi_all _ _ _ _ _ h4 i),
    fun i => real_of_cmp _ _ (fun _ => rfl) i (Host.reduce_andi_all _ _ _ _ _ h5 i),
    fun i => real_of_cmp _ _ (fun _ => rfl) i (Host.reduce_andi_all _ _ _ _ _ h6 i),
    fun i => real_of_cmp (s := S16x512x1024) _ _ (fun _ => rfl) i (Host.reduce_andi_all _ _ _ _ _ h7 i)⟩

end Cert.Pre_finite

end
end
-- ==== Proof.Bwd.Common.lean ====
module

public import proofs.«01_k».proof.Proof.Gen.KernelIdeal.Frame
public import proofs.«01_k».proof.Proof.Gen.KernelIdeal.Skeleton

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 80 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 80 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_1 : ∀ t : Fin cfg0.N, cond0_1 (grid0.coords t) ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_1, e0, e1]
    word_cmp
   : ∀ t : Fin grid0.N, cond0_1 (grid0.coords t) ↔ t.val % 5 = 0)

/-- The condition of the body's `scf.if` 2 (`k0_h3`), from the grid coordinates (the skeleton's scalar
    chain substituted). -/
abbrev cond0_2 (i : grid0.Coords) : Prop := k0_cond3 i = 1#1
/-- It holds at the points ≡ 4 (mod 5) — by arithmetic of the point. -/
theorem hcond0_2 : ∀ t : Fin cfg0.N, cond0_2 (grid0.coords t) ↔ t.val % 5 = 4 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_2, k0_cond3, e0, e1]
    word_cmp
   : ∀ t : Fin grid0.N, cond0_2 (grid0.coords t) ↔ t.val % 5 = 4)

/-- The condition of the body's `scf.if` 3 (`k0_h4`), from the grid coordinates (the skeleton's scalar
    chain substituted). -/
abbrev cond0_3 (i : grid0.Coords) : Prop := k0_cond4 i = 1#1
/-- It holds at the points whose coordinates have i1 ≤ 3 — decided over the grid. -/
theorem hcond0_3 : ∀ t : Fin cfg0.N, cond0_3 (grid0.coords t) ↔ t.val % 5 ≤ 3 :=
  (by decide +kernel : ∀ t : Fin grid0.N, cond0_3 (grid0.coords t) ↔ t.val % 5 ≤ 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x1024 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x1024 .f32 := Memref.whole cc0_scratch0
abbrev scM0_1 : Memref sig .tc .vmem S128x1024 .f32 := Memref.whole cc0_scratch1
abbrev scM0_2 : Memref sig .tc .vmem S2x8x256x256 .f32 := Memref.whole cc0_scratch2
/-- The scratch `arg15` the kernel carries between points, as a view: what it holds is stated through it. -/
abbrev VS0_2 : View sig .tc .vmem S2x8x256x256 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

theorem liveAt0_8 (t : Fin cfg0.N) (h : cond0_3 (grid0.coords t)) : cfg0.idle 8 (grid0.coords t) = false := by
  show (!(k0_cond4 (grid0.coords t) == 1#1)) = false
  rw [show k0_cond4 (grid0.coords t) = 1#1 from h]; rfl
theorem idleAt0_8 (t : Fin cfg0.N) (h : ¬cond0_3 (grid0.coords t)) : cfg0.idle 8 (grid0.coords t) = true := by
  show (!(k0_cond4 (grid0.coords t) == 1#1)) = true
  rw [Bool.not_eq_true', beq_eq_false_iff_ne]; exact h
theorem liveAt0_9 (t : Fin cfg0.N) (h : cond0_2 (grid0.coords t) ∨ cond0_3 (grid0.coords t)) : cfg0.idle 9 (grid0.coords t) = false := by
  show (!(k0_cond3 (grid0.coords t) == 1#1) && !(k0_cond4 (grid0.coords t) == 1#1)) = false
  rcases h with h | h
  · rw [show k0_cond3 (grid0.coords t) = 1#1 from h]; rfl
  · rw [show k0_cond4 (grid0.coords t) = 1#1 from h]; simp
theorem liveAt0_10 (t : Fin cfg0.N) (h : cond0_2 (grid0.coords t) ∨ cond0_3 (grid0.coords t)) : cfg0.idle 10 (grid0.coords t) = false := by
  show (!(k0_cond3 (grid0.coords t) == 1#1) && !(k0_cond4 (grid0.coords t) == 1#1)) = false
  rcases h with h | h
  · rw [show k0_cond3 (grid0.coords t) = 1#1 from h]; rfl
  · rw [show k0_cond4 (grid0.coords t) = 1#1 from h]; simp

end Cert.KernelIdeal.Bwd

end
-- ==== Proof.Bwd.RunA.lean ====
module

public import proofs.«01_k».proof.Proof.Bwd.Common

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The stores that the body makes at a point of case A, buffer by buffer, last first. -/
structure StoresA (F : FTy → Type) where
  L8 : List (View.Piece (Elt F) S1x128x1024 .bf16)
  L9 : List (View.Piece (Elt F) S1x128x1024 .bf16)
  L10 : List (View.Piece (Elt F) S1x128x1024 .bf16)
  LS0 : List (View.Piece (Elt F) S128x1024 .f32)
  LS1 : List (View.Piece (Elt F) S128x1024 .f32)
  LS2 : List (View.Piece (Elt F) S2x8x256x256 .f32)

set_option maxHeartbeats 1900000 in
/-- The body at a point of case A: the stores it makes and the proof that, on whole staging buffers that hold
    the blocks, it runs to the continuation with those stores made. -/
noncomputable def runA (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : cond0_0 i) (hc1 : cond0_1 i) (hc2 : ¬cond0_2 i) (hc3 : cond0_3 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32)  :
    { P : StoresA F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f P.L8) ∗ (∃ f, arg11.view.loc (c : Thread nD τ) ↦[arg11.view.set]{fullShare} arg11.view.writes (Elt F) f P.L9) ∗ (∃ f, arg12.view.loc (c : Thread nD τ) ↦[arg12.view.set]{fullShare} arg12.view.writes (Elt F) f P.L10) ∗ (∃ f, arg13.view.loc (c : Thread nD τ) ↦[arg13.view.set]{fullShare} arg13.view.writes (Elt F) f P.LS0) ∗ (∃ f, arg14.view.loc (c : Thread nD τ) ↦[arg14.view.set]{fullShare} arg14.view.writes (Elt F) f P.LS1) ∗ (∃ f, arg15.view.loc (c : Thread nD τ) ↦[arg15.view.set]{fullShare} arg15.view.writes (Elt F) f P.LS2)) -∗ K ⟨⟩))
          ⊢ wp frame (wpE (defs₀ (F := F)) Variants.none c none) E (cc0_attn_b16_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_, ?_, ?_⟩, fun E K => ?run⟩
  case run =>
    simp only [cc0_attn_b16_bwd_eq_skeleton]; unfold cc0_attn_b16_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e10, %g10, -, H8⟩, ⟨%e11, %g11, -, H9⟩, ⟨%e12, %g12, -, H10⟩, ⟨%e13, %g13, -, HS0⟩, ⟨%e14, %g14, -, HS1⟩, ⟨%e15, %g15, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    isplitl [HS0]
    · iexists _; iexact HS0
    isplitl [HS1]
    · iexists _; iexact HS1
    iexists _; iexact HS2

end Cert.KernelIdeal.Bwd

end
-- ==== Proof.Bwd.Model.lean ====
module

public import proofs.«01_k».proof.Proof.Bwd.Common
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic

variable {F : FTy → Type} [FloatOps F] [Named F]

/-- The columns of the `k`-th pair of heads in a block of 128 rows. -/
def sl {e : EltTy} (k : Fin 8) (x : Vec F S1x128x1024 e) : Vec F S1x128x128 e :=
  fun j => x (ix3 (j 0) (j 1) ⟨128 * k.val + (j 2).val, by have := (j 2).isLt; simp only [Shape.size] at this; change _ < 128 at this; change _ < 1024; omega⟩)

/-- The columns of the `k`-th pair of heads in an accumulator. -/
def sla {e : EltTy} (k : Fin 8) (x : Vec F S128x1024 e) : Vec F S128x128 e :=
  fun j => x (ix2 (j 0) ⟨128 * k.val + (j 1).val, by have := (j 1).isLt; change _ < 128 at this; change _ < 1024; omega⟩)

/-- One column of a per-head block, kept as a column. -/
def hd {e : EltTy} (h : Fin 16) (x : Vec F S1x128x128 e) : Vec F S1x128x1 e :=
  fun j => x (ix3 (j 0) (j 1) ⟨h.val, by have := h.isLt; change _ < 128; omega⟩)

/-- The bias table of the `k`-th pair, of the first block or of a later one. -/
def tab (p : Fin 2) (k : Fin 8) (x : Vec F S2x8x256x256 .f32) : Vec F S1x1x256x256 .f32 :=
  fun j => x (ix4 p k (j 2) (j 3))

theorem ld_sl {e : EltTy} (k : Fin 8) (off : Fin 3 → ℕ) (h : ∀ a, off a + S1x128x128.size a ≤ S1x128x1024.size a)
    (ho : off = ![0, 0, 128 * k.val]) (x : Vec F S1x128x1024 e) :
    View.ld x (Rect.unit off S1x128x128.size h) = sl k x := by
  subst ho
  funext j
  unfold sl View.ld
  congr 1
  funext a
  fin_cases a <;> apply Fin.ext <;> simp

theorem ld_sla {e : EltTy} (k : Fin 8) (off : Fin 2 → ℕ) (h : ∀ a, off a + S128x128.size a ≤ S128x1024.size a)
    (ho : off = ![0, 128 * k.val]) (x : Vec F S128x1024 e) :
    View.ld x (Rect.unit off S128x128.size h) = sla k x := by
  subst ho
  funext j
  unfold sla View.ld
  congr 1
  funext a
  fin_cases a <;> apply Fin.ext <;> simp

theorem ld_hd {e : EltTy} (k : Fin 16) (off : Fin 3 → ℕ) (h : ∀ a, off a + S1x128x1.size a ≤ S1x128x128.size a)
    (ho : off = ![0, 0, k.val]) (x : Vec F S1x128x128 e) :
    View.ld x (Rect.unit off S1x128x1.size h) = hd k x := by
  subst ho
  funext j
  unfold hd View.ld
  congr 1
  funext a
  fin_cases a <;> apply Fin.ext <;> simp

theorem ld_tab (p : Fin 2) (k : Fin 8) (off : Fin 4 → ℕ) (h : ∀ a, off a + S1x1x256x256.size a ≤ S2x8x256x256.size a)
    (ho : off = ![p.val, k.val, 0, 0]) (x : Vec F S2x8x256x256 .f32) :
    View.ld x (Rect.unit off S1x1x256x256.size h) = tab p k x := by
  subst ho
  funext j
  unfold tab View.ld
  congr 1
  funext a
  fin_cases a <;> apply Fin.ext <;> simp

/-- The pair of heads that a column belongs to. -/
def pr (n : Fin 1024) : Fin 8 := ⟨n.val / 128, by omega⟩
/-- The place of a column within its pair of heads. -/
def pl (n : Fin 1024) : Fin 128 := ⟨n.val % 128, by omega⟩
/-- The first head of a pair. -/
def h0 (k : Fin 8) : Fin 16 := ⟨2 * k.val, by omega⟩
/-- The second head of a pair. -/
def h1 (k : Fin 8) : Fin 16 := ⟨2 * k.val + 1, by omega⟩

section
variable (p : Fin 2) (k : Fin 8) (x0 x1 x2 x3 x4 x5 : Vec F S1x128x1024 .bf16) (x6 x7 : Vec F S1x128x128 .f32) (b : Vec F S2x8x256x256 .f32)

/-- The gradient of the queries of one pair of heads in a block. -/
def pDq : Vec F S1x128x128 .bf16 :=
  k0_pay47 k0_pay37 (k0_pay38 (sl k x0)) (k0_pay39 (sl k x5)) (k0_pay40 (sl k x1) (sl k x2)) (k0_pay41 (sl k x3) (sl k x4))
    (k0_pay42 (hd (h0 k) x6)) (hd (h1 k) x6) (hd (h0 k) x7) (hd (h1 k) x7) (tab p k b)

/-- What a block's queries add to the gradient of the keys of its two windows, for one pair of heads. -/
def pDkM : FVec F S256x128 .f32 :=
  k0_pay45 (k0_pay38 (sl k x0)) (k0_pay39 (sl k x5)) (k0_pay40 (sl k x1) (sl k x2)) (k0_pay41 (sl k x3) (sl k x4))
    (k0_pay42 (hd (h0 k) x6)) (hd (h1 k) x6) (hd (h0 k) x7) (hd (h1 k) x7) (tab p k b)

/-- What a block's queries add to the gradient of the values of its two windows, for one pair of heads. -/
def pDvM : FVec F S256x128 .f32 :=
  k0_pay46 (k0_pay38 (sl k x0)) (k0_pay39 (sl k x5)) (k0_pay40 (sl k x1) (sl k x2))
    (k0_pay42 (hd (h0 k) x6)) (hd (h1 k) x6) (tab p k b)

/-- The finished gradient of the keys of one pair of heads: what was kept and what this block adds. -/
def pDk (a : Vec F S128x128 .f32) : Vec F S1x128x128 .bf16 :=
  k0_pay49 (k0_pay48 (k0_pay38 (sl k x0)) (k0_pay39 (sl k x5)) (k0_pay40 (sl k x1) (sl k x2)) (k0_pay41 (sl k x3) (sl k x4))
    (k0_pay42 (hd (h0 k) x6)) (hd (h1 k) x6) (hd (h0 k) x7) (hd (h1 k) x7) (tab p k b) a)

/-- The finished gradient of the values of one pair of heads. -/
def pDv (a : Vec F S128x128 .f32) : Vec F S1x128x128 .bf16 := k0_pay51 (pDvM p k x0 x1 x2 x5 x6 b) a

/-- The block's gradient of the queries. -/
def dqOut : Vec F S1x128x1024 .bf16 := fun y => pDq p (pr (y 2)) x0 x1 x2 x3 x4 x5 x6 x7 b (ix3 (y 0) (y 1) (pl (y 2)))
/-- The finished gradient of the keys. -/
def dkOut (a : Vec F S128x1024 .f32) : Vec F S1x128x1024 .bf16 :=
  fun y => pDk p (pr (y 2)) x0 x1 x2 x3 x4 x5 x6 x7 b (sla (pr (y 2)) a) (ix3 (y 0) (y 1) (pl (y 2)))
/-- The finished gradient of the values. -/
def dvOut (a : Vec F S128x1024 .f32) : Vec F S1x128x1024 .bf16 :=
  fun y => pDv p (pr (y 2)) x0 x1 x2 x5 x6 b (sla (pr (y 2)) a) (ix3 (y 0) (y 1) (pl (y 2)))
/-- What is kept of the gradient of the keys for the next block. -/
def dkHi : Vec F S128x1024 .f32 :=
  fun y => k0_pay50 (pDkM p (pr (y 1)) x0 x1 x2 x3 x4 x5 x6 x7 b) (ix2 (y 0) (pl (y 1)))
/-- What is kept of the gradient of the values for the next block. -/
def dvHi : Vec F S128x1024 .f32 :=
  fun y => k0_pay52 (pDvM p (pr (y 1)) x0 x1 x2 x5 x6 b) (ix2 (y 0) (pl (y 1)))
end

theorem emb_pr (k : Fin 8) (off : Fin 3 → ℕ) (h : ∀ a, off a + S1x128x128.size a ≤ S1x128x1024.size a)
    (ho : off = ![0, 0, 128 * k.val]) (x : S1x128x128.Idx) :
    pr ((Rect.unit (s := S1x128x1024) off S1x128x128.size h).emb x 2) = k ∧
      (ix3 ((Rect.unit (s := S1x128x1024) off S1x128x128.size h).emb x 0) ((Rect.unit (s := S1x128x1024) off S1x128x128.size h).emb x 1)
        (pl ((Rect.unit (s := S1x128x1024) off S1x128x128.size h).emb x 2)) : S1x128x128.Idx) = x := by
  subst ho
  have hx : (x 2).val < 128 := (x 2).isLt
  refine ⟨Fin.ext ?_, ?_⟩
  · change (128 * k.val + 1 * (x 2).val) / 128 = k.val
    omega
  · funext a
    fin_cases a <;> apply Fin.ext
    · change 0 + 1 * (x 0).val = (x 0).val; omega
    · change 0 + 1 * (x 1).val = (x 1).val; omega
    · change (128 * k.val + 1 * (x 2).val) % 128 = (x 2).val
      omega

theorem emb_pra (k : Fin 8) (off : Fin 2 → ℕ) (h : ∀ a, off a + S128x128.size a ≤ S128x1024.size a)
    (ho : off = ![0, 128 * k.val]) (x : S128x128.Idx) :
    pr ((Rect.unit (s := S128x1024) off S128x128.size h).emb x 1) = k ∧
      (ix2 ((Rect.unit (s := S128x1024) off S128x128.size h).emb x 0) (pl ((Rect.unit (s := S128x1024) off S128x128.size h).emb x 1)) : S128x128.Idx) = x := by
  subst ho
  have hx : (x 1).val < 128 := (x 1).isLt
  refine ⟨Fin.ext ?_, ?_⟩
  · change (128 * k.val + 1 * (x 1).val) / 128 = k.val
    omega
  · funext a
    fin_cases a <;> apply Fin.ext
    · change 0 + 1 * (x 0).val = (x 0).val; omega
    · change (128 * k.val + 1 * (x 1).val) % 128 = (x 1).val
      omega

/-- A function given pair by pair, read where the `k`-th pair's store puts it. -/
theorem by_pair {A : Type} (f : Fin 8 → S1x128x128.Idx → A) (k : Fin 8) (off : Fin 3 → ℕ)
    (h : ∀ a, off a + S1x128x128.size a ≤ S1x128x1024.size a) (ho : off = ![0, 0, 128 * k.val]) (x : S1x128x128.Idx) :
    (fun y : S1x128x1024.Idx => f (pr (y 2)) (ix3 (y 0) (y 1) (pl (y 2)))) ((Rect.unit (s := S1x128x1024) off S1x128x128.size h).emb x) = f k x := by
  obtain ⟨e1, e2⟩ := emb_pr k off h ho x
  dsimp only
  rw [e1, e2]

theorem by_paira {A : Type} (f : Fin 8 → S128x128.Idx → A) (k : Fin 8) (off : Fin 2 → ℕ)
    (h : ∀ a, off a + S128x128.size a ≤ S128x1024.size a) (ho : off = ![0, 128 * k.val]) (x : S128x128.Idx) :
    (fun y : S128x1024.Idx => f (pr (y 1)) (ix2 (y 0) (pl (y 1)))) ((Rect.unit (s := S128x1024) off S128x128.size h).emb x) = f k x := by
  obtain ⟨e1, e2⟩ := emb_pra k off h ho x
  dsimp only
  rw [e1, e2]

theorem ld_sl0 {e : EltTy} (h) (x : Vec F S1x128x1024 e) : View.ld x (Rect.unit ![0, 0, 0] ![1, 128, 128] h) = sl 0 x := ld_sl 0 _ _ rfl x
theorem ld_sla0 {e : EltTy} (h) (x : Vec F S128x1024 e) : View.ld x (Rect.unit ![0, 0] ![128, 128] h) = sla 0 x := ld_sla 0 _ _ rfl x
theorem ld_hd0 {e : EltTy} (h) (x : Vec F S1x128x128 e) : View.ld x (Rect.unit ![0, 0, 0] ![1, 128, 1] h) = hd (h0 0) x := ld_hd (h0 0) _ _ rfl x
theorem ld_hd1 {e : EltTy} (h) (x : Vec F S1x128x128 e) : View.ld x (Rect.unit ![0, 0, 1] ![1, 128, 1] h) = hd (h1 0) x := ld_hd (h1 0) _ _ rfl x
theorem ld_tab0 (i : grid0.Coords) (p : Fin 2) (hp : (if (i 1).val = 0 then 1 else 0) = p.val) (h) (x : Vec F S2x8x256x256 .f32) :
    View.ld x (Rect.unit (k0_off1 i) ![1, 1, 256, 256] h) = tab p 0 x := ld_tab p 0 _ _ (by rw [k0_off1_eq, hp]; rfl) x

theorem ld_sl1 {e : EltTy} (h) (x : Vec F S1x128x1024 e) : View.ld x (Rect.unit ![0, 0, 128] ![1, 128, 128] h) = sl 1 x := ld_sl 1 _ _ rfl x
theorem ld_sla1 {e : EltTy} (h) (x : Vec F S128x1024 e) : View.ld x (Rect.unit ![0, 128] ![128, 128] h) = sla 1 x := ld_sla 1 _ _ rfl x
theorem ld_hd2 {e : EltTy} (h) (x : Vec F S1x128x128 e) : View.ld x (Rect.unit ![0, 0, 2] ![1, 128, 1] h) = hd (h0 1) x := ld_hd (h0 1) _ _ rfl x
theorem ld_hd3 {e : EltTy} (h) (x : Vec F S1x128x128 e) : View.ld x (Rect.unit ![0, 0, 3] ![1, 128, 1] h) = hd (h1 1) x := ld_hd (h1 1) _ _ rfl x
theorem ld_tab1 (i : grid0.Coords) (p : Fin 2) (hp : (if (i 1).val = 0 then 1 else 0) = p.val) (h) (x : Vec F S2x8x256x256 .f32) :
    View.ld x (Rect.unit (k0_off2 i) ![1, 1, 256, 256] h) = tab p 1 x := ld_tab p 1 _ _ (by rw [k0_off2_eq, hp]; rfl) x

theorem ld_sl2 {e : EltTy} (h) (x : Vec F S1x128x1024 e) : View.ld x (Rect.unit ![0, 0, 256] ![1, 128, 128] h) = sl 2 x := ld_sl 2 _ _ rfl x
theorem ld_sla2 {e : EltTy} (h) (x : Vec F S128x1024 e) : View.ld x (Rect.unit ![0, 256] ![128, 128] h) = sla 2 x := ld_sla 2 _ _ rfl x
theorem ld_hd4 {e : EltTy} (h) (x : Vec F S1x128x128 e) : View.ld x (Rect.unit ![0, 0, 4] ![1, 128, 1] h) = hd (h0 2) x := ld_hd (h0 2) _ _ rfl x
theorem ld_hd5 {e : EltTy} (h) (x : Vec F S1x128x128 e) : View.ld x (Rect.unit ![0, 0, 5] ![1, 128, 1] h) = hd (h1 2) x := ld_hd (h1 2) _ _ rfl x
theorem ld_tab2 (i : grid0.Coords) (p : Fin 2) (hp : (if (i 1).val = 0 then 1 else 0) = p.val) (h) (x : Vec F S2x8x256x256 .f32) :
    View.ld x (Rect.unit (k0_off3 i) ![1, 1, 256, 256] h) = tab p 2 x := ld_tab p 2 _ _ (by rw [k0_off3_eq, hp]; rfl) x

theorem ld_sl3 {e : EltTy} (h) (x : Vec F S1x128x1024 e) : View.ld x (Rect.unit ![0, 0, 384] ![1, 128, 128] h) = sl 3 x := ld_sl 3 _ _ rfl x
theorem ld_sla3 {e : EltTy} (h) (x : Vec F S128x1024 e) : View.ld x (Rect.unit ![0, 384] ![128, 128] h) = sla 3 x := ld_sla 3 _ _ rfl x
theorem ld_hd6 {e : EltTy} (h) (x : Vec F S1x128x128 e) : View.ld x (Rect.unit ![0, 0, 6] ![1, 128, 1] h) = hd (h0 3) x := ld_hd (h0 3) _ _ rfl x
theorem ld_hd7 {e : EltTy} (h) (x : Vec F S1x128x128 e) : View.ld x (Rect.unit ![0, 0, 7] ![1, 128, 1] h) = hd (h1 3) x := ld_hd (h1 3) _ _ rfl x
theorem ld_tab3 (i : grid0.Coords) (p : Fin 2) (hp : (if (i 1).val = 0 then 1 else 0) = p.val) (h) (x : Vec F S2x8x256x256 .f32) :
    View.ld x (Rect.unit (k0_off4 i) ![1, 1, 256, 256] h) = tab p 3 x := ld_tab p 3 _ _ (by rw [k0_off4_eq, hp]; rfl) x

theorem ld_sl4 {e : EltTy} (h) (x : Vec F S1x128x1024 e) : View.ld x (Rect.unit ![0, 0, 512] ![1, 128, 128] h) = sl 4 x := ld_sl 4 _ _ rfl x
theorem ld_sla4 {e : EltTy} (h) (x : Vec F S128x1024 e) : View.ld x (Rect.unit ![0, 512] ![128, 128] h) = sla 4 x := ld_sla 4 _ _ rfl x
theorem ld_hd8 {e : EltTy} (h) (x : Vec F S1x128x128 e) : View.ld x (Rect.unit ![0, 0, 8] ![1, 128, 1] h) = hd (h0 4) x := ld_hd (h0 4) _ _ rfl x
theorem ld_hd9 {e : EltTy} (h) (x : Vec F S1x128x128 e) : View.ld x (Rect.unit ![0, 0, 9] ![1, 128, 1] h) = hd (h1 4) x := ld_hd (h1 4) _ _ rfl x
theorem ld_tab4 (i : grid0.Coords) (p : Fin 2) (hp : (if (i 1).val = 0 then 1 else 0) = p.val) (h) (x : Vec F S2x8x256x256 .f32) :
    View.ld x (Rect.unit (k0_off5 i) ![1, 1, 256, 256] h) = tab p 4 x := ld_tab p 4 _ _ (by rw [k0_off5_eq, hp]; rfl) x

theorem ld_sl5 {e : EltTy} (h) (x : Vec F S1x128x1024 e) : View.ld x (Rect.unit ![0, 0, 640] ![1, 128, 128] h) = sl 5 x := ld_sl 5 _ _ rfl x
theorem ld_sla5 {e : EltTy} (h) (x : Vec F S128x1024 e) : View.ld x (Rect.unit ![0, 640] ![128, 128] h) = sla 5 x := ld_sla 5 _ _ rfl x
theorem ld_hd10 {e : EltTy} (h) (x : Vec F S1x128x128 e) : View.ld x (Rect.unit ![0, 0, 10] ![1, 128, 1] h) = hd (h0 5) x := ld_hd (h0 5) _ _ rfl x
theorem ld_hd11 {e : EltTy} (h) (x : Vec F S1x128x128 e) : View.ld x (Rect.unit ![0, 0, 11] ![1, 128, 1] h) = hd (h1 5) x := ld_hd (h1 5) _ _ rfl x
theorem ld_tab5 (i : grid0.Coords) (p : Fin 2) (hp : (if (i 1).val = 0 then 1 else 0) = p.val) (h) (x : Vec F S2x8x256x256 .f32) :
    View.ld x (Rect.unit (k0_off6 i) ![1, 1, 256, 256] h) = tab p 5 x := ld_tab p 5 _ _ (by rw [k0_off6_eq, hp]; rfl) x

theorem ld_sl6 {e : EltTy} (h) (x : Vec F S1x128x1024 e) : View.ld x (Rect.unit ![0, 0, 768] ![1, 128, 128] h) = sl 6 x := ld_sl 6 _ _ rfl x
theorem ld_sla6 {e : EltTy} (h) (x : Vec F S128x1024 e) : View.ld x (Rect.unit ![0, 768] ![128, 128] h) = sla 6 x := ld_sla 6 _ _ rfl x
theorem ld_hd12 {e : EltTy} (h) (x : Vec F S1x128x128 e) : View.ld x (Rect.unit ![0, 0, 12] ![1, 128, 1] h) = hd (h0 6) x := ld_hd (h0 6) _ _ rfl x
theorem ld_hd13 {e : EltTy} (h) (x : Vec F S1x128x128 e) : View.ld x (Rect.unit ![0, 0, 13] ![1, 128, 1] h) = hd (h1 6) x := ld_hd (h1 6) _ _ rfl x
theorem ld_tab6 (i : grid0.Coords) (p : Fin 2) (hp : (if (i 1).val = 0 then 1 else 0) = p.val) (h) (x : Vec F S2x8x256x256 .f32) :
    View.ld x (Rect.unit (k0_off7 i) ![1, 1, 256, 256] h) = tab p 6 x := ld_tab p 6 _ _ (by rw [k0_off7_eq, hp]; rfl) x

theorem ld_sl7 {e : EltTy} (h) (x : Vec F S1x128x1024 e) : View.ld x (Rect.unit ![0, 0, 896] ![1, 128, 128] h) = sl 7 x := ld_sl 7 _ _ rfl x
theorem ld_sla7 {e : EltTy} (h) (x : Vec F S128x1024 e) : View.ld x (Rect.unit ![0, 896] ![128, 128] h) = sla 7 x := ld_sla 7 _ _ rfl x
theorem ld_hd14 {e : EltTy} (h) (x : Vec F S1x128x128 e) : View.ld x (Rect.unit ![0, 0, 14] ![1, 128, 1] h) = hd (h0 7) x := ld_hd (h0 7) _ _ rfl x
theorem ld_hd15 {e : EltTy} (h) (x : Vec F S1x128x128 e) : View.ld x (Rect.unit ![0, 0, 15] ![1, 128, 1] h) = hd (h1 7) x := ld_hd (h1 7) _ _ rfl x
theorem ld_tab7 (i : grid0.Coords) (p : Fin 2) (hp : (if (i 1).val = 0 then 1 else 0) = p.val) (h) (x : Vec F S2x8x256x256 .f32) :
    View.ld x (Rect.unit (k0_off8 i) ![1, 1, 256, 256] h) = tab p 7 x := ld_tab p 7 _ _ (by rw [k0_off8_eq, hp]; rfl) x

/-- A buffer reads as `G` after stores of which the last `n` are blocks of `G` that cover it. -/
theorem read_take {s : Shape} {e : EltTy} (n : ℕ) (G : Vec F s e) (L : List (View.Piece (Elt F) s e)) (hp : View.PiecesOf G (L.take n))
    (hc : ∀ y, ∃ pc ∈ L.take n, y ∈ pc.1.set) (v : View sig .tc .vmem s e) (f : v.ty.Contents (Elt F)) :
    v.read (Elt F) (v.writes (Elt F) f L) = G := by
  have hc' : ∀ y, ∃ pc ∈ L, y ∈ pc.1.set := fun y => by
    obtain ⟨pc, hm, hy⟩ := hc y
    exact ⟨pc, List.mem_of_mem_take hm, hy⟩
  rw [View.read_writes_eq_canon v f L hc']
  funext y
  have := View.canon_append_of_piecesOf G (L.drop n) (L.take n) hp y (hc y)
  rwa [List.take_append_drop] at this

end Cert.KernelIdeal.Bwd

end
end
-- ==== Proof.Bwd.Bias.lean ====
module

public import proofs.«01_k».proof.Proof.Bwd.RunA
public import proofs.«01_k».proof.Proof.Bwd.Model

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.ShloMosaic.Pointwise

variable {F : FTy → Type} [FloatOps F] [Named F]

/-- The slope of a head, as the kernel writes it. -/
def slope (h : Fin 16) : F .f32 :=
  Scalar.ofBits .f32 (match h.val with
    | 0 => 0x3F3504F3#32
    | 1 => 0x3F000000#32
    | 2 => 0x3EB504F3#32
    | 3 => 0x3E800000#32
    | 4 => 0x3E3504F3#32
    | 5 => 0x3E000000#32
    | 6 => 0x3DB504F3#32
    | 7 => 0x3D800000#32
    | 8 => 0x3D3504F3#32
    | 9 => 0x3D000000#32
    | 10 => 0x3CB504F3#32
    | 11 => 0x3C800000#32
    | 12 => 0x3C3504F3#32
    | 13 => 0x3C000000#32
    | 14 => 0x3BB504F3#32
    | _ => 0x3B800000#32)

/-- Which keys of a block's two windows a query sees: the band, and in the first block its second half alone. -/
def seen (p : Fin 2) : IVec S128x256 1 :=
  match p.val with
  | 0 => k0_pay13
  | _ => k0_pay25 (iota .tc S128x256 32 [1] iota_S128x256_d1_w32) k0_pay13

/-- The bias of one head: minus its slope times the distance, or the mask. -/
def biasHead (p : Fin 2) (h : Fin 16) : FVec F S128x256 .f32 :=
  select (seen p) (subf (broadcast S128x256 (Scalar.ofBits .f32 0x00000000#32)) (mulf (broadcast S128x256 (slope h)) (k0_pay12 (F := F))))
    (broadcast S128x256 (Named.named κ "mask" 0xF149F2CA#32))

/-- The bias table of one pair of heads. -/
def biasPair (p : Fin 2) (k : Fin 8) : FVec F S1x1x256x256 .f32 :=
  shapeCast S1x1x256x256 (concatenate S256x256 0 [⟨S128x256, biasHead p (h0 k)⟩, ⟨S128x256, biasHead p (h1 k)⟩] concatenates_S128x256_S128x256_S256x256_d0)
    shapeCasts_S256x256_S1x1x256x256

/-- The whole table that the first point fills. -/
def biasTab : Vec F S2x8x256x256 .f32 := fun y => biasPair (y 0) (y 1) (ix4 0 0 (y 2) (y 3))

theorem tab_biasTab (p : Fin 2) (k : Fin 8) : tab (F := F) p k biasTab = biasPair p k := by
  funext j
  show biasPair p k (ix4 0 0 (j 2) (j 3)) = biasPair p k j
  congr 1
  funext a
  have e0 : (0 : Fin 1) = j 0 := Subsingleton.elim (α := Fin 1) _ _
  have e1 : (0 : Fin 1) = j 1 := Subsingleton.elim (α := Fin 1) _ _
  fin_cases a
  · exact e0
  · exact e1
  · rfl
  · rfl

theorem by_tab (p : Fin 2) (k : Fin 8) (off : Fin 4 → ℕ) (h : ∀ a, off a + S1x1x256x256.size a ≤ S2x8x256x256.size a)
    (ho : off = ![p.val, k.val, 0, 0]) (x : S1x1x256x256.Idx) :
    biasTab (F := F) ((Rect.unit (s := S2x8x256x256) off S1x1x256x256.size h).emb x) = biasPair p k x := by
  rw [← tab_biasTab p k, ← ld_tab p k off h ho]
  rfl

theorem bias_pieces : View.PiecesOf (biasTab (F := F)) (runA.sl.HS2_16 (F := F)) := by
  sl_unfold_run_names
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, trivial⟩
  · refine (congrFun ?_ x).trans (by_tab 1 7 ![1, 7, 0, 0] inb_S2x8x256x256_S1x1x256x256_1_7_0_0 rfl x).symm
    rfl
  · refine (congrFun ?_ x).trans (by_tab 1 6 ![1, 6, 0, 0] inb_S2x8x256x256_S1x1x256x256_1_6_0_0 rfl x).symm
    rfl
  · refine (congrFun ?_ x).trans (by_tab 1 5 ![1, 5, 0, 0] inb_S2x8x256x256_S1x1x256x256_1_5_0_0 rfl x).symm
    rfl
  · refine (congrFun ?_ x).trans (by_tab 1 4 ![1, 4, 0, 0] inb_S2x8x256x256_S1x1x256x256_1_4_0_0 rfl x).symm
    rfl
  · refine (congrFun ?_ x).trans (by_tab 1 3 ![1, 3, 0, 0] inb_S2x8x256x256_S1x1x256x256_1_3_0_0 rfl x).symm
    rfl
  · refine (congrFun ?_ x).trans (by_tab 1 2 ![1, 2, 0, 0] inb_S2x8x256x256_S1x1x256x256_1_2_0_0 rfl x).symm
    rfl
  · refine (congrFun ?_ x).trans (by_tab 1 1 ![1, 1, 0, 0] inb_S2x8x256x256_S1x1x256x256_1_1_0_0 rfl x).symm
    rfl
  · refine (congrFun ?_ x).trans (by_tab 1 0 ![1, 0, 0, 0] inb_S2x8x256x256_S1x1x256x256_1_0_0_0 rfl x).symm
    rfl
  · refine (congrFun ?_ x).trans (by_tab 0 7 ![0, 7, 0, 0] inb_S2x8x256x256_S1x1x256x256_0_7_0_0 rfl x).symm
    rfl
  · refine (congrFun ?_ x).trans (by_tab 0 6 ![0, 6, 0, 0] inb_S2x8x256x256_S1x1x256x256_0_6_0_0 rfl x).symm
    rfl
  · refine (congrFun ?_ x).trans (by_tab 0 5 ![0, 5, 0, 0] inb_S2x8x256x256_S1x1x256x256_0_5_0_0 rfl x).symm
    rfl
  · refine (congrFun ?_ x).trans (by_tab 0 4 ![0, 4, 0, 0] inb_S2x8x256x256_S1x1x256x256_0_4_0_0 rfl x).symm
    rfl
  · refine (congrFun ?_ x).trans (by_tab 0 3 ![0, 3, 0, 0] inb_S2x8x256x256_S1x1x256x256_0_3_0_0 rfl x).symm
    rfl
  · refine (congrFun ?_ x).trans (by_tab 0 2 ![0, 2, 0, 0] inb_S2x8x256x256_S1x1x256x256_0_2_0_0 rfl x).symm
    rfl
  · refine (congrFun ?_ x).trans (by_tab 0 1 ![0, 1, 0, 0] inb_S2x8x256x256_S1x1x256x256_0_1_0_0 rfl x).symm
    rfl
  · refine (congrFun ?_ x).trans (by_tab 0 0 ![0, 0, 0, 0] inb_S2x8x256x256_S1x1x256x256_0_0_0_0 rfl x).symm
    rfl

theorem bias_cover (y : S2x8x256x256.Idx) : ∃ pc ∈ runA.sl.HS2_16 (F := F), y ∈ pc.1.set :=
  View.cover_of_tiledL (runA.sl.HS2_16 (F := F)) S1x1x256x256.size (by sl_kernel_rfl) y

/-- The buffer of the tables after the first point's stores. -/
theorem read_bias (v : View sig .tc .vmem S2x8x256x256 .f32) (f : v.ty.Contents (Elt F)) :
    v.read (Elt F) (v.writes (Elt F) f runA.sl.HS2_16) = biasTab :=
  read_take 16 _ _ bias_pieces bias_cover v f

theorem readA (v : View sig .tc .vmem S2x8x256x256 .f32) :
    v.read (Elt F) (v.writes (Elt F) v.junk runA.sl.HS2_16) = biasTab := read_bias v _

end Cert.KernelIdeal.Bwd

end
end
-- ==== Proof.Bwd.ValA.lean ====
module

public import proofs.«01_k».proof.Proof.Bwd.RunA
public import proofs.«01_k».proof.Proof.Bwd.Model
public import proofs.«01_k».proof.Proof.Bwd.Bias

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.ShloMosaic.Pointwise

variable {F : FTy → Type} [FloatOps F] [Named F]

set_option maxHeartbeats 2000000 in
/-- At a point of case A the stores leave the gradient of the queries. -/
theorem readA_L8 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : cond0_0 i) (hc1 : cond0_1 i) (hc2 : ¬cond0_2 i) (hc3 : cond0_3 i)
    (x0 x1 x2 x3 x4 x5 : Vec F S1x128x1024 .bf16) (x6 x7 : Vec F S1x128x128 .f32)
    (p : Fin 2) (hp : (if (i 1).val = 0 then 1 else 0) = p.val) (v : View sig .tc .vmem S1x128x1024 .bf16) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.L8) = dqOut p x0 x1 x2 x3 x4 x5 x6 x7 biasTab := by
  refine read_take 8 _ _ ?_ (View.cover_of_tiledL ((runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.L8.take 8) S1x128x128.size (by sl_kernel_rfl)) v f
  have hb := readA (F := F) arg15.view
  revert hb
  unfold runA
  sl_unfold_run_names
  dsimp only [List.take]
  intro hb
  refine ⟨fun x => ?_, fun x => ?_, fun x => ?_, fun x => ?_, fun x => ?_, fun x => ?_, fun x => ?_, fun x => ?_, trivial⟩
  · refine (congrFun ?_ x).trans (by_pair (fun k => pDq p k x0 x1 x2 x3 x4 x5 x6 x7 biasTab) 7 ![0, 0, 896] inb_S1x128x1024_S1x128x128_0_0_896 rfl x).symm
    simp only [View.readAt_eq_ld, Memref.IsWhole.read_unread, hb, ld_sl7, ld_hd14, ld_hd15, ld_sla7, ld_tab7 i p hp]
    rfl
  · refine (congrFun ?_ x).trans (by_pair (fun k => pDq p k x0 x1 x2 x3 x4 x5 x6 x7 biasTab) 6 ![0, 0, 768] inb_S1x128x1024_S1x128x128_0_0_768 rfl x).symm
    simp only [View.readAt_eq_ld, Memref.IsWhole.read_unread, hb, ld_sl6, ld_hd12, ld_hd13, ld_sla6, ld_tab6 i p hp]
    rfl
  · refine (congrFun ?_ x).trans (by_pair (fun k => pDq p k x0 x1 x2 x3 x4 x5 x6 x7 biasTab) 5 ![0, 0, 640] inb_S1x128x1024_S1x128x128_0_0_640 rfl x).symm
    simp only [View.readAt_eq_ld, Memref.IsWhole.read_unread, hb, ld_sl5, ld_hd10, ld_hd11, ld_sla5, ld_tab5 i p hp]
    rfl
  · refine (congrFun ?_ x).trans (by_pair (fun k => pDq p k x0 x1 x2 x3 x4 x5 x6 x7 biasTab) 4 ![0, 0, 512] inb_S1x128x1024_S1x128x128_0_0_512 rfl x).symm
    simp only [View.readAt_eq_ld, Memref.IsWhole.read_unread, hb, ld_sl4, ld_hd8, ld_hd9, ld_sla4, ld_tab4 i p hp]
    rfl
  · refine (congrFun ?_ x).trans (by_pair (fun k => pDq p k x0 x1 x2 x3 x4 x5 x6 x7 biasTab) 3 ![0, 0, 384] inb_S1x128x1024_S1x128x128_0_0_384 rfl x).symm
    simp only [View.readAt_eq_ld, Memref.IsWhole.read_unread, hb, ld_sl3, ld_hd6, ld_hd7, ld_sla3, ld_tab3 i p hp]
    rfl
  · refine (congrFun ?_ x).trans (by_pair (fun k => pDq p k x0 x1 x2 x3 x4 x5 x6 x7 biasTab) 2 ![0, 0, 256] inb_S1x128x1024_S1x128x128_0_0_256 rfl x).symm
    simp only [View.readAt_eq_ld, Memref.IsWhole.read_unread, hb, ld_sl2, ld_hd4, ld_hd5, ld_sla2, ld_tab2 i p hp]
    rfl
  · refine (congrFun ?_ x).trans (by_pair (fun k => pDq p k x0 x1 x2 x3 x4 x5 x6 x7 biasTab) 1 ![0, 0, 128] inb_S1x128x1024_S1x128x128_0_0_128 rfl x).symm
    simp only [View.readAt_eq_ld, Memref.IsWhole.read_unread, hb, ld_sl1, ld_hd2, ld_hd3, ld_sla1, ld_tab1 i p hp]
    rfl
  · refine (congrFun ?_ x).trans (by_pair (fun k => pDq p k x0 x1 x2 x3 x4 x5 x6 x7 biasTab) 0 ![0, 0, 0] inb_S1x128x1024_S1x128x128_0_0_0 rfl x).symm
    simp only [View.readAt_eq_ld, Memref.IsWhole.read_unread, hb, ld_sl0, ld_hd0, ld_hd1, ld_sla0, ld_tab0 i p hp]
    rfl

set_option maxHeartbeats 2000000 in
/-- At a point of case A the stores leave the finished gradient of the keys. -/
theorem readA_L9 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : cond0_0 i) (hc1 : cond0_1 i) (hc2 : ¬cond0_2 i) (hc3 : cond0_3 i)
    (x0 x1 x2 x3 x4 x5 : Vec F S1x128x1024 .bf16) (x6 x7 : Vec F S1x128x128 .f32)
    (p : Fin 2) (hp : (if (i 1).val = 0 then 1 else 0) = p.val) (v : View sig .tc .vmem S1x128x1024 .bf16) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.L9) = dkOut p x0 x1 x2 x3 x4 x5 x6 x7 biasTab k0_pay3 := by
  refine read_take 8 _ _ ?_ (View.cover_of_tiledL ((runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.L9.take 8) S1x128x128.size (by sl_kernel_rfl)) v f
  have hb := readA (F := F) arg15.view
  revert hb
  unfold runA
  sl_unfold_run_names
  dsimp only [List.take]
  intro hb
  refine ⟨fun x => ?_, fun x => ?_, fun x => ?_, fun x => ?_, fun x => ?_, fun x => ?_, fun x => ?_, fun x => ?_, trivial⟩
  · refine (congrFun ?_ x).trans (by_pair (fun k => pDk p k x0 x1 x2 x3 x4 x5 x6 x7 biasTab (sla k k0_pay3)) 7 ![0, 0, 896] inb_S1x128x1024_S1x128x128_0_0_896 rfl x).symm
    simp (disch := decide) only [↓ View.readCov_skip, ↓ View.readCov_fill]
    simp only [View.readAt_eq_ld, Memref.IsWhole.read_unread, hb, ld_sl7, ld_hd14, ld_hd15, ld_sla7, ld_tab7 i p hp]
    rfl
  · refine (congrFun ?_ x).trans (by_pair (fun k => pDk p k x0 x1 x2 x3 x4 x5 x6 x7 biasTab (sla k k0_pay3)) 6 ![0, 0, 768] inb_S1x128x1024_S1x128x128_0_0_768 rfl x).symm
    simp (disch := decide) only [↓ View.readCov_skip, ↓ View.readCov_fill]
    simp only [View.readAt_eq_ld, Memref.IsWhole.read_unread, hb, ld_sl6, ld_hd12, ld_hd13, ld_sla6, ld_tab6 i p hp]
    rfl
  · refine (congrFun ?_ x).trans (by_pair (fun k => pDk p k x0 x1 x2 x3 x4 x5 x6 x7 biasTab (sla k k0_pay3)) 5 ![0, 0, 640] inb_S1x128x1024_S1x128x128_0_0_640 rfl x).symm
    simp (disch := decide) only [↓ View.readCov_skip, ↓ View.readCov_fill]
    simp only [View.readAt_eq_ld, Memref.IsWhole.read_unread, hb, ld_sl5, ld_hd10, ld_hd11, ld_sla5, ld_tab5 i p hp]
    rfl
  · refine (congrFun ?_ x).trans (by_pair (fun k => pDk p k x0 x1 x2 x3 x4 x5 x6 x7 biasTab (sla k k0_pay3)) 4 ![0, 0, 512] inb_S1x128x1024_S1x128x128_0_0_512 rfl x).symm
    simp (disch := decide) only [↓ View.readCov_skip, ↓ View.readCov_fill]
    simp only [View.readAt_eq_ld, Memref.IsWhole.read_unread, hb, ld_sl4, ld_hd8, ld_hd9, ld_sla4, ld_tab4 i p hp]
    rfl
  · refine (congrFun ?_ x).trans (by_pair (fun k => pDk p k x0 x1 x2 x3 x4 x5 x6 x7 biasTab (sla k k0_pay3)) 3 ![0, 0, 384] inb_S1x128x1024_S1x128x128_0_0_384 rfl x).symm
    simp (disch := decide) only [↓ View.readCov_skip, ↓ View.readCov_fill]
    simp only [View.readAt_eq_ld, Memref.IsWhole.read_unread, hb, ld_sl3, ld_hd6, ld_hd7, ld_sla3, ld_tab3 i p hp]
    rfl
  · refine (congrFun ?_ x).trans (by_pair (fun k => pDk p k x0 x1 x2 x3 x4 x5 x6 x7 biasTab (sla k k0_pay3)) 2 ![0, 0, 256] inb_S1x128x1024_S1x128x128_0_0_256 rfl x).symm
    simp (disch := decide) only [↓ View.readCov_skip, ↓ View.readCov_fill]
    simp only [View.readAt_eq_ld, Memref.IsWhole.read_unread, hb, ld_sl2, ld_hd4, ld_hd5, ld_sla2, ld_tab2 i p hp]
    rfl
  · refine (congrFun ?_ x).trans (by_pair (fun k => pDk p k x0 x1 x2 x3 x4 x5 x6 x7 biasTab (sla k k0_pay3)) 1 ![0, 0, 128] inb_S1x128x1024_S1x128x128_0_0_128 rfl x).symm
    simp (disch := decide) only [↓ View.readCov_skip, ↓ View.readCov_fill]
    simp only [View.readAt_eq_ld, Memref.IsWhole.read_unread, hb, ld_sl1, ld_hd2, ld_hd3, ld_sla1, ld_tab1 i p hp]
    rfl
  · refine (congrFun ?_ x).trans (by_pair (fun k => pDk p k x0 x1 x2 x3 x4 x5 x6 x7 biasTab (sla k k0_pay3)) 0 ![0, 0, 0] inb_S1x128x1024_S1x128x128_0_0_0 rfl x).symm
    simp (disch := decide) only [↓ View.readCov_skip, ↓ View.readCov_fill]
    simp only [View.readAt_eq_ld, Memref.IsWhole.read_unread, hb, ld_sl0, ld_hd0, ld_hd1, ld_sla0, ld_tab0 i p hp]
    rfl

set_option maxHeartbeats 2000000 in
/-- At a point of case A the stores leave the finished gradient of the values. -/
theorem readA_L10 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : cond0_0 i) (hc1 : cond0_1 i) (hc2 : ¬cond0_2 i) (hc3 : cond0_3 i)
    (x0 x1 x2 x3 x4 x5 : Vec F S1x128x1024 .bf16) (x6 x7 : Vec F S1x128x128 .f32)
    (p : Fin 2) (hp : (if (i 1).val = 0 then 1 else 0) = p.val) (v : View sig .tc .vmem S1x128x1024 .bf16) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.L10) = dvOut p x0 x1 x2 x5 x6 biasTab k0_pay4 := by
  refine read_take 8 _ _ ?_ (View.cover_of_tiledL ((runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.L10.take 8) S1x128x128.size (by sl_kernel_rfl)) v f
  have hb := readA (F := F) arg15.view
  revert hb
  unfold runA
  sl_unfold_run_names
  dsimp only [List.take]
  intro hb
  refine ⟨fun x => ?_, fun x => ?_, fun x => ?_, fun x => ?_, fun x => ?_, fun x => ?_, fun x => ?_, fun x => ?_, trivial⟩
  · refine (congrFun ?_ x).trans (by_pair (fun k => pDv p k x0 x1 x2 x5 x6 biasTab (sla k k0_pay4)) 7 ![0, 0, 896] inb_S1x128x1024_S1x128x128_0_0_896 rfl x).symm
    simp (disch := decide) only [↓ View.readCov_skip, ↓ View.readCov_fill]
    simp only [View.readAt_eq_ld, Memref.IsWhole.read_unread, hb, ld_sl7, ld_hd14, ld_hd15, ld_sla7, ld_tab7 i p hp]
    rfl
  · refine (congrFun ?_ x).trans (by_pair (fun k => pDv p k x0 x1 x2 x5 x6 biasTab (sla k k0_pay4)) 6 ![0, 0, 768] inb_S1x128x1024_S1x128x128_0_0_768 rfl x).symm
    simp (disch := decide) only [↓ View.readCov_skip, ↓ View.readCov_fill]
    simp only [View.readAt_eq_ld, Memref.IsWhole.read_unread, hb, ld_sl6, ld_hd12, ld_hd13, ld_sla6, ld_tab6 i p hp]
    rfl
  · refine (congrFun ?_ x).trans (by_pair (fun k => pDv p k x0 x1 x2 x5 x6 biasTab (sla k k0_pay4)) 5 ![0, 0, 640] inb_S1x128x1024_S1x128x128_0_0_640 rfl x).symm
    simp (disch := decide) only [↓ View.readCov_skip, ↓ View.readCov_fill]
    simp only [View.readAt_eq_ld, Memref.IsWhole.read_unread, hb, ld_sl5, ld_hd10, ld_hd11, ld_sla5, ld_tab5 i p hp]
    rfl
  · refine (congrFun ?_ x).trans (by_pair (fun k => pDv p k x0 x1 x2 x5 x6 biasTab (sla k k0_pay4)) 4 ![0, 0, 512] inb_S1x128x1024_S1x128x128_0_0_512 rfl x).symm
    simp (disch := decide) only [↓ View.readCov_skip, ↓ View.readCov_fill]
    simp only [View.readAt_eq_ld, Memref.IsWhole.read_unread, hb, ld_sl4, ld_hd8, ld_hd9, ld_sla4, ld_tab4 i p hp]
    rfl
  · refine (congrFun ?_ x).trans (by_pair (fun k => pDv p k x0 x1 x2 x5 x6 biasTab (sla k k0_pay4)) 3 ![0, 0, 384] inb_S1x128x1024_S1x128x128_0_0_384 rfl x).symm
    simp (disch := decide) only [↓ View.readCov_skip, ↓ View.readCov_fill]
    simp only [View.readAt_eq_ld, Memref.IsWhole.read_unread, hb, ld_sl3, ld_hd6, ld_hd7, ld_sla3, ld_tab3 i p hp]
    rfl
  · refine (congrFun ?_ x).trans (by_pair (fun k => pDv p k x0 x1 x2 x5 x6 biasTab (sla k k0_pay4)) 2 ![0, 0, 256] inb_S1x128x1024_S1x128x128_0_0_256 rfl x).symm
    simp (disch := decide) only [↓ View.readCov_skip, ↓ View.readCov_fill]
    simp only [View.readAt_eq_ld, Memref.IsWhole.read_unread, hb, ld_sl2, ld_hd4, ld_hd5, ld_sla2, ld_tab2 i p hp]
    rfl
  · refine (congrFun ?_ x).trans (by_pair (fun k => pDv p k x0 x1 x2 x5 x6 biasTab (sla k k0_pay4)) 1 ![0, 0, 128] inb_S1x128x1024_S1x128x128_0_0_128 rfl x).symm
    simp (disch := decide) only [↓ View.readCov_skip, ↓ View.readCov_fill]
    simp only [View.readAt_eq_ld, Memref.IsWhole.read_unread, hb, ld_sl1, ld_hd2, ld_hd3, ld_sla1, ld_tab1 i p hp]
    rfl
  · refine (congrFun ?_ x).trans (by_pair (fun k => pDv p k x0 x1 x2 x5 x6 biasTab (sla k k0_pay4)) 0 ![0, 0, 0] inb_S1x128x1024_S1x128x128_0_0_0 rfl x).symm
    simp (disch := decide) only [↓ View.readCov_skip, ↓ View.readCov_fill]
    simp only [View.readAt_eq_ld, Memref.IsWhole.read_unread, hb, ld_sl0, ld_hd0, ld_hd1, ld_sla0, ld_tab0 i p hp]
    rfl

set_option maxHeartbeats 2000000 in
/-- At a point of case A the stores leave what is kept of the gradient of the keys. -/
theorem readA_LS0 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : cond0_0 i) (hc1 : cond0_1 i) (hc2 : ¬cond0_2 i) (hc3 : cond0_3 i)
    (x0 x1 x2 x3 x4 x5 : Vec F S1x128x1024 .bf16) (x6 x7 : Vec F S1x128x128 .f32)
    (p : Fin 2) (hp : (if (i 1).val = 0 then 1 else 0) = p.val) (v : View sig .tc .vmem S128x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.LS0) = dkHi p x0 x1 x2 x3 x4 x5 x6 x7 biasTab := by
  refine read_take 8 _ _ ?_ (View.cover_of_tiledL ((runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.LS0.take 8) S128x128.size (by sl_kernel_rfl)) v f
  have hb := readA (F := F) arg15.view
  revert hb
  unfold runA
  sl_unfold_run_names
  dsimp only [List.take]
  intro hb
  refine ⟨fun x => ?_, fun x => ?_, fun x => ?_, fun x => ?_, fun x => ?_, fun x => ?_, fun x => ?_, fun x => ?_, trivial⟩
  · refine (congrFun ?_ x).trans (by_paira (fun k => k0_pay50 (pDkM p k x0 x1 x2 x3 x4 x5 x6 x7 biasTab)) 7 ![0, 896] inb_S128x1024_S128x128_0_896 rfl x).symm
    simp only [View.readAt_eq_ld, Memref.IsWhole.read_unread, hb, ld_sl7, ld_hd14, ld_hd15, ld_sla7, ld_tab7 i p hp]
    rfl
  · refine (congrFun ?_ x).trans (by_paira (fun k => k0_pay50 (pDkM p k x0 x1 x2 x3 x4 x5 x6 x7 biasTab)) 6 ![0, 768] inb_S128x1024_S128x128_0_768 rfl x).symm
    simp only [View.readAt_eq_ld, Memref.IsWhole.read_unread, hb, ld_sl6, ld_hd12, ld_hd13, ld_sla6, ld_tab6 i p hp]
    rfl
  · refine (congrFun ?_ x).trans (by_paira (fun k => k0_pay50 (pDkM p k x0 x1 x2 x3 x4 x5 x6 x7 biasTab)) 5 ![0, 640] inb_S128x1024_S128x128_0_640 rfl x).symm
    simp only [View.readAt_eq_ld, Memref.IsWhole.read_unread, hb, ld_sl5, ld_hd10, ld_hd11, ld_sla5, ld_tab5 i p hp]
    rfl
  · refine (congrFun ?_ x).trans (by_paira (fun k => k0_pay50 (pDkM p k x0 x1 x2 x3 x4 x5 x6 x7 biasTab)) 4 ![0, 512] inb_S128x1024_S128x128_0_512 rfl x).symm
    simp only [View.readAt_eq_ld, Memref.IsWhole.read_unread, hb, ld_sl4, ld_hd8, ld_hd9, ld_sla4, ld_tab4 i p hp]
    rfl
  · refine (congrFun ?_ x).trans (by_paira (fun k => k0_pay50 (pDkM p k x0 x1 x2 x3 x4 x5 x6 x7 biasTab)) 3 ![0, 384] inb_S128x1024_S128x128_0_384 rfl x).symm
    simp only [View.readAt_eq_ld, Memref.IsWhole.read_unread, hb, ld_sl3, ld_hd6, ld_hd7, ld_sla3, ld_tab3 i p hp]
    rfl
  · refine (congrFun ?_ x).trans (by_paira (fun k => k0_pay50 (pDkM p k x0 x1 x2 x3 x4 x5 x6 x7 biasTab)) 2 ![0, 256] inb_S128x1024_S128x128_0_256 rfl x).symm
    simp only [View.readAt_eq_ld, Memref.IsWhole.read_unread, hb, ld_sl2, ld_hd4, ld_hd5, ld_sla2, ld_tab2 i p hp]
    rfl
  · refine (congrFun ?_ x).trans (by_paira (fun k => k0_pay50 (pDkM p k x0 x1 x2 x3 x4 x5 x6 x7 biasTab)) 1 ![0, 128] inb_S128x1024_S128x128_0_128 rfl x).symm
    simp only [View.readAt_eq_ld, Memref.IsWhole.read_unread, hb, ld_sl1, ld_hd2, ld_hd3, ld_sla1, ld_tab1 i p hp]
    rfl
  · refine (congrFun ?_ x).trans (by_paira (fun k => k0_pay50 (pDkM p k x0 x1 x2 x3 x4 x5 x6 x7 biasTab)) 0 ![0, 0] inb_S128x1024_S128x128_0_0 rfl x).symm
    simp only [View.readAt_eq_ld, Memref.IsWhole.read_unread, hb, ld_sl0, ld_hd0, ld_hd1, ld_sla0, ld_tab0 i p hp]
    rfl

set_option maxHeartbeats 2000000 in
/-- At a point of case A the stores leave what is kept of the gradient of the values. -/
theorem readA_LS1 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : cond0_0 i) (hc1 : cond0_1 i) (hc2 : ¬cond0_2 i) (hc3 : cond0_3 i)
    (x0 x1 x2 x3 x4 x5 : Vec F S1x128x1024 .bf16) (x6 x7 : Vec F S1x128x128 .f32)
    (p : Fin 2) (hp : (if (i 1).val = 0 then 1 else 0) = p.val) (v : View sig .tc .vmem S128x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.LS1) = dvHi p x0 x1 x2 x5 x6 biasTab := by
  refine read_take 8 _ _ ?_ (View.cover_of_tiledL ((runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.LS1.take 8) S128x128.size (by sl_kernel_rfl)) v f
  have hb := readA (F := F) arg15.view
  revert hb
  unfold runA
  sl_unfold_run_names
  dsimp only [List.take]
  intro hb
  refine ⟨fun x => ?_, fun x => ?_, fun x => ?_, fun x => ?_, fun x => ?_, fun x => ?_, fun x => ?_, fun x => ?_, trivial⟩
  · refine (congrFun ?_ x).trans (by_paira (fun k => k0_pay52 (pDvM p k x0 x1 x2 x5 x6 biasTab)) 7 ![0, 896] inb_S128x1024_S128x128_0_896 rfl x).symm
    simp only [View.readAt_eq_ld, Memref.IsWhole.read_unread, hb, ld_sl7, ld_hd14, ld_hd15, ld_sla7, ld_tab7 i p hp]
    rfl
  · refine (congrFun ?_ x).trans (by_paira (fun k => k0_pay52 (pDvM p k x0 x1 x2 x5 x6 biasTab)) 6 ![0, 768] inb_S128x1024_S128x128_0_768 rfl x).symm
    simp only [View.readAt_eq_ld, Memref.IsWhole.read_unread, hb, ld_sl6, ld_hd12, ld_hd13, ld_sla6, ld_tab6 i p hp]
    rfl
  · refine (congrFun ?_ x).trans (by_paira (fun k => k0_pay52 (pDvM p k x0 x1 x2 x5 x6 biasTab)) 5 ![0, 640] inb_S128x1024_S128x128_0_640 rfl x).symm
    simp only [View.readAt_eq_ld, Memref.IsWhole.read_unread, hb, ld_sl5, ld_hd10, ld_hd11, ld_sla5, ld_tab5 i p hp]
    rfl
  · refine (congrFun ?_ x).trans (by_paira (fun k => k0_pay52 (pDvM p k x0 x1 x2 x5 x6 biasTab)) 4 ![0, 512] inb_S128x1024_S128x128_0_512 rfl x).symm
    simp only [View.readAt_eq_ld, Memref.IsWhole.read_unread, hb, ld_sl4, ld_hd8, ld_hd9, ld_sla4, ld_tab4 i p hp]
    rfl
  · refine (congrFun ?_ x).trans (by_paira (fun k => k0_pay52 (pDvM p k x0 x1 x2 x5 x6 biasTab)) 3 ![0, 384] inb_S128x1024_S128x128_0_384 rfl x).symm
    simp only [View.readAt_eq_ld, Memref.IsWhole.read_unread, hb, ld_sl3, ld_hd6, ld_hd7, ld_sla3, ld_tab3 i p hp]
    rfl
  · refine (congrFun ?_ x).trans (by_paira (fun k => k0_pay52 (pDvM p k x0 x1 x2 x5 x6 biasTab)) 2 ![0, 256] inb_S128x1024_S128x128_0_256 rfl x).symm
    simp only [View.readAt_eq_ld, Memref.IsWhole.read_unread, hb, ld_sl2, ld_hd4, ld_hd5, ld_sla2, ld_tab2 i p hp]
    rfl
  · refine (congrFun ?_ x).trans (by_paira (fun k => k0_pay52 (pDvM p k x0 x1 x2 x5 x6 biasTab)) 1 ![0, 128] inb_S128x1024_S128x128_0_128 rfl x).symm
    simp only [View.readAt_eq_ld, Memref.IsWhole.read_unread, hb, ld_sl1, ld_hd2, ld_hd3, ld_sla1, ld_tab1 i p hp]
    rfl
  · refine (congrFun ?_ x).trans (by_paira (fun k => k0_pay52 (pDvM p k x0 x1 x2 x5 x6 biasTab)) 0 ![0, 0] inb_S128x1024_S128x128_0_0 rfl x).symm
    simp only [View.readAt_eq_ld, Memref.IsWhole.read_unread, hb, ld_sl0, ld_hd0, ld_hd1, ld_sla0, ld_tab0 i p hp]
    rfl

end Cert.KernelIdeal.Bwd

end
end
-- ==== Proof.Bwd.RunB.lean ====
module

public import proofs.«01_k».proof.Proof.Bwd.RunA

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The stores that the body makes at a point of case B, buffer by buffer, last first. -/
structure StoresB (F : FTy → Type) where
  L8 : List (View.Piece (Elt F) S1x128x1024 .bf16)
  L9 : List (View.Piece (Elt F) S1x128x1024 .bf16)
  L10 : List (View.Piece (Elt F) S1x128x1024 .bf16)
  LS0 : List (View.Piece (Elt F) S128x1024 .f32)
  LS1 : List (View.Piece (Elt F) S128x1024 .f32)

set_option maxHeartbeats 1900000 in
/-- The body at a point of case B: the stores it makes and the proof that, on whole staging buffers that hold
    the blocks, it runs to the continuation with those stores made. -/
noncomputable def runB (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : ¬cond0_1 i) (hc2 : ¬cond0_2 i) (hc3 : cond0_3 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (xs0 : Vec F S128x1024 .f32) (xs1 : Vec F S128x1024 .f32) (xs2 : Vec F S2x8x256x256 .f32) :
    { P : StoresB F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f P.L8) ∗ (∃ f, arg11.view.loc (c : Thread nD τ) ↦[arg11.view.set]{fullShare} arg11.view.writes (Elt F) f P.L9) ∗ (∃ f, arg12.view.loc (c : Thread nD τ) ↦[arg12.view.set]{fullShare} arg12.view.writes (Elt F) f P.L10) ∗ (∃ f, arg13.view.loc (c : Thread nD τ) ↦[arg13.view.set]{fullShare} arg13.view.writes (Elt F) f P.LS0) ∗ (∃ f, arg14.view.loc (c : Thread nD τ) ↦[arg14.view.set]{fullShare} arg14.view.writes (Elt F) f P.LS1) ∗ owns (c : Thread nD τ) arg15 fullShare xs2) -∗ K ⟨⟩))
          ⊢ wp frame (wpE (defs₀ (F := F)) Variants.none c none) E (cc0_attn_b16_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_, ?_⟩, fun E K => ?run⟩
  case run =>
    simp only [cc0_attn_b16_bwd_eq_skeleton]; unfold cc0_attn_b16_bwd_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e10, %g10, -, H8⟩, ⟨%e11, %g11, -, H9⟩, ⟨%e12, %g12, -, H10⟩, ⟨%g13, %hg13, HS0⟩, ⟨%g14, %hg14, HS1⟩, ⟨%g15, %hg15, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hg13; obtain rfl := harg14.eq_unread hg14; obtain rfl := harg15.eq_unread hg15
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    isplitl [HS0]
    · iexists _; iexact HS0
    isplitl [HS1]
    · iexists _; iexact HS1
    iexists _; isplitr; · ipureintro; exact harg15.read_unread _
    iexact HS2

end Cert.KernelIdeal.Bwd

end
-- ==== Proof.Bwd.ValB.lean ====
module

public import proofs.«01_k».proof.Proof.Bwd.RunB
public import proofs.«01_k».proof.Proof.Bwd.Model

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.ShloMosaic.Pointwise

variable {F : FTy → Type} [FloatOps F] [Named F]

set_option maxHeartbeats 2000000 in
/-- At a point of case B the stores leave the gradient of the queries. -/
theorem readB_L8 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : ¬cond0_1 i) (hc2 : ¬cond0_2 i) (hc3 : cond0_3 i)
    (x0 x1 x2 x3 x4 x5 : Vec F S1x128x1024 .bf16) (x6 x7 : Vec F S1x128x128 .f32) (xs0 xs1 : Vec F S128x1024 .f32) (xs2 : Vec F S2x8x256x256 .f32)
    (p : Fin 2) (hp : (if (i 1).val = 0 then 1 else 0) = p.val) (v : View sig .tc .vmem S1x128x1024 .bf16) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.L8) = dqOut p x0 x1 x2 x3 x4 x5 x6 x7 xs2 := by
  refine read_take 8 _ _ ?_ (View.cover_of_tiledL ((runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.L8.take 8) S1x128x128.size (by sl_kernel_rfl)) v f
  unfold runB
  sl_unfold_run_names
  dsimp only [List.take]
  refine ⟨fun x => ?_, fun x => ?_, fun x => ?_, fun x => ?_, fun x => ?_, fun x => ?_, fun x => ?_, fun x => ?_, trivial⟩
  · refine (congrFun ?_ x).trans (by_pair (fun k => pDq p k x0 x1 x2 x3 x4 x5 x6 x7 xs2) 7 ![0, 0, 896] inb_S1x128x1024_S1x128x128_0_0_896 rfl x).symm
    simp only [View.readAt_eq_ld, Memref.IsWhole.read_unread, ld_sl7, ld_hd14, ld_hd15, ld_sla7, ld_tab7 i p hp]
    rfl
  · refine (congrFun ?_ x).trans (by_pair (fun k => pDq p k x0 x1 x2 x3 x4 x5 x6 x7 xs2) 6 ![0, 0, 768] inb_S1x128x1024_S1x128x128_0_0_768 rfl x).symm
    simp only [View.readAt_eq_ld, Memref.IsWhole.read_unread, ld_sl6, ld_hd12, ld_hd13, ld_sla6, ld_tab6 i p hp]
    rfl
  · refine (congrFun ?_ x).trans (by_pair (fun k => pDq p k x0 x1 x2 x3 x4 x5 x6 x7 xs2) 5 ![0, 0, 640] inb_S1x128x1024_S1x128x128_0_0_640 rfl x).symm
    simp only [View.readAt_eq_ld, Memref.IsWhole.read_unread, ld_sl5, ld_hd10, ld_hd11, ld_sla5, ld_tab5 i p hp]
    rfl
  · refine (congrFun ?_ x).trans (by_pair (fun k => pDq p k x0 x1 x2 x3 x4 x5 x6 x7 xs2) 4 ![0, 0, 512] inb_S1x128x1024_S1x128x128_0_0_512 rfl x).symm
    simp only [View.readAt_eq_ld, Memref.IsWhole.read_unread, ld_sl4, ld_hd8, ld_hd9, ld_sla4, ld_tab4 i p hp]
    rfl
  · refine (congrFun ?_ x).trans (by_pair (fun k => pDq p k x0 x1 x2 x3 x4 x5 x6 x7 xs2) 3 ![0, 0, 384] inb_S1x128x1024_S1x128x128_0_0_384 rfl x).symm
    simp only [View.readAt_eq_ld, Memref.IsWhole.read_unread, ld_sl3, ld_hd6, ld_hd7, ld_sla3, ld_tab3 i p hp]
    rfl
  · refine (congrFun ?_ x).trans (by_pair (fun k => pDq p k x0 x1 x2 x3 x4 x5 x6 x7 xs2) 2 ![0, 0, 256] inb_S1x128x1024_S1x128x128_0_0_256 rfl x).symm
    simp only [View.readAt_eq_ld, Memref.IsWhole.read_unread, ld_sl2, ld_hd4, ld_hd5, ld_sla2, ld_tab2 i p hp]
    rfl
  · refine (congrFun ?_ x).trans (by_pair (fun k => pDq p k x0 x1 x2 x3 x4 x5 x6 x7 xs2) 1 ![0, 0, 128] inb_S1x128x1024_S1x128x128_0_0_128 rfl x).symm
    simp only [View.readAt_eq_ld, Memref.IsWhole.read_unread, ld_sl1, ld_hd2, ld_hd3, ld_sla1, ld_tab1 i p hp]
    rfl
  · refine (congrFun ?_ x).trans (by_pair (fun k => pDq p k x0 x1 x2 x3 x4 x5 x6 x7 xs2) 0 ![0, 0, 0] inb_S1x128x1024_S1x128x128_0_0_0 rfl x).symm
    simp only [View.readAt_eq_ld, Memref.IsWhole.read_unread, ld_sl0, ld_hd0, ld_hd1, ld_sla0, ld_tab0 i p hp]
    rfl

set_option maxHeartbeats 2000000 in
/-- At a point of case B the stores leave the finished gradient of the keys. -/
theorem readB_L9 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : ¬cond0_1 i) (hc2 : ¬cond0_2 i) (hc3 : cond0_3 i)
    (x0 x1 x2 x3 x4 x5 : Vec F S1x128x1024 .bf16) (x6 x7 : Vec F S1x128x128 .f32) (xs0 xs1 : Vec F S128x1024 .f32) (xs2 : Vec F S2x8x256x256 .f32)
    (p : Fin 2) (hp : (if (i 1).val = 0 then 1 else 0) = p.val) (v : View sig .tc .vmem S1x128x1024 .bf16) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.L9) = dkOut p x0 x1 x2 x3 x4 x5 x6 x7 xs2 xs0 := by
  refine read_take 8 _ _ ?_ (View.cover_of_tiledL ((runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.L9.take 8) S1x128x128.size (by sl_kernel_rfl)) v f
  unfold runB
  sl_unfold_run_names
  dsimp only [List.take]
  refine ⟨fun x => ?_, fun x => ?_, fun x => ?_, fun x => ?_, fun x => ?_, fun x => ?_, fun x => ?_, fun x => ?_, trivial⟩
  · refine (congrFun ?_ x).trans (by_pair (fun k => pDk p k x0 x1 x2 x3 x4 x5 x6 x7 xs2 (sla k xs0)) 7 ![0, 0, 896] inb_S1x128x1024_S1x128x128_0_0_896 rfl x).symm
    simp only [View.readAt_eq_ld, Memref.IsWhole.read_unread, ld_sl7, ld_hd14, ld_hd15, ld_sla7, ld_tab7 i p hp]
    rfl
  · refine (congrFun ?_ x).trans (by_pair (fun k => pDk p k x0 x1 x2 x3 x4 x5 x6 x7 xs2 (sla k xs0)) 6 ![0, 0, 768] inb_S1x128x1024_S1x128x128_0_0_768 rfl x).symm
    simp only [View.readAt_eq_ld, Memref.IsWhole.read_unread, ld_sl6, ld_hd12, ld_hd13, ld_sla6, ld_tab6 i p hp]
    rfl
  · refine (congrFun ?_ x).trans (by_pair (fun k => pDk p k x0 x1 x2 x3 x4 x5 x6 x7 xs2 (sla k xs0)) 5 ![0, 0, 640] inb_S1x128x1024_S1x128x128_0_0_640 rfl x).symm
    simp only [View.readAt_eq_ld, Memref.IsWhole.read_unread, ld_sl5, ld_hd10, ld_hd11, ld_sla5, ld_tab5 i p hp]
    rfl
  · refine (congrFun ?_ x).trans (by_pair (fun k => pDk p k x0 x1 x2 x3 x4 x5 x6 x7 xs2 (sla k xs0)) 4 ![0, 0, 512] inb_S1x128x1024_S1x128x128_0_0_512 rfl x).symm
    simp only [View.readAt_eq_ld, Memref.IsWhole.read_unread, ld_sl4, ld_hd8, ld_hd9, ld_sla4, ld_tab4 i p hp]
    rfl
  · refine (congrFun ?_ x).trans (by_pair (fun k => pDk p k x0 x1 x2 x3 x4 x5 x6 x7 xs2 (sla k xs0)) 3 ![0, 0, 384] inb_S1x128x1024_S1x128x128_0_0_384 rfl x).symm
    simp only [View.readAt_eq_ld, Memref.IsWhole.read_unread, ld_sl3, ld_hd6, ld_hd7, ld_sla3, ld_tab3 i p hp]
    rfl
  · refine (congrFun ?_ x).trans (by_pair (fun k => pDk p k x0 x1 x2 x3 x4 x5 x6 x7 xs2 (sla k xs0)) 2 ![0, 0, 256] inb_S1x128x1024_S1x128x128_0_0_256 rfl x).symm
    simp only [View.readAt_eq_ld, Memref.IsWhole.read_unread, ld_sl2, ld_hd4, ld_hd5, ld_sla2, ld_tab2 i p hp]
    rfl
  · refine (congrFun ?_ x).trans (by_pair (fun k => pDk p k x0 x1 x2 x3 x4 x5 x6 x7 xs2 (sla k xs0)) 1 ![0, 0, 128] inb_S1x128x1024_S1x128x128_0_0_128 rfl x).symm
    simp only [View.readAt_eq_ld, Memref.IsWhole.read_unread, ld_sl1, ld_hd2, ld_hd3, ld_sla1, ld_tab1 i p hp]
    rfl
  · refine (congrFun ?_ x).trans (by_pair (fun k => pDk p k x0 x1 x2 x3 x4 x5 x6 x7 xs2 (sla k xs0)) 0 ![0, 0, 0] inb_S1x128x1024_S1x128x128_0_0_0 rfl x).symm
    simp only [View.readAt_eq_ld, Memref.IsWhole.read_unread, ld_sl0, ld_hd0, ld_hd1, ld_sla0, ld_tab0 i p hp]
    rfl

set_option maxHeartbeats 2000000 in
/-- At a point of case B the stores leave the finished gradient of the values. -/
theorem readB_L10 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : ¬cond0_1 i) (hc2 : ¬cond0_2 i) (hc3 : cond0_3 i)
    (x0 x1 x2 x3 x4 x5 : Vec F S1x128x1024 .bf16) (x6 x7 : Vec F S1x128x128 .f32) (xs0 xs1 : Vec F S128x1024 .f32) (xs2 : Vec F S2x8x256x256 .f32)
    (p : Fin 2) (hp : (if (i 1).val = 0 then 1 else 0) = p.val) (v : View sig .tc .vmem S1x128x1024 .bf16) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.L10) = dvOut p x0 x1 x2 x5 x6 xs2 xs1 := by
  refine read_take 8 _ _ ?_ (View.cover_of_tiledL ((runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.L10.take 8) S1x128x128.size (by sl_kernel_rfl)) v f
  unfold runB
  sl_unfold_run_names
  dsimp only [List.take]
  refine ⟨fun x => ?_, fun x => ?_, fun x => ?_, fun x => ?_, fun x => ?_, fun x => ?_, fun x => ?_, fun x => ?_, trivial⟩
  · refine (congrFun ?_ x).trans (by_pair (fun k => pDv p k x0 x1 x2 x5 x6 xs2 (sla k xs1)) 7 ![0, 0, 896] inb_S1x128x1024_S1x128x128_0_0_896 rfl x).symm
    simp only [View.readAt_eq_ld, Memref.IsWhole.read_unread, ld_sl7, ld_hd14, ld_hd15, ld_sla7, ld_tab7 i p hp]
    rfl
  · refine (congrFun ?_ x).trans (by_pair (fun k => pDv p k x0 x1 x2 x5 x6 xs2 (sla k xs1)) 6 ![0, 0, 768] inb_S1x128x1024_S1x128x128_0_0_768 rfl x).symm
    simp only [View.readAt_eq_ld, Memref.IsWhole.read_unread, ld_sl6, ld_hd12, ld_hd13, ld_sla6, ld_tab6 i p hp]
    rfl
  · refine (congrFun ?_ x).trans (by_pair (fun k => pDv p k x0 x1 x2 x5 x6 xs2 (sla k xs1)) 5 ![0, 0, 640] inb_S1x128x1024_S1x128x128_0_0_640 rfl x).symm
    simp only [View.readAt_eq_ld, Memref.IsWhole.read_unread, ld_sl5, ld_hd10, ld_hd11, ld_sla5, ld_tab5 i p hp]
    rfl
  · refine (congrFun ?_ x).trans (by_pair (fun k => pDv p k x0 x1 x2 x5 x6 xs2 (sla k xs1)) 4 ![0, 0, 512] inb_S1x128x1024_S1x128x128_0_0_512 rfl x).symm
    simp only [View.readAt_eq_ld, Memref.IsWhole.read_unread, ld_sl4, ld_hd8, ld_hd9, ld_sla4, ld_tab4 i p hp]
    rfl
  · refine (congrFun ?_ x).trans (by_pair (fun k => pDv p k x0 x1 x2 x5 x6 xs2 (sla k xs1)) 3 ![0, 0, 384] inb_S1x128x1024_S1x128x128_0_0_384 rfl x).symm
    simp only [View.readAt_eq_ld, Memref.IsWhole.read_unread, ld_sl3, ld_hd6, ld_hd7, ld_sla3, ld_tab3 i p hp]
    rfl
  · refine (congrFun ?_ x).trans (by_pair (fun k => pDv p k x0 x1 x2 x5 x6 xs2 (sla k xs1)) 2 ![0, 0, 256] inb_S1x128x1024_S1x128x128_0_0_256 rfl x).symm
    simp only [View.readAt_eq_ld, Memref.IsWhole.read_unread, ld_sl2, ld_hd4, ld_hd5, ld_sla2, ld_tab2 i p hp]
    rfl
  · refine (congrFun ?_ x).trans (by_pair (fun k => pDv p k x0 x1 x2 x5 x6 xs2 (sla k xs1)) 1 ![0, 0, 128] inb_S1x128x1024_S1x128x128_0_0_128 rfl x).symm
    simp only [View.readAt_eq_ld, Memref.IsWhole.read_unread, ld_sl1, ld_hd2, ld_hd3, ld_sla1, ld_tab1 i p hp]
    rfl
  · refine (congrFun ?_ x).trans (by_pair (fun k => pDv p k x0 x1 x2 x5 x6 xs2 (sla k xs1)) 0 ![0, 0, 0] inb_S1x128x1024_S1x128x128_0_0_0 rfl x).symm
    simp only [View.readAt_eq_ld, Memref.IsWhole.read_unread, ld_sl0, ld_hd0, ld_hd1, ld_sla0, ld_tab0 i p hp]
    rfl

set_option maxHeartbeats 2000000 in
/-- At a point of case B the stores leave what is kept of the gradient of the keys. -/
theorem readB_LS0 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : ¬cond0_1 i) (hc2 : ¬cond0_2 i) (hc3 : cond0_3 i)
    (x0 x1 x2 x3 x4 x5 : Vec F S1x128x1024 .bf16) (x6 x7 : Vec F S1x128x128 .f32) (xs0 xs1 : Vec F S128x1024 .f32) (xs2 : Vec F S2x8x256x256 .f32)
    (p : Fin 2) (hp : (if (i 1).val = 0 then 1 else 0) = p.val) (v : View sig .tc .vmem S128x1024 .f32) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.LS0) = dkHi p x0 x1 x2 x3 x4 x5 x6 x7 xs2 := by
  refine read_take 8 _ _ ?_ (View.cover_of_tiledL ((runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.LS0.take 8) S128x128.size (by sl_kernel_rfl)) v f
  unfold runB
  sl_unfold_run_names
  dsimp only [List.take]
  refine ⟨fun x => ?_, fun x => ?_, fun x => ?_, fun x => ?_, fun x => ?_, fun x => ?_, fun x => ?_, fun x => ?_, trivial⟩
  · refine (congrFun ?_ x).trans (by_paira (fun k => k0_pay50 (pDkM p k x0 x1 x2 x3 x4 x5 x6 x7 xs2)) 7 ![0, 896] inb_S128x1024_S128x128_0_896 rfl x).symm
    simp only [View.readAt_eq_ld, Memref.IsWhole.read_unread, ld_sl7, ld_hd14, ld_hd15, ld_sla7, ld_tab7 i p hp]
    rfl
  · refine (congrFun ?_ x).trans (by_paira (fun k => k0_pay50 (pDkM p k x0 x1 x2 x3 x4 x5 x6 x7 xs2)) 6 ![0, 768] inb_S128x1024_S128x128_0_768 rfl x).symm
    simp only [View.readAt_eq_ld, Memref.IsWhole.read_unread, ld_sl6, ld_hd12, ld_hd13, ld_sla6, ld_tab6 i p hp]
    rfl
  · refine (congrFun ?_ x).trans (by_paira (fun k => k0_pay50 (pDkM p k x0 x1 x2 x3 x4 x5 x6 x7 xs2)) 5 ![0, 640] inb_S128x1024_S128x128_0_640 rfl x).symm
    simp only [View.readAt_eq_ld, Memref.IsWhole.read_unread, ld_sl5, ld_hd10, ld_hd11, ld_sla5, ld_tab5 i p hp]
    rfl
  · refine (congrFun ?_ x).trans (by_paira (fun k => k0_pay50 (pDkM p k x0 x1 x2 x3 x4 x5 x6 x7 xs2)) 4 ![0, 512] inb_S128x1024_S128x128_0_512 rfl x).symm
    simp only [View.readAt_eq_ld, Memref.IsWhole.read_unread, ld_sl4, ld_hd8, ld_hd9, ld_sla4, ld_tab4 i p hp]
    rfl
  · refine (congrFun ?_ x).trans (by_paira (fun k => k0_pay50 (pDkM p k x0 x1 x2 x3 x4 x5 x6 x7 xs2)) 3 ![0, 384] inb_S128x1024_S128x128_0_384 rfl x).symm
    simp only [View.readAt_eq_ld, Memref.IsWhole.read_unread, ld_sl3, ld_hd6, ld_hd7, ld_sla3, ld_tab3 i p hp]
    rfl
  · refine (congrFun ?_ x).trans (by_paira (fun k => k0_pay50 (pDkM p k x0 x1 x2 x3 x4 x5 x6 x7 xs2)) 2 ![0, 256] inb_S128x1024_S128x128_0_256 rfl x).symm
    simp only [View.readAt_eq_ld, Memref.IsWhole.read_unread, ld_sl2, ld_hd4, ld_hd5, ld_sla2, ld_tab2 i p hp]
    rfl
  · refine (congrFun ?_ x).trans (by_paira (fun k => k0_pay50 (pDkM p k x0 x1 x2 x3 x4 x5 x6 x7 xs2)) 1 ![0, 128] inb_S128x1024_S128x128_0_128 rfl x).symm
    simp only [View.readAt_eq_ld, Memref.IsWhole.read_unread, ld_sl1, ld_hd2, ld_hd3, ld_sla1, ld_tab1 i p hp]
    rfl
  · refine (congrFun ?_ x).trans (by_paira (fun k => k0_pay50 (pDkM p k x0 x1 x2 x3 x4 x5 x6 x7 xs2)) 0 ![0, 0] inb_S128x1024_S128x128_0_0 rfl x).symm
    simp only [View.readAt_eq_ld, Memref.IsWhole.read_unread, ld_sl0, ld_hd0, ld_hd1, ld_sla0, ld_tab0 i p hp]
    rfl

set_option maxHeartbeats 2000000 in
/-- At a point of case B the stores leave what is kept of the gradient of the values. -/
theorem readB_LS1 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : ¬cond0_1 i) (hc2 : ¬cond0_2 i) (hc3 : cond0_3 i)
    (x0 x1 x2 x3 x4 x5 : Vec F S1x128x1024 .bf16) (x6 x7 : Vec F S1x128x128 .f32) (xs0 xs1 : Vec F S128x1024 .f32) (xs2 : Vec F S2x8x256x256 .f32)
    (p : Fin 2) (hp : (if (i 1).val = 0 then 1 else 0) = p.val) (v : View sig .tc .vmem S128x1024 .f32) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.LS1) = dvHi p x0 x1 x2 x5 x6 xs2 := by
  refine read_take 8 _ _ ?_ (View.cover_of_tiledL ((runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs0 xs1 xs2).1.LS1.take 8) S128x128.size (by sl_kernel_rfl)) v f
  unfold runB
  sl_unfold_run_names
  dsimp only [List.take]
  refine ⟨fun x => ?_, fun x => ?_, fun x => ?_, fun x => ?_, fun x => ?_, fun x => ?_, fun x => ?_, fun x => ?_, trivial⟩
  · refine (congrFun ?_ x).trans (by_paira (fun k => k0_pay52 (pDvM p k x0 x1 x2 x5 x6 xs2)) 7 ![0, 896] inb_S128x1024_S128x128_0_896 rfl x).symm
    simp only [View.readAt_eq_ld, Memref.IsWhole.read_unread, ld_sl7, ld_hd14, ld_hd15, ld_sla7, ld_tab7 i p hp]
    rfl
  · refine (congrFun ?_ x).trans (by_paira (fun k => k0_pay52 (pDvM p k x0 x1 x2 x5 x6 xs2)) 6 ![0, 768] inb_S128x1024_S128x128_0_768 rfl x).symm
    simp only [View.readAt_eq_ld, Memref.IsWhole.read_unread, ld_sl6, ld_hd12, ld_hd13, ld_sla6, ld_tab6 i p hp]
    rfl
  · refine (congrFun ?_ x).trans (by_paira (fun k => k0_pay52 (pDvM p k x0 x1 x2 x5 x6 xs2)) 5 ![0, 640] inb_S128x1024_S128x128_0_640 rfl x).symm
    simp only [View.readAt_eq_ld, Memref.IsWhole.read_unread, ld_sl5, ld_hd10, ld_hd11, ld_sla5, ld_tab5 i p hp]
    rfl
  · refine (congrFun ?_ x).trans (by_paira (fun k => k0_pay52 (pDvM p k x0 x1 x2 x5 x6 xs2)) 4 ![0, 512] inb_S128x1024_S128x128_0_512 rfl x).symm
    simp only [View.readAt_eq_ld, Memref.IsWhole.read_unread, ld_sl4, ld_hd8, ld_hd9, ld_sla4, ld_tab4 i p hp]
    rfl
  · refine (congrFun ?_ x).trans (by_paira (fun k => k0_pay52 (pDvM p k x0 x1 x2 x5 x6 xs2)) 3 ![0, 384] inb_S128x1024_S128x128_0_384 rfl x).symm
    simp only [View.readAt_eq_ld, Memref.IsWhole.read_unread, ld_sl3, ld_hd6, ld_hd7, ld_sla3, ld_tab3 i p hp]
    rfl
  · refine (congrFun ?_ x).trans (by_paira (fun k => k0_pay52 (pDvM p k x0 x1 x2 x5 x6 xs2)) 2 ![0, 256] inb_S128x1024_S128x128_0_256 rfl x).symm
    simp only [View.readAt_eq_ld, Memref.IsWhole.read_unread, ld_sl2, ld_hd4, ld_hd5, ld_sla2, ld_tab2 i p hp]
    rfl
  · refine (congrFun ?_ x).trans (by_paira (fun k => k0_pay52 (pDvM p k x0 x1 x2 x5 x6 xs2)) 1 ![0, 128] inb_S128x1024_S128x128_0_128 rfl x).symm
    simp only [View.readAt_eq_ld, Memref.IsWhole.read_unread, ld_sl1, ld_hd2, ld_hd3, ld_sla1, ld_tab1 i p hp]
    rfl
  · refine (congrFun ?_ x).trans (by_paira (fun k => k0_pay52 (pDvM p k x0 x1 x2 x5 x6 xs2)) 0 ![0, 0] inb_S128x1024_S128x128_0_0 rfl x).symm
    simp only [View.readAt_eq_ld, Memref.IsWhole.read_unread, ld_sl0, ld_hd0, ld_hd1, ld_sla0, ld_tab0 i p hp]
    rfl

end Cert.KernelIdeal.Bwd

end
end
-- ==== Proof.Bwd.RunC.lean ====
module

public import proofs.«01_k».proof.Proof.Bwd.RunB

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The stores that the body makes at a point of case C, buffer by buffer, last first. -/
structure StoresC (F : FTy → Type) where
  L9 : List (View.Piece (Elt F) S1x128x1024 .bf16)
  L10 : List (View.Piece (Elt F) S1x128x1024 .bf16)

set_option maxHeartbeats 1900000 in
/-- The body at a point of case C: the stores it makes and the proof that, on whole staging buffers that hold
    the blocks, it runs to the continuation with those stores made. -/
noncomputable def runC (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : ¬cond0_1 i) (hc2 : cond0_2 i) (hc3 : ¬cond0_3 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (xd : Vec F S1x128x1024 .bf16) (xs0 : Vec F S128x1024 .f32) (xs1 : Vec F S128x1024 .f32) (xs2 : Vec F S2x8x256x256 .f32) :
    { P : StoresC F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xd ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xd ∗ (∃ f, arg11.view.loc (c : Thread nD τ) ↦[arg11.view.set]{fullShare} arg11.view.writes (Elt F) f P.L9) ∗ (∃ f, arg12.view.loc (c : Thread nD τ) ↦[arg12.view.set]{fullShare} arg12.view.writes (Elt F) f P.L10) ∗ owns (c : Thread nD τ) arg13 fullShare xs0 ∗ owns (c : Thread nD τ) arg14 fullShare xs1 ∗ owns (c : Thread nD τ) arg15 fullShare xs2) -∗ K ⟨⟩))
          ⊢ wp frame (wpE (defs₀ (F := F)) Variants.none c none) E (cc0_attn_b16_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_⟩, fun E K => ?run⟩
  case run =>
    simp only [cc0_attn_b16_bwd_eq_skeleton]; unfold cc0_attn_b16_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g10, %hg10, H8⟩, ⟨%e11, %g11, -, H9⟩, ⟨%e12, %g12, -, H10⟩, ⟨%g13, %hg13, HS0⟩, ⟨%g14, %hg14, HS1⟩, ⟨%g15, %hg15, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hg10; obtain rfl := harg13.eq_unread hg13; obtain rfl := harg14.eq_unread hg14; obtain rfl := harg15.eq_unread hg15
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    isplitl [H10]
    · iexists _; iexact H10
    isplitl [HS0]
    · iexists _; isplitr; · ipureintro; exact harg13.read_unread _
      iexact HS0
    isplitl [HS1]
    · iexists _; isplitr; · ipureintro; exact harg14.read_unread _
      iexact HS1
    iexists _; isplitr; · ipureintro; exact harg15.read_unread _
    iexact HS2

end Cert.KernelIdeal.Bwd

end
-- ==== Proof.Bwd.ValC.lean ====
module

public import proofs.«01_k».proof.Proof.Bwd.RunC
public import proofs.«01_k».proof.Proof.Bwd.Bias

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.ShloMosaic.Pointwise

variable {F : FTy → Type} [FloatOps F] [Named F]

/-- At a point of case C the stores leave what was kept of the gradient. -/
theorem readC_L9 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : ¬cond0_1 i) (hc2 : cond0_2 i) (hc3 : ¬cond0_3 i)
    (x0 x1 x2 x3 x4 x5 : Vec F S1x128x1024 .bf16) (x6 x7 : Vec F S1x128x128 .f32) (xd : Vec F S1x128x1024 .bf16) (xs0 xs1 : Vec F S128x1024 .f32) (xs2 : Vec F S2x8x256x256 .f32)
    (v : View sig .tc .vmem S1x128x1024 .bf16) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xd xs0 xs1 xs2).1.L9) = k0_pay5 xs0 := by
  rw [View.read_writes_eq_canon v f _ (View.cover_of_tiledL ((runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xd xs0 xs1 xs2).1.L9) S1x128x1024.size (by sl_kernel_rfl))]
  unfold runC
  sl_unfold_run_names
  dsimp only
  rw [View.canon_unit_zero (by decide)]
  simp only [View.readAt_eq_ld, Memref.IsWhole.read_unread]
  rw [View.ld_unit_zero (by decide)]

/-- At a point of case C the stores leave what was kept of the gradient. -/
theorem readC_L10 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : ¬cond0_1 i) (hc2 : cond0_2 i) (hc3 : ¬cond0_3 i)
    (x0 x1 x2 x3 x4 x5 : Vec F S1x128x1024 .bf16) (x6 x7 : Vec F S1x128x128 .f32) (xd : Vec F S1x128x1024 .bf16) (xs0 xs1 : Vec F S128x1024 .f32) (xs2 : Vec F S2x8x256x256 .f32)
    (v : View sig .tc .vmem S1x128x1024 .bf16) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xd xs0 xs1 xs2).1.L10) = k0_pay6 xs1 := by
  rw [View.read_writes_eq_canon v f _ (View.cover_of_tiledL ((runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xd xs0 xs1 xs2).1.L10) S1x128x1024.size (by sl_kernel_rfl))]
  unfold runC
  sl_unfold_run_names
  dsimp only
  rw [View.canon_unit_zero (by decide)]
  simp only [View.readAt_eq_ld, Memref.IsWhole.read_unread]
  rw [View.ld_unit_zero (by decide)]

/-- At the first point the stores leave the whole bias table. -/
theorem readA_LS2 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : cond0_0 i) (hc1 : cond0_1 i) (hc2 : ¬cond0_2 i) (hc3 : cond0_3 i)
    (x0 x1 x2 x3 x4 x5 : Vec F S1x128x1024 .bf16) (x6 x7 : Vec F S1x128x128 .f32)
    (v : View sig .tc .vmem S2x8x256x256 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7).1.LS2) = biasTab := by
  unfold runA
  exact read_bias v f

end Cert.KernelIdeal.Bwd

end
end
-- ==== Proof.Bwd.RunD.lean ====
module

public import proofs.«01_k».proof.Proof.Bwd.RunC

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The stores that the body makes at a point of case D, buffer by buffer, last first. -/
structure StoresD (F : FTy → Type) where
  L8 : List (View.Piece (Elt F) S1x128x1024 .bf16)
  L9 : List (View.Piece (Elt F) S1x128x1024 .bf16)
  L10 : List (View.Piece (Elt F) S1x128x1024 .bf16)
  LS0 : List (View.Piece (Elt F) S128x1024 .f32)
  LS1 : List (View.Piece (Elt F) S128x1024 .f32)

set_option maxHeartbeats 1900000 in
/-- The body at a point of case D: the stores it makes and the proof that, on whole staging buffers that hold
    the blocks, it runs to the continuation with those stores made. -/
noncomputable def runD (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : cond0_1 i) (hc2 : ¬cond0_2 i) (hc3 : cond0_3 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (xs2 : Vec F S2x8x256x256 .f32) :
    { P : StoresD F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f P.L8) ∗ (∃ f, arg11.view.loc (c : Thread nD τ) ↦[arg11.view.set]{fullShare} arg11.view.writes (Elt F) f P.L9) ∗ (∃ f, arg12.view.loc (c : Thread nD τ) ↦[arg12.view.set]{fullShare} arg12.view.writes (Elt F) f P.L10) ∗ (∃ f, arg13.view.loc (c : Thread nD τ) ↦[arg13.view.set]{fullShare} arg13.view.writes (Elt F) f P.LS0) ∗ (∃ f, arg14.view.loc (c : Thread nD τ) ↦[arg14.view.set]{fullShare} arg14.view.writes (Elt F) f P.LS1) ∗ owns (c : Thread nD τ) arg15 fullShare xs2) -∗ K ⟨⟩))
          ⊢ wp frame (wpE (defs₀ (F := F)) Variants.none c none) E (cc0_attn_b16_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_, ?_⟩, fun E K => ?run⟩
  case run =>
    simp only [cc0_attn_b16_bwd_eq_skeleton]; unfold cc0_attn_b16_bwd_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e10, %g10, -, H8⟩, ⟨%e11, %g11, -, H9⟩, ⟨%e12, %g12, -, H10⟩, ⟨%e13, %g13, -, HS0⟩, ⟨%e14, %g14, -, HS1⟩, ⟨%g15, %hg15, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hg15
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    isplitl [HS0]
    · iexists _; iexact HS0
    isplitl [HS1]
    · iexists _; iexact HS1
    iexists _; isplitr; · ipureintro; exact harg15.read_unread _
    iexact HS2

end Cert.KernelIdeal.Bwd

end
-- ==== Proof.Bwd.ValD.lean ====
module

public import proofs.«01_k».proof.Proof.Bwd.RunD
public import proofs.«01_k».proof.Proof.Bwd.Model

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.ShloMosaic.Pointwise

variable {F : FTy → Type} [FloatOps F] [Named F]

set_option maxHeartbeats 2000000 in
/-- At a point of case D the stores leave the gradient of the queries. -/
theorem readD_L8 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : cond0_1 i) (hc2 : ¬cond0_2 i) (hc3 : cond0_3 i)
    (x0 x1 x2 x3 x4 x5 : Vec F S1x128x1024 .bf16) (x6 x7 : Vec F S1x128x128 .f32) (xs2 : Vec F S2x8x256x256 .f32)
    (p : Fin 2) (hp : (if (i 1).val = 0 then 1 else 0) = p.val) (v : View sig .tc .vmem S1x128x1024 .bf16) (f : v.ty.Contents (Elt F)) :
    v.read (Elt F) (v.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.L8) = dqOut p x0 x1 x2 x3 x4 x5 x6 x7 xs2 := by
  refine read_take 8 _ _ ?_ (View.cover_of_tiledL ((runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.L8.take 8) S1x128x128.size (by sl_kernel_rfl)) v f
  unfold runD
  sl_unfold_run_names
  dsimp only [List.take]
  refine ⟨fun x => ?_, fun x => ?_, fun x => ?_, fun x => ?_, fun x => ?_, fun x => ?_, fun x => ?_, fun x => ?_, trivial⟩
  · refine (congrFun ?_ x).trans (by_pair (fun k => pDq p k x0 x1 x2 x3 x4 x5 x6 x7 xs2) 7 ![0, 0, 896] inb_S1x128x1024_S1x128x128_0_0_896 rfl x).symm
    simp only [View.readAt_eq_ld, Memref.IsWhole.read_unread, ld_sl7, ld_hd14, ld_hd15, ld_sla7, ld_tab7 i p hp]
    rfl
  · refine (congrFun ?_ x).trans (by_pair (fun k => pDq p k x0 x1 x2 x3 x4 x5 x6 x7 xs2) 6 ![0, 0, 768] inb_S1x128x1024_S1x128x128_0_0_768 rfl x).symm
    simp only [View.readAt_eq_ld, Memref.IsWhole.read_unread, ld_sl6, ld_hd12, ld_hd13, ld_sla6, ld_tab6 i p hp]
    rfl
  · refine (congrFun ?_ x).trans (by_pair (fun k => pDq p k x0 x1 x2 x3 x4 x5 x6 x7 xs2) 5 ![0, 0, 640] inb_S1x128x1024_S1x128x128_0_0_640 rfl x).symm
    simp only [View.readAt_eq_ld, Memref.IsWhole.read_unread, ld_sl5, ld_hd10, ld_hd11, ld_sla5, ld_tab5 i p hp]
    rfl
  · refine (congrFun ?_ x).trans (by_pair (fun k => pDq p k x0 x1 x2 x3 x4 x5 x6 x7 xs2) 4 ![0, 0, 512] inb_S1x128x1024_S1x128x128_0_0_512 rfl x).symm
    simp only [View.readAt_eq_ld, Memref.IsWhole.read_unread, ld_sl4, ld_hd8, ld_hd9, ld_sla4, ld_tab4 i p hp]
    rfl
  · refine (congrFun ?_ x).trans (by_pair (fun k => pDq p k x0 x1 x2 x3 x4 x5 x6 x7 xs2) 3 ![0, 0, 384] inb_S1x128x1024_S1x128x128_0_0_384 rfl x).symm
    simp only [View.readAt_eq_ld, Memref.IsWhole.read_unread, ld_sl3, ld_hd6, ld_hd7, ld_sla3, ld_tab3 i p hp]
    rfl
  · refine (congrFun ?_ x).trans (by_pair (fun k => pDq p k x0 x1 x2 x3 x4 x5 x6 x7 xs2) 2 ![0, 0, 256] inb_S1x128x1024_S1x128x128_0_0_256 rfl x).symm
    simp only [View.readAt_eq_ld, Memref.IsWhole.read_unread, ld_sl2, ld_hd4, ld_hd5, ld_sla2, ld_tab2 i p hp]
    rfl
  · refine (congrFun ?_ x).trans (by_pair (fun k => pDq p k x0 x1 x2 x3 x4 x5 x6 x7 xs2) 1 ![0, 0, 128] inb_S1x128x1024_S1x128x128_0_0_128 rfl x).symm
    simp only [View.readAt_eq_ld, Memref.IsWhole.read_unread, ld_sl1, ld_hd2, ld_hd3, ld_sla1, ld_tab1 i p hp]
    rfl
  · refine (congrFun ?_ x).trans (by_pair (fun k => pDq p k x0 x1 x2 x3 x4 x5 x6 x7 xs2) 0 ![0, 0, 0] inb_S1x128x1024_S1x128x128_0_0_0 rfl x).symm
    simp only [View.readAt_eq_ld, Memref.IsWhole.read_unread, ld_sl0, ld_hd0, ld_hd1, ld_sla0, ld_tab0 i p hp]
    rfl

set_option maxHeartbeats 2000000 in
/-- At a point of case D the stores leave the finished gradient of the keys. -/
theorem readD_L9 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : cond0_1 i) (hc2 : ¬cond0_2 i) (hc3 : cond0_3 i)
    (x0 x1 x2 x3 x4 x5 : Vec F S1x128x1024 .bf16) (x6 x7 : Vec F S1x128x128 .f32) (xs2 : Vec F S2x8x256x256 .f32)
    (p : Fin 2) (hp : (if (i 1).val = 0 then 1 else 0) = p.val) (v : View sig .tc .vmem S1x128x1024 .bf16) (f : v.ty.Contents (Elt F)) :
    v.read (Elt F) (v.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.L9) = dkOut p x0 x1 x2 x3 x4 x5 x6 x7 xs2 k0_pay3 := by
  refine read_take 8 _ _ ?_ (View.cover_of_tiledL ((runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.L9.take 8) S1x128x128.size (by sl_kernel_rfl)) v f
  unfold runD
  sl_unfold_run_names
  dsimp only [List.take]
  refine ⟨fun x => ?_, fun x => ?_, fun x => ?_, fun x => ?_, fun x => ?_, fun x => ?_, fun x => ?_, fun x => ?_, trivial⟩
  · refine (congrFun ?_ x).trans (by_pair (fun k => pDk p k x0 x1 x2 x3 x4 x5 x6 x7 xs2 (sla k k0_pay3)) 7 ![0, 0, 896] inb_S1x128x1024_S1x128x128_0_0_896 rfl x).symm
    simp (disch := decide) only [↓ View.readCov_skip, ↓ View.readCov_fill]
    simp only [View.readAt_eq_ld, Memref.IsWhole.read_unread, ld_sl7, ld_hd14, ld_hd15, ld_sla7, ld_tab7 i p hp]
    rfl
  · refine (congrFun ?_ x).trans (by_pair (fun k => pDk p k x0 x1 x2 x3 x4 x5 x6 x7 xs2 (sla k k0_pay3)) 6 ![0, 0, 768] inb_S1x128x1024_S1x128x128_0_0_768 rfl x).symm
    simp (disch := decide) only [↓ View.readCov_skip, ↓ View.readCov_fill]
    simp only [View.readAt_eq_ld, Memref.IsWhole.read_unread, ld_sl6, ld_hd12, ld_hd13, ld_sla6, ld_tab6 i p hp]
    rfl
  · refine (congrFun ?_ x).trans (by_pair (fun k => pDk p k x0 x1 x2 x3 x4 x5 x6 x7 xs2 (sla k k0_pay3)) 5 ![0, 0, 640] inb_S1x128x1024_S1x128x128_0_0_640 rfl x).symm
    simp (disch := decide) only [↓ View.readCov_skip, ↓ View.readCov_fill]
    simp only [View.readAt_eq_ld, Memref.IsWhole.read_unread, ld_sl5, ld_hd10, ld_hd11, ld_sla5, ld_tab5 i p hp]
    rfl
  · refine (congrFun ?_ x).trans (by_pair (fun k => pDk p k x0 x1 x2 x3 x4 x5 x6 x7 xs2 (sla k k0_pay3)) 4 ![0, 0, 512] inb_S1x128x1024_S1x128x128_0_0_512 rfl x).symm
    simp (disch := decide) only [↓ View.readCov_skip, ↓ View.readCov_fill]
    simp only [View.readAt_eq_ld, Memref.IsWhole.read_unread, ld_sl4, ld_hd8, ld_hd9, ld_sla4, ld_tab4 i p hp]
    rfl
  · refine (congrFun ?_ x).trans (by_pair (fun k => pDk p k x0 x1 x2 x3 x4 x5 x6 x7 xs2 (sla k k0_pay3)) 3 ![0, 0, 384] inb_S1x128x1024_S1x128x128_0_0_384 rfl x).symm
    simp (disch := decide) only [↓ View.readCov_skip, ↓ View.readCov_fill]
    simp only [View.readAt_eq_ld, Memref.IsWhole.read_unread, ld_sl3, ld_hd6, ld_hd7, ld_sla3, ld_tab3 i p hp]
    rfl
  · refine (congrFun ?_ x).trans (by_pair (fun k => pDk p k x0 x1 x2 x3 x4 x5 x6 x7 xs2 (sla k k0_pay3)) 2 ![0, 0, 256] inb_S1x128x1024_S1x128x128_0_0_256 rfl x).symm
    simp (disch := decide) only [↓ View.readCov_skip, ↓ View.readCov_fill]
    simp only [View.readAt_eq_ld, Memref.IsWhole.read_unread, ld_sl2, ld_hd4, ld_hd5, ld_sla2, ld_tab2 i p hp]
    rfl
  · refine (congrFun ?_ x).trans (by_pair (fun k => pDk p k x0 x1 x2 x3 x4 x5 x6 x7 xs2 (sla k k0_pay3)) 1 ![0, 0, 128] inb_S1x128x1024_S1x128x128_0_0_128 rfl x).symm
    simp (disch := decide) only [↓ View.readCov_skip, ↓ View.readCov_fill]
    simp only [View.readAt_eq_ld, Memref.IsWhole.read_unread, ld_sl1, ld_hd2, ld_hd3, ld_sla1, ld_tab1 i p hp]
    rfl
  · refine (congrFun ?_ x).trans (by_pair (fun k => pDk p k x0 x1 x2 x3 x4 x5 x6 x7 xs2 (sla k k0_pay3)) 0 ![0, 0, 0] inb_S1x128x1024_S1x128x128_0_0_0 rfl x).symm
    simp (disch := decide) only [↓ View.readCov_skip, ↓ View.readCov_fill]
    simp only [View.readAt_eq_ld, Memref.IsWhole.read_unread, ld_sl0, ld_hd0, ld_hd1, ld_sla0, ld_tab0 i p hp]
    rfl

set_option maxHeartbeats 2000000 in
/-- At a point of case D the stores leave the finished gradient of the values. -/
theorem readD_L10 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : cond0_1 i) (hc2 : ¬cond0_2 i) (hc3 : cond0_3 i)
    (x0 x1 x2 x3 x4 x5 : Vec F S1x128x1024 .bf16) (x6 x7 : Vec F S1x128x128 .f32) (xs2 : Vec F S2x8x256x256 .f32)
    (p : Fin 2) (hp : (if (i 1).val = 0 then 1 else 0) = p.val) (v : View sig .tc .vmem S1x128x1024 .bf16) (f : v.ty.Contents (Elt F)) :
    v.read (Elt F) (v.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.L10) = dvOut p x0 x1 x2 x5 x6 xs2 k0_pay4 := by
  refine read_take 8 _ _ ?_ (View.cover_of_tiledL ((runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.L10.take 8) S1x128x128.size (by sl_kernel_rfl)) v f
  unfold runD
  sl_unfold_run_names
  dsimp only [List.take]
  refine ⟨fun x => ?_, fun x => ?_, fun x => ?_, fun x => ?_, fun x => ?_, fun x => ?_, fun x => ?_, fun x => ?_, trivial⟩
  · refine (congrFun ?_ x).trans (by_pair (fun k => pDv p k x0 x1 x2 x5 x6 xs2 (sla k k0_pay4)) 7 ![0, 0, 896] inb_S1x128x1024_S1x128x128_0_0_896 rfl x).symm
    simp (disch := decide) only [↓ View.readCov_skip, ↓ View.readCov_fill]
    simp only [View.readAt_eq_ld, Memref.IsWhole.read_unread, ld_sl7, ld_hd14, ld_hd15, ld_sla7, ld_tab7 i p hp]
    rfl
  · refine (congrFun ?_ x).trans (by_pair (fun k => pDv p k x0 x1 x2 x5 x6 xs2 (sla k k0_pay4)) 6 ![0, 0, 768] inb_S1x128x1024_S1x128x128_0_0_768 rfl x).symm
    simp (disch := decide) only [↓ View.readCov_skip, ↓ View.readCov_fill]
    simp only [View.readAt_eq_ld, Memref.IsWhole.read_unread, ld_sl6, ld_hd12, ld_hd13, ld_sla6, ld_tab6 i p hp]
    rfl
  · refine (congrFun ?_ x).trans (by_pair (fun k => pDv p k x0 x1 x2 x5 x6 xs2 (sla k k0_pay4)) 5 ![0, 0, 640] inb_S1x128x1024_S1x128x128_0_0_640 rfl x).symm
    simp (disch := decide) only [↓ View.readCov_skip, ↓ View.readCov_fill]
    simp only [View.readAt_eq_ld, Memref.IsWhole.read_unread, ld_sl5, ld_hd10, ld_hd11, ld_sla5, ld_tab5 i p hp]
    rfl
  · refine (congrFun ?_ x).trans (by_pair (fun k => pDv p k x0 x1 x2 x5 x6 xs2 (sla k k0_pay4)) 4 ![0, 0, 512] inb_S1x128x1024_S1x128x128_0_0_512 rfl x).symm
    simp (disch := decide) only [↓ View.readCov_skip, ↓ View.readCov_fill]
    simp only [View.readAt_eq_ld, Memref.IsWhole.read_unread, ld_sl4, ld_hd8, ld_hd9, ld_sla4, ld_tab4 i p hp]
    rfl
  · refine (congrFun ?_ x).trans (by_pair (fun k => pDv p k x0 x1 x2 x5 x6 xs2 (sla k k0_pay4)) 3 ![0, 0, 384] inb_S1x128x1024_S1x128x128_0_0_384 rfl x).symm
    simp (disch := decide) only [↓ View.readCov_skip, ↓ View.readCov_fill]
    simp only [View.readAt_eq_ld, Memref.IsWhole.read_unread, ld_sl3, ld_hd6, ld_hd7, ld_sla3, ld_tab3 i p hp]
    rfl
  · refine (congrFun ?_ x).trans (by_pair (fun k => pDv p k x0 x1 x2 x5 x6 xs2 (sla k k0_pay4)) 2 ![0, 0, 256] inb_S1x128x1024_S1x128x128_0_0_256 rfl x).symm
    simp (disch := decide) only [↓ View.readCov_skip, ↓ View.readCov_fill]
    simp only [View.readAt_eq_ld, Memref.IsWhole.read_unread, ld_sl2, ld_hd4, ld_hd5, ld_sla2, ld_tab2 i p hp]
    rfl
  · refine (congrFun ?_ x).trans (by_pair (fun k => pDv p k x0 x1 x2 x5 x6 xs2 (sla k k0_pay4)) 1 ![0, 0, 128] inb_S1x128x1024_S1x128x128_0_0_128 rfl x).symm
    simp (disch := decide) only [↓ View.readCov_skip, ↓ View.readCov_fill]
    simp only [View.readAt_eq_ld, Memref.IsWhole.read_unread, ld_sl1, ld_hd2, ld_hd3, ld_sla1, ld_tab1 i p hp]
    rfl
  · refine (congrFun ?_ x).trans (by_pair (fun k => pDv p k x0 x1 x2 x5 x6 xs2 (sla k k0_pay4)) 0 ![0, 0, 0] inb_S1x128x1024_S1x128x128_0_0_0 rfl x).symm
    simp (disch := decide) only [↓ View.readCov_skip, ↓ View.readCov_fill]
    simp only [View.readAt_eq_ld, Memref.IsWhole.read_unread, ld_sl0, ld_hd0, ld_hd1, ld_sla0, ld_tab0 i p hp]
    rfl

set_option maxHeartbeats 2000000 in
/-- At a point of case D the stores leave what is kept of the gradient of the keys. -/
theorem readD_LS0 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : cond0_1 i) (hc2 : ¬cond0_2 i) (hc3 : cond0_3 i)
    (x0 x1 x2 x3 x4 x5 : Vec F S1x128x1024 .bf16) (x6 x7 : Vec F S1x128x128 .f32) (xs2 : Vec F S2x8x256x256 .f32)
    (p : Fin 2) (hp : (if (i 1).val = 0 then 1 else 0) = p.val) (v : View sig .tc .vmem S128x1024 .f32) (f : v.ty.Contents (Elt F)) :
    v.read (Elt F) (v.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.LS0) = dkHi p x0 x1 x2 x3 x4 x5 x6 x7 xs2 := by
  refine read_take 8 _ _ ?_ (View.cover_of_tiledL ((runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.LS0.take 8) S128x128.size (by sl_kernel_rfl)) v f
  unfold runD
  sl_unfold_run_names
  dsimp only [List.take]
  refine ⟨fun x => ?_, fun x => ?_, fun x => ?_, fun x => ?_, fun x => ?_, fun x => ?_, fun x => ?_, fun x => ?_, trivial⟩
  · refine (congrFun ?_ x).trans (by_paira (fun k => k0_pay50 (pDkM p k x0 x1 x2 x3 x4 x5 x6 x7 xs2)) 7 ![0, 896] inb_S128x1024_S128x128_0_896 rfl x).symm
    simp only [View.readAt_eq_ld, Memref.IsWhole.read_unread, ld_sl7, ld_hd14, ld_hd15, ld_sla7, ld_tab7 i p hp]
    rfl
  · refine (congrFun ?_ x).trans (by_paira (fun k => k0_pay50 (pDkM p k x0 x1 x2 x3 x4 x5 x6 x7 xs2)) 6 ![0, 768] inb_S128x1024_S128x128_0_768 rfl x).symm
    simp only [View.readAt_eq_ld, Memref.IsWhole.read_unread, ld_sl6, ld_hd12, ld_hd13, ld_sla6, ld_tab6 i p hp]
    rfl
  · refine (congrFun ?_ x).trans (by_paira (fun k => k0_pay50 (pDkM p k x0 x1 x2 x3 x4 x5 x6 x7 xs2)) 5 ![0, 640] inb_S128x1024_S128x128_0_640 rfl x).symm
    simp only [View.readAt_eq_ld, Memref.IsWhole.read_unread, ld_sl5, ld_hd10, ld_hd11, ld_sla5, ld_tab5 i p hp]
    rfl
  · refine (congrFun ?_ x).trans (by_paira (fun k => k0_pay50 (pDkM p k x0 x1 x2 x3 x4 x5 x6 x7 xs2)) 4 ![0, 512] inb_S128x1024_S128x128_0_512 rfl x).symm
    simp only [View.readAt_eq_ld, Memref.IsWhole.read_unread, ld_sl4, ld_hd8, ld_hd9, ld_sla4, ld_tab4 i p hp]
    rfl
  · refine (congrFun ?_ x).trans (by_paira (fun k => k0_pay50 (pDkM p k x0 x1 x2 x3 x4 x5 x6 x7 xs2)) 3 ![0, 384] inb_S128x1024_S128x128_0_384 rfl x).symm
    simp only [View.readAt_eq_ld, Memref.IsWhole.read_unread, ld_sl3, ld_hd6, ld_hd7, ld_sla3, ld_tab3 i p hp]
    rfl
  · refine (congrFun ?_ x).trans (by_paira (fun k => k0_pay50 (pDkM p k x0 x1 x2 x3 x4 x5 x6 x7 xs2)) 2 ![0, 256] inb_S128x1024_S128x128_0_256 rfl x).symm
    simp only [View.readAt_eq_ld, Memref.IsWhole.read_unread, ld_sl2, ld_hd4, ld_hd5, ld_sla2, ld_tab2 i p hp]
    rfl
  · refine (congrFun ?_ x).trans (by_paira (fun k => k0_pay50 (pDkM p k x0 x1 x2 x3 x4 x5 x6 x7 xs2)) 1 ![0, 128] inb_S128x1024_S128x128_0_128 rfl x).symm
    simp only [View.readAt_eq_ld, Memref.IsWhole.read_unread, ld_sl1, ld_hd2, ld_hd3, ld_sla1, ld_tab1 i p hp]
    rfl
  · refine (congrFun ?_ x).trans (by_paira (fun k => k0_pay50 (pDkM p k x0 x1 x2 x3 x4 x5 x6 x7 xs2)) 0 ![0, 0] inb_S128x1024_S128x128_0_0 rfl x).symm
    simp only [View.readAt_eq_ld, Memref.IsWhole.read_unread, ld_sl0, ld_hd0, ld_hd1, ld_sla0, ld_tab0 i p hp]
    rfl

set_option maxHeartbeats 2000000 in
/-- At a point of case D the stores leave what is kept of the gradient of the values. -/
theorem readD_LS1 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x1024 .bf16) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S2x8x256x256 .f32) (harg15 : arg15.IsWhole) (hc0 : ¬cond0_0 i) (hc1 : cond0_1 i) (hc2 : ¬cond0_2 i) (hc3 : cond0_3 i)
    (x0 x1 x2 x3 x4 x5 : Vec F S1x128x1024 .bf16) (x6 x7 : Vec F S1x128x128 .f32) (xs2 : Vec F S2x8x256x256 .f32)
    (p : Fin 2) (hp : (if (i 1).val = 0 then 1 else 0) = p.val) (v : View sig .tc .vmem S128x1024 .f32) (f : v.ty.Contents (Elt F)) :
    v.read (Elt F) (v.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.LS1) = dvHi p x0 x1 x2 x5 x6 xs2 := by
  refine read_take 8 _ _ ?_ (View.cover_of_tiledL ((runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 xs2).1.LS1.take 8) S128x128.size (by sl_kernel_rfl)) v f
  unfold runD
  sl_unfold_run_names
  dsimp only [List.take]
  refine ⟨fun x => ?_, fun x => ?_, fun x => ?_, fun x => ?_, fun x => ?_, fun x => ?_, fun x => ?_, fun x => ?_, trivial⟩
  · refine (congrFun ?_ x).trans (by_paira (fun k => k0_pay52 (pDvM p k x0 x1 x2 x5 x6 xs2)) 7 ![0, 896] inb_S128x1024_S128x128_0_896 rfl x).symm
    simp only [View.readAt_eq_ld, Memref.IsWhole.read_unread, ld_sl7, ld_hd14, ld_hd15, ld_sla7, ld_tab7 i p hp]
    rfl
  · refine (congrFun ?_ x).trans (by_paira (fun k => k0_pay52 (pDvM p k x0 x1 x2 x5 x6 xs2)) 6 ![0, 768] inb_S128x1024_S128x128_0_768 rfl x).symm
    simp only [View.readAt_eq_ld, Memref.IsWhole.read_unread, ld_sl6, ld_hd12, ld_hd13, ld_sla6, ld_tab6 i p hp]
    rfl
  · refine (congrFun ?_ x).trans (by_paira (fun k => k0_pay52 (pDvM p k x0 x1 x2 x5 x6 xs2)) 5 ![0, 640] inb_S128x1024_S128x128_0_640 rfl x).symm
    simp only [View.readAt_eq_ld, Memref.IsWhole.read_unread, ld_sl5, ld_hd10, ld_hd11, ld_sla5, ld_tab5 i p hp]
    rfl
  · refine (congrFun ?_ x).trans (by_paira (fun k => k0_pay52 (pDvM p k x0 x1 x2 x5 x6 xs2)) 4 ![0, 512] inb_S128x1024_S128x128_0_512 rfl x).symm
    simp only [View.readAt_eq_ld, Memref.IsWhole.read_unread, ld_sl4, ld_hd8, ld_hd9, ld_sla4, ld_tab4 i p hp]
    rfl
  · refine (congrFun ?_ x).trans (by_paira (fun k => k0_pay52 (pDvM p k x0 x1 x2 x5 x6 xs2)) 3 ![0, 384] inb_S128x1024_S128x128_0_384 rfl x).symm
    simp only [View.readAt_eq_ld, Memref.IsWhole.read_unread, ld_sl3, ld_hd6, ld_hd7, ld_sla3, ld_tab3 i p hp]
    rfl
  · refine (congrFun ?_ x).trans (by_paira (fun k => k0_pay52 (pDvM p k x0 x1 x2 x5 x6 xs2)) 2 ![0, 256] inb_S128x1024_S128x128_0_256 rfl x).symm
    simp only [View.readAt_eq_ld, Memref.IsWhole.read_unread, ld_sl2, ld_hd4, ld_hd5, ld_sla2, ld_tab2 i p hp]
    rfl
  · refine (congrFun ?_ x).trans (by_paira (fun k => k0_pay52 (pDvM p k x0 x1 x2 x5 x6 xs2)) 1 ![0, 128] inb_S128x1024_S128x128_0_128 rfl x).symm
    simp only [View.readAt_eq_ld, Memref.IsWhole.read_unread, ld_sl1, ld_hd2, ld_hd3, ld_sla1, ld_tab1 i p hp]
    rfl
  · refine (congrFun ?_ x).trans (by_paira (fun k => k0_pay52 (pDvM p k x0 x1 x2 x5 x6 xs2)) 0 ![0, 0] inb_S128x1024_S128x128_0_0 rfl x).symm
    simp only [View.readAt_eq_ld, Memref.IsWhole.read_unread, ld_sl0, ld_hd0, ld_hd1, ld_sla0, ld_tab0 i p hp]
    rfl

end Cert.KernelIdeal.Bwd

end
end
-- ==== Proof.Bwd.Frame.lean ====
module

public import proofs.«01_k».proof.Proof.Bwd.ValA
public import proofs.«01_k».proof.Proof.Bwd.ValB
public import proofs.«01_k».proof.Proof.Bwd.ValC
public import proofs.«01_k».proof.Proof.Bwd.ValD
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold after each point, in closed form -/

/-- Which of the two bias tables the point reads: the one with the first block masked at a residue's first step. -/
def par (t : Fin cfg0.N) : Fin 2 := if t.val % 5 = 0 then 1 else 0

theorem hpar (t : Fin cfg0.N) : (if (grid0.coords t 1).val = 0 then 1 else 0) = (par t).val := by
  have e1 : (grid0.coords t 1).val = t.val / 1 % 5 := Pipeline.Grid.coords_val t 1 (by decide) rfl
  rw [Nat.div_one] at e1
  unfold par
  rw [e1]
  split <;> rfl

/-- The point before. -/
def prev (t : Fin cfg0.N) : Fin cfg0.N := ⟨t.val - 1, Nat.lt_of_le_of_lt (Nat.sub_le _ _) t.isLt⟩

/-- The last point up to `t` that computes: a residue's fifth step only writes out. -/
def src (t : Fin cfg0.N) : Fin cfg0.N := if t.val % 5 = 4 then prev t else t

theorem src_live (t : Fin cfg0.N) (h : t.val % 5 ≠ 4) : src t = t := if_neg h
theorem src_last (t : Fin cfg0.N) (h : t.val % 5 = 4) : src t = src (prev t) := by
  have h' : (prev t).val % 5 ≠ 4 := by show (t.val - 1) % 5 ≠ 4; omega
  rw [src_live _ h']; exact if_pos h

/-- The gradient of the queries that the buffer holds after point `t`. -/
def dqAt (c : Dev nD) (t : Fin cfg0.N) : Vec F S1x128x1024 .bf16 :=
  dqOut (par (src t)) (iblk m c 0 (src t)) (iblk m c 1 (src t)) (iblk m c 2 (src t)) (iblk m c 3 (src t)) (iblk m c 4 (src t)) (iblk m c 5 (src t)) (iblk m c 6 (src t)) (iblk m c 7 (src t)) biasTab
/-- What is kept for the keys' gradient after point `t`. -/
def accK (c : Dev nD) (t : Fin cfg0.N) : Vec F S128x1024 .f32 :=
  dkHi (par (src t)) (iblk m c 0 (src t)) (iblk m c 1 (src t)) (iblk m c 2 (src t)) (iblk m c 3 (src t)) (iblk m c 4 (src t)) (iblk m c 5 (src t)) (iblk m c 6 (src t)) (iblk m c 7 (src t)) biasTab
/-- What is kept for the values' gradient after point `t`. -/
def accV (c : Dev nD) (t : Fin cfg0.N) : Vec F S128x1024 .f32 :=
  dvHi (par (src t)) (iblk m c 0 (src t)) (iblk m c 1 (src t)) (iblk m c 2 (src t)) (iblk m c 5 (src t)) (iblk m c 6 (src t)) biasTab
/-- The keys' gradient that the buffer holds after point `t`. -/
def dkAt (c : Dev nD) (t : Fin cfg0.N) : Vec F S1x128x1024 .bf16 :=
  if t.val % 5 = 0 then dkOut 1 (iblk m c 0 t) (iblk m c 1 t) (iblk m c 2 t) (iblk m c 3 t) (iblk m c 4 t) (iblk m c 5 t) (iblk m c 6 t) (iblk m c 7 t) biasTab k0_pay3
  else if t.val % 5 = 4 then k0_pay5 (accK m c (prev t))
  else dkOut 0 (iblk m c 0 t) (iblk m c 1 t) (iblk m c 2 t) (iblk m c 3 t) (iblk m c 4 t) (iblk m c 5 t) (iblk m c 6 t) (iblk m c 7 t) biasTab (accK m c (prev t))
/-- The values' gradient that the buffer holds after point `t`. -/
def dvAt (c : Dev nD) (t : Fin cfg0.N) : Vec F S1x128x1024 .bf16 :=
  if t.val % 5 = 0 then dvOut 1 (iblk m c 0 t) (iblk m c 1 t) (iblk m c 2 t) (iblk m c 5 t) (iblk m c 6 t) biasTab k0_pay4
  else if t.val % 5 = 4 then k0_pay6 (accV m c (prev t))
  else dvOut 0 (iblk m c 0 t) (iblk m c 1 t) (iblk m c 2 t) (iblk m c 5 t) (iblk m c 6 t) biasTab (accV m c (prev t))

/-! ## The invariant and the proof data -/

/-- The invariant before position `n`: at first every scratch at anything, then the two accumulators and the bias
    table at what they hold after point `n - 1`. -/
def PhiS (c : Dev nD) : (n : ℕ) → n ≤ cfg0.N → sProp 𝕄
  | 0, _ => Pipeline.ΦA spec0 c
  | n + 1, hn => iprop(iprop(owns (c : Thread nD τ) scM0_0 fullShare (accK m c ⟨n, hn⟩) ∗ owns (c : Thread nD τ) scM0_1 fullShare (accV m c ⟨n, hn⟩) ∗ owns (c : Thread nD τ) scM0_2 fullShare biasTab) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (accK m c t) ∗ owns (c : Thread nD τ) scM0_1 fullShare (accV m c t) ∗ owns (c : Thread nD τ) scM0_2 fullShare biasTab) ∗ (∃ r, prngReg c r)) := rfl

theorem PhiS_pos (c : Dev nD) (t : Fin cfg0.N) (hz : t.val ≠ 0) :
    PhiS m c t.val (Nat.le_of_lt t.isLt) = iprop(iprop(owns (c : Thread nD τ) scM0_0 fullShare (accK m c (prev t)) ∗ owns (c : Thread nD τ) scM0_1 fullShare (accV m c (prev t)) ∗ owns (c : Thread nD τ) scM0_2 fullShare biasTab) ∗ (∃ r, prngReg c r)) := by
  obtain ⟨n, hn⟩ := t
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t
    | ⟨9, _⟩ => dkAt m c t
    | ⟨10, _⟩ => dvAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqAt m c t := by dsimp only [dats]
theorem after0_9 (c : Dev nD) (t : Fin cfg0.N) : (dats m 0 c).after 9 t = dkAt m c t := by dsimp only [dats]
theorem after0_10 (c : Dev nD) (t : Fin cfg0.N) : (dats m 0 c).after 10 t = dvAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_9 (c : Dev nD) (t : Fin cfg0.N) : (dats m 0 c).leavesExact 9 t = owns (c : Thread nD τ) (ms0_9 t) fullShare (dkAt m c t) := by
  have h : cond0_2 (grid0.coords t) ∨ cond0_3 (grid0.coords t) := by
    rw [hcond0_2, hcond0_3]; omega
  unfold Dat.leavesExact; rw [liveAt0_9 t h, after0_9]
theorem leaves0_10 (c : Dev nD) (t : Fin cfg0.N) : (dats m 0 c).leavesExact 10 t = owns (c : Thread nD τ) (ms0_10 t) fullShare (dvAt m c t) := by
  have h : cond0_2 (grid0.coords t) ∨ cond0_3 (grid0.coords t) := by
    rw [hcond0_2, hcond0_3]; omega
  unfold Dat.leavesExact; rw [liveAt0_10 t h, after0_10]

/-- The queries' gradient is written back at a residue's fifth step but not at its fourth. -/
theorem flush0_8_pred (t : Fin cfg0.N) (h : t.val % 5 = 4) : (cfg0.win 8).flush (prev t) = false := by
  have H : ∀ t : Fin grid0.N, t.val % 5 = 4 →
      (cfg0.win 8).flush (⟨t.val - 1, Nat.lt_of_le_of_lt (Nat.sub_le _ _) t.isLt⟩ : Fin grid0.N) = false := by decide +kernel
  exact H t h
theorem flush0_8_last (t : Fin cfg0.N) (h : t.val % 5 = 4) : (cfg0.win 8).flush t = true := by
  have H : ∀ t : Fin grid0.N, t.val % 5 = 4 → (cfg0.win 8).flush t = true := by decide +kernel
  exact H t h

theorem leaves0_8 (c : Dev nD) (t : Fin cfg0.N) : (dats m 0 c).leavesExact 8 t = owns (c : Thread nD τ) (ms0_8 t) fullShare (dqAt m c t) := by
  by_cases h : t.val % 5 ≤ 3
  · unfold Dat.leavesExact; rw [liveAt0_8 t ((hcond0_3 t).mpr h), after0_8]
  · unfold Dat.leavesExact; rw [idleAt0_8 t (fun h' => h ((hcond0_3 t).mp h')), flush0_8_last t (by omega), after0_8]

/-- At a residue's fifth step the buffer still holds the fourth step's gradient. -/
theorem before0_8_last (c : Dev nD) (t : Fin cfg0.N) (h : t.val % 5 = 4) (d) :
    (dats m 0 c).before 8 t d = dqAt m c t := by
  rw [Dat.before_of_pos (dats m 0 c) 8 t (by omega) ((cfg0.win 8).fetch_out rfl t) d]
  rw [if_neg (by rw [show (cfg0.win 8).flush ⟨t.val - 1, _⟩ = false from flush0_8_pred t h]; exact Bool.false_ne_true)]
  unfold Dat.left
  rw [show cfg0.idle 8 (cfg0.grid.coords ⟨t.val - 1, _⟩) = false from liveAt0_8 (prev t) ((hcond0_3 _).mpr (by show (t.val - 1) % 5 ≤ 3; omega))]
  show (dats m 0 c).kept 8 (prev t) d = _
  unfold Dat.kept
  rw [Pipeline.fill_of_clip_none 8 _ (fun a => by fin_cases a <;> rfl) d ((dats m 0 c).after 8 (prev t)), Window.fill_cut, after0_8]
  unfold dqAt
  rw [src_last t h]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at a point of case A. -/
theorem sound_body_A (c : Dev nD) (t : Fin cfg0.N) (hz : t.val = 0) (h0 : t.val % 80 = 0) (h1 : t.val % 5 = 0) (h2 : ¬t.val % 5 = 4) (h3 : t.val % 5 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_zero m c _ _ hz, PhiA0_eq]
  rw [show dqAt m c t = dqOut (par t) (iblk m c 0 t) (iblk m c 1 t) (iblk m c 2 t) (iblk m c 3 t) (iblk m c 4 t) (iblk m c 5 t) (iblk m c 6 t) (iblk m c 7 t) biasTab from by unfold dqAt; rw [src_live t h2]]
  rw [show accK m c t = dkHi (par t) (iblk m c 0 t) (iblk m c 1 t) (iblk m c 2 t) (iblk m c 3 t) (iblk m c 4 t) (iblk m c 5 t) (iblk m c 6 t) (iblk m c 7 t) biasTab from by unfold accK; rw [src_live t h2]]
  rw [show accV m c t = dvHi (par t) (iblk m c 0 t) (iblk m c 1 t) (iblk m c 2 t) (iblk m c 5 t) (iblk m c 6 t) biasTab from by unfold accV; rw [src_live t h2]]
  rw [show dkAt m c t = dkOut (par t) (iblk m c 0 t) (iblk m c 1 t) (iblk m c 2 t) (iblk m c 3 t) (iblk m c 4 t) (iblk m c 5 t) (iblk m c 6 t) (iblk m c 7 t) biasTab k0_pay3 from by unfold dkAt par; rw [if_pos h1, if_pos h1]]
  rw [show dvAt m c t = dvOut (par t) (iblk m c 0 t) (iblk m c 1 t) (iblk m c 2 t) (iblk m c 5 t) (iblk m c 6 t) biasTab k0_pay4 from by unfold dvAt par; rw [if_pos h1, if_pos h1]]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA c (grid0.coords t) _ _ _ _ _ _ _ _ _ _ _ _ _ _ _ _ _ _ _ _ _ _ _ _ _ _ _ _ ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) ).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact readA_LS0 (hp := hpar t) ..
      isplitl [HS1]
      · unfold owns; iexists _; isplitr
        swap; · iexact HS1
        ipureintro; exact readA_LS1 (hp := hpar t) ..
      unfold owns; iexists _; isplitr
      swap; · iexact HS2
      ipureintro; exact readA_LS2 ..
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact readA_L8 (hp := hpar t) ..
  isplitl [H9]
  · unfold owns; iexists _; isplitr
    swap; · iexact H9
    ipureintro; exact readA_L9 (hp := hpar t) ..
  unfold owns; iexists _; isplitr
  swap; · iexact H10
  ipureintro; exact readA_L10 (hp := hpar t) ..

set_option maxHeartbeats 4000000 in
/-- The body at a point of case B. -/
theorem sound_body_B (c : Dev nD) (t : Fin cfg0.N) (hz : t.val ≠ 0) (h0 : ¬t.val % 80 = 0) (h1 : ¬t.val % 5 = 0) (h2 : ¬t.val % 5 = 4) (h3 : t.val % 5 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c t hz]
  rw [show dqAt m c t = dqOut (par t) (iblk m c 0 t) (iblk m c 1 t) (iblk m c 2 t) (iblk m c 3 t) (iblk m c 4 t) (iblk m c 5 t) (iblk m c 6 t) (iblk m c 7 t) biasTab from by unfold dqAt; rw [src_live t h2]]
  rw [show accK m c t = dkHi (par t) (iblk m c 0 t) (iblk m c 1 t) (iblk m c 2 t) (iblk m c 3 t) (iblk m c 4 t) (iblk m c 5 t) (iblk m c 6 t) (iblk m c 7 t) biasTab from by unfold accK; rw [src_live t h2]]
  rw [show accV m c t = dvHi (par t) (iblk m c 0 t) (iblk m c 1 t) (iblk m c 2 t) (iblk m c 5 t) (iblk m c 6 t) biasTab from by unfold accV; rw [src_live t h2]]
  rw [show dkAt m c t = dkOut (par t) (iblk m c 0 t) (iblk m c 1 t) (iblk m c 2 t) (iblk m c 3 t) (iblk m c 4 t) (iblk m c 5 t) (iblk m c 6 t) (iblk m c 7 t) biasTab (accK m c (prev t)) from by unfold dkAt par; rw [if_neg h1, if_neg h2, if_neg h1]]
  rw [show dvAt m c t = dvOut (par t) (iblk m c 0 t) (iblk m c 1 t) (iblk m c 2 t) (iblk m c 5 t) (iblk m c 6 t) biasTab (accV m c (prev t)) from by unfold dvAt par; rw [if_neg h1, if_neg h2, if_neg h1]]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, ⟨%es0, HS0⟩, ⟨%es1, HS1⟩, HS2⟩
  isplitl [HS0 HS1 HS2 Hg]
  · isplitl [HS0 HS1 HS2]
    · isplitl [HS0]
      · unfold owns; iexists _; isplitr
        swap; · iexact HS0
        ipureintro; exact readB_LS0 (hp := hpar t) ..
      isplitl [HS1]
      · unfold owns; iexists _; isplitr
        swap; · iexact HS1
        ipureintro; exact readB_LS1 (hp := hpar t) ..
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact readB_L8 (hp := hpar t) ..
  isplitl [H9]
  · unfold owns; iexists _; isplitr
    swap; · iexact H9
    ipureintro; exact readB_L9 (hp := hpar t) ..
  unfold owns; iexists _; isplitr
  swap; · iexact H10
  ipureintro; exact readB_L10 (hp := hpar t) ..

set_option maxHeartbeats 4000000 in
/-- The body at a point of case C. -/
theorem sound_body_C (c : Dev nD) (t : Fin cfg0.N) (hz : t.val ≠ 0) (h0 : ¬t.val % 80 = 0) (h1 : ¬t.val % 5 = 0) (h2 : t.val % 5 = 4) (h3 : ¬t.val % 5 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c t hz]
  simp only [before0_8_last m c t h2]
  rw [show dkAt m c t = k0_pay5 (accK m c (prev t)) from by unfold dkAt; rw [if_neg h1, if_pos h2]]
  rw [show dvAt m c t = k0_pay6 (accV m c (prev t)) from by unfold dvAt; rw [if_neg h1, if_pos h2]]
  rw [show accK m c t = accK m c (prev t) from by unfold accK; rw [src_last t h2]]
  rw [show accV m c t = accV m c (prev t) from by unfold accV; rw [src_last t h2]]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) _ _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, H8, ⟨%e9, H9⟩, ⟨%e10, H10⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexact H8
  isplitl [H9]
  · unfold owns; iexists _; isplitr
    swap; · iexact H9
    ipureintro; exact readC_L9 ..
  unfold owns; iexists _; isplitr
  swap; · iexact H10
  ipureintro; exact readC_L10 ..

set_option maxHeartbeats 4000000 in
/-- The body at a point of case D. -/
theorem sound_body_D (c : Dev nD) (t : Fin cfg0.N) (hz : t.val ≠ 0) (h0 : ¬t.val % 80 = 0) (h1 : t.val % 5 = 0) (h2 : ¬t.val % 5 = 4) (h3 : t.val % 5 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c t hz]
  rw [show dqAt m c t = dqOut (par t) (iblk m c 0 t) (iblk m c 1 t) (iblk m c 2 t) (iblk m c 3 t) (iblk m c 4 t) (iblk m c 5 t) (iblk m c 6 t) (iblk m c 7 t) biasTab from by unfold dqAt; rw [src_live t h2]]
  rw [show accK m c t = dkHi (par t) (iblk m c 0 t) (iblk m c 1 t) (iblk m c 2 t) (iblk m c 3 t) (iblk m c 4 t) (iblk m c 5 t) (iblk m c 6 t) (iblk m c 7 t) biasTab from by unfold accK; rw [src_live t h2]]
  rw [show accV m c t = dvHi (par t) (iblk m c 0 t) (iblk m c 1 t) (iblk m c 2 t) (iblk m c 5 t) (iblk m c 6 t) biasTab from by unfold accV; rw [src_live t h2]]
  rw [show dkAt m c t = dkOut (par t) (iblk m c 0 t) (iblk m c 1 t) (iblk m c 2 t) (iblk m c 3 t) (iblk m c 4 t) (iblk m c 5 t) (iblk m c 6 t) (iblk m c 7 t) biasTab k0_pay3 from by unfold dkAt par; rw [if_pos h1, if_pos h1]]
  rw [show dvAt m c t = dvOut (par t) (iblk m c 0 t) (iblk m c 1 t) (iblk m c 2 t) (iblk m c 5 t) (iblk m c 6 t) biasTab k0_pay4 from by unfold dvAt par; rw [if_pos h1, if_pos h1]]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runD c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexists _; iexact HS0
  isplitl [HS1]; · iexists _; iexact HS1
  isplitl [HS2]; · iexact HS2
  iintro ⟨H0, H1, H2, H3, H4, H5, H6, H7, ⟨%e8, H8⟩, ⟨%e9, H9⟩, ⟨%e10, H10⟩, ⟨%es0, HS0⟩, ⟨%es1, HS1⟩, HS2⟩
  isplitl [HS0 HS1 HS2 Hg]
  · isplitl [HS0 HS1 HS2]
    · isplitl [HS0]
      · unfold owns; iexists _; isplitr
        swap; · iexact HS0
        ipureintro; exact readD_LS0 (hp := hpar t) ..
      isplitl [HS1]
      · unfold owns; iexists _; isplitr
        swap; · iexact HS1
        ipureintro; exact readD_LS1 (hp := hpar t) ..
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact readD_L8 (hp := hpar t) ..
  isplitl [H9]
  · unfold owns; iexists _; isplitr
    swap; · iexact H9
    ipureintro; exact readD_L9 (hp := hpar t) ..
  unfold owns; iexists _; isplitr
  swap; · iexact H10
  ipureintro; exact readD_L10 (hp := hpar t) ..

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  by_cases hz : t.val = 0
  · exact sound_body_A m c t hz (by omega) (by omega) (by omega) (by omega)
  · by_cases h1 : t.val % 5 = 0
    · exact sound_body_D m c t hz (by omega) h1 (by omega) (by omega)
    · by_cases h2 : t.val % 5 = 4
      · exact sound_body_C m c t hz (by omega) h1 h2 (by omega)
      · exact sound_body_B m c t hz (by omega) h1 h2 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scratch back, its contents forgotten. -/
theorem hout (c : Dev nD) : (dats m 0 c).Φ (Fin.last cfg0.N) ⊢ Pipeline.ΦA spec0 c := by
  rw [show (dats m 0 c).Φ (Fin.last cfg0.N) = iprop(iprop(owns (c : Thread nD τ) scM0_0 fullShare (accK m c ⟨79, by decide⟩) ∗ owns (c : Thread nD τ) scM0_1 fullShare (accV m c ⟨79, by decide⟩) ∗ owns (c : Thread nD τ) scM0_2 fullShare biasTab) ∗ (∃ r, prngReg c r)) from rfl, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Bwd

end
-- ==== Proof.Attn.KPay.lean ====
/- The backward kernel's payloads, read at an index, as real numbers. -/
module

public import proofs.«01_k».proof.Proof.Bwd.Bias
public import proofs.«01_k».proof.Proof.Attn.Spec

@[expose] public section

set_option maxRecDepth 16384

noncomputable section

namespace Cert.KernelIdeal.Value

open Cert.KernelIdeal Cert.KernelIdeal.Gen Cert.KernelIdeal.Bwd Idealize.ShloMosaic Idealize.ShloMosaic.TcCoe
open Cert.Attn hiding hd

theorem slt_eq (x y : BitVec 32) : IntOp.cmpi .slt x y = BitVec.ofBool (x.toInt < y.toInt) := by
  first
  | rfl
  | (unfold IntOp.cmpi; simp [BitVec.slt])

/-- The head that row `i` of a pair's two stacked heads belongs to. -/
def head (k : Fin 8) (i : Fin 256) : Fin 16 := ⟨2 * k.val + i.val / 128, by omega⟩
/-- The query of row `i`. -/
def qq (i : Fin 256) : Fin 128 := ⟨i.val % 128, by omega⟩
/-- The column of lane `l` of a pair. -/
def lane (k : Fin 8) (l : Fin 128) : Fin 1024 := ⟨128 * k.val + l.val, by omega⟩

theorem cat_at (x y : FVec Ideal S128x128 .bf16) (i : Fin 256) (l : Fin 128) :
    (concatenate S256x128 0 [⟨S128x128, x⟩, ⟨S128x128, y⟩] concatenates_S128x128_S128x128_S256x128_d0 : FVec Ideal S256x128 .bf16) (ix2 i l)
      = if i.val < 128 then x (ix2 (qq i) l) else y (ix2 (qq i) l) := by
  pointwise
  by_cases hi : i.val < 128
  · have e : qq i = ⟨i.val, hi⟩ := Fin.ext (Nat.mod_eq_of_lt hi)
    simp only [hi, e, if_true, dite_true]
  · have e : qq i = ⟨i.val - 128, by omega⟩ := Fin.ext (show i.val % 128 = i.val - 128 by omega)
    simp only [hi, e, if_false, dite_false]

theorem catc_at (x y : FVec Ideal S128x1 .f32) (i : Fin 256) :
    (concatenate S256x1 0 [⟨S128x1, x⟩, ⟨S128x1, y⟩] concatenates_S128x1_S128x1_S256x1_d0 : FVec Ideal S256x1 .f32) (ix2 i 0)
      = if i.val < 128 then x (ix2 (qq i) 0) else y (ix2 (qq i) 0) := by
  pointwise
  by_cases hi : i.val < 128
  · have e : qq i = ⟨i.val, hi⟩ := Fin.ext (Nat.mod_eq_of_lt hi)
    simp only [hi, e, if_true, dite_true]
  · have e : qq i = ⟨i.val - 128, by omega⟩ := Fin.ext (show i.val % 128 = i.val - 128 by omega)
    simp only [hi, e, if_false, dite_false]

theorem catb_at (x y : FVec Ideal S128x256 .f32) (i j : Fin 256) :
    (concatenate S256x256 0 [⟨S128x256, x⟩, ⟨S128x256, y⟩] concatenates_S128x256_S128x256_S256x256_d0 : FVec Ideal S256x256 .f32) (ix2 i j)
      = if i.val < 128 then x (ix2 (qq i) j) else y (ix2 (qq i) j) := by
  pointwise
  by_cases hi : i.val < 128
  · have e : qq i = ⟨i.val, hi⟩ := Fin.ext (Nat.mod_eq_of_lt hi)
    simp only [hi, e, if_true, dite_true]
  · have e : qq i = ⟨i.val - 128, by omega⟩ := Fin.ext (show i.val % 128 = i.val - 128 by omega)
    simp only [hi, e, if_false, dite_false]

theorem seen0 (q : Fin 128) (j : Fin 256) : seen 0 (ix2 q j) = 1#1 ↔ q.val ≤ j.val ∧ j.val ≤ q.val + 128 := by
  unfold seen
  dsimp only
  unfold k0_pay13 k0_pay11
  pointwise
  exact band_iff q j

theorem seen1 (q : Fin 128) (j : Fin 256) : seen 1 (ix2 q j) = 1#1 ↔ (q.val ≤ j.val ∧ j.val ≤ q.val + 128) ∧ 128 ≤ j.val := by
  unfold seen
  dsimp only
  unfold k0_pay25 k0_pay13 k0_pay11
  pointwise
  refine (andi_iff _ _).trans (and_congr (band_iff q j) ?_)
  rw [sge_eq, ofBool_iff, nat_toInt _ j.isLt, show (128#32).toInt = 128 from rfl]
  omega

/-- The bias table that block `n` uses. -/
def parB (n : Fin 4) : Fin 2 := if n.val = 0 then 1 else 0

theorem seen_ok (n : Fin 4) (q : Fin 128) (j : Fin 256) : seen (parB n) (ix2 q j) = 1#1 ↔ ok n q j := by
  unfold parB ok
  split
  · rw [seen1]; omega
  · rw [seen0]; omega

theorem dist_at (q : Fin 128) (j : Fin 256) : IsR ((k0_pay12 (F := Ideal)) (ix2 q j)) (16 * ((q.val : ℝ) + 128 - j.val)) := by
  unfold k0_pay12 k0_pay11
  pointwise
  refine (Ideal.scalar_sitofp_def (φ := .f32) _).trans ?_
  have hm : IntOp.muli (IntOp.subi (IntOp.addi (BitVec.ofNat 32 q.val) 128#32) (BitVec.ofNat 32 j.val)) 16#32
      = IntOp.muli 16#32 (IntOp.subi (IntOp.addi (BitVec.ofNat 32 q.val) 128#32) (BitVec.ofNat 32 j.val)) := BitVec.mul_comm _ _
  rw [hm, dist_toInt]
  push_cast
  rfl

theorem slope_eq (h : Fin 16) : (slope h : Ideal .f32) = ((slopeR h : ℝ) : EReal) := slopeR_coe h

theorem biasHead_at (n : Fin 4) (h : Fin 16) (q : Fin 128) (j : Fin 256) :
    (biasHead (F := Ideal) (parB n) h) (ix2 q j) = if ok n q j then ((-(slopeR h * (16 * ((q.val : ℝ) + 128 - j.val))) : ℝ) : EReal) else ⊥ := by
  unfold biasHead
  pointwise
  rw [slope_eq, dist_at]
  have hm : (Named.named κ "mask" 0xF149F2CA#32 : Ideal .f32) = ⊥ := rfl
  rw [hm]
  unfold Scalar.select
  by_cases ho : ok n q j
  · refine (if_pos ((seen_ok n q j).mpr ho)).trans ?_
    rw [if_pos ho, ← EReal.coe_mul, ← EReal.coe_zero, ← EReal.coe_sub, zero_sub]
  · refine (if_neg (fun hc => ho ((seen_ok n q j).mp hc))).trans ?_
    rw [if_neg ho]

theorem bias_at (n : Fin 4) (k : Fin 8) (i j : Fin 256) :
    (biasPair (F := Ideal) (parB n) k) (ix4 0 0 i j) = if ok n (qq i) j then ((-(slopeR (head k i) * (16 * (((qq i).val : ℝ) + 128 - j.val))) : ℝ) : EReal) else ⊥ := by
  have e : (biasPair (F := Ideal) (parB n) k) (ix4 0 0 i j) = if i.val < 128 then biasHead (F := Ideal) (parB n) (h0 k) (ix2 (qq i) j) else biasHead (F := Ideal) (parB n) (h1 k) (ix2 (qq i) j) := by
    refine Eq.trans ?_ (catb_at _ _ i j)
    unfold biasPair
    generalize (concatenate S256x256 0 _ _ : FVec Ideal S256x256 .f32) = z
    pointwise
  rw [e, biasHead_at, biasHead_at]
  by_cases hi : i.val < 128
  · have e : head k i = h0 k := Fin.ext (show 2 * k.val + i.val / 128 = 2 * k.val by omega)
    rw [if_pos hi, e]
  · have e : head k i = h1 k := Fin.ext (show 2 * k.val + i.val / 128 = 2 * k.val + 1 by omega)
    rw [if_neg hi, e]

theorem half_at (l r : Fin 128) : k0_pay37 (ix2 r l) = 1#1 ↔ l.val < 64 := by
  unfold k0_pay37
  pointwise
  rw [slt_eq, ofBool_iff, nat_toInt _ (by omega), show (64#32).toInt = 64 from rfl]
  omega

theorem half_sel (i : Fin 256) (l r : Fin 128) (y : EReal) (y' : ℝ) (hy : y = (y' : EReal)) :
    (if i.val < 128 then Scalar.select (k0_pay37 (ix2 r l)) y 0 else Scalar.select (k0_pay37 (ix2 r l)) 0 y)
      = ((if i.val / 128 = l.val / 64 then y' else 0 : ℝ) : EReal) := by
  unfold Scalar.select
  subst hy
  by_cases hl : l.val < 64
  · have hw := (half_at l r).mpr hl
    by_cases hi : i.val < 128
    · rw [if_pos hi, if_pos (show i.val / 128 = l.val / 64 by omega)]; exact if_pos hw
    · rw [if_neg hi, if_neg (show ¬ i.val / 128 = l.val / 64 by omega)]; exact if_pos hw
  · have hw : ¬ k0_pay37 (ix2 r l) = 1#1 := fun hc => hl ((half_at l r).mp hc)
    by_cases hi : i.val < 128
    · rw [if_pos hi, if_neg (show ¬ i.val / 128 = l.val / 64 by omega)]; exact if_neg hw
    · rw [if_neg hi, if_pos (show i.val / 128 = l.val / 64 by omega)]; exact if_neg hw

theorem sum_lane (s : ℕ) (hs : s < 2) (f : Fin 128 → ℝ) :
    ∑ l : Fin 128, (if s = l.val / 64 then f l else 0) = ∑ d : Fin 64, f ⟨64 * s + d.val, by omega⟩ := by
  rw [show (∑ l : Fin 128, (if s = l.val / 64 then f l else 0)) = ∑ l : Fin (64 + 64), (if s = l.val / 64 then f l else 0) from rfl, Fin.sum_univ_add]
  simp only [Fin.val_castAdd, Fin.val_natAdd]
  have e0 : ∀ d : Fin 64, d.val / 64 = 0 := fun d => by omega
  have e1 : ∀ d : Fin 64, (64 + d.val) / 64 = 1 := fun d => by omega
  simp only [e0, e1]
  interval_cases s
  · simp only [if_true, Nat.zero_ne_one, if_false, Finset.sum_const_zero, add_zero]
    exact Finset.sum_congr rfl fun d _ => congrArg f (Fin.ext (show d.val = 64 * 0 + d.val by omega))
  · simp only [if_true, Nat.one_ne_zero, if_false, Finset.sum_const_zero, zero_add]
    exact Finset.sum_congr rfl fun d _ => congrArg f (Fin.ext (show 64 + d.val = 64 * 1 + d.val by omega))

theorem sum_rows (s : ℕ) (hs : s < 2) (f : Fin 256 → ℝ) :
    ∑ i : Fin 256, (if i.val / 128 = s then f i else 0) = ∑ q : Fin 128, f ⟨128 * s + q.val, by omega⟩ := by
  rw [show (∑ i : Fin 256, (if i.val / 128 = s then f i else 0)) = ∑ i : Fin (128 + 128), (if i.val / 128 = s then f i else 0) from rfl, Fin.sum_univ_add]
  simp only [Fin.val_castAdd, Fin.val_natAdd]
  have e0 : ∀ d : Fin 128, d.val / 128 = 0 := fun d => by omega
  have e1 : ∀ d : Fin 128, (128 + d.val) / 128 = 1 := fun d => by omega
  simp only [e0, e1]
  interval_cases s
  · simp only [if_true, Nat.one_ne_zero, if_false, Finset.sum_const_zero, add_zero]
    exact Finset.sum_congr rfl fun d _ => congrArg f (Fin.ext (show d.val = 128 * 0 + d.val by omega))
  · simp only [if_true, Nat.zero_ne_one, if_false, Finset.sum_const_zero, zero_add]
    exact Finset.sum_congr rfl fun d _ => congrArg f (Fin.ext (show 128 + d.val = 128 * 1 + d.val by omega))

theorem lane_col (k : Fin 8) (i : Fin 256) (d : Fin 64) : lane k ⟨64 * (i.val / 128) + d.val, by omega⟩ = col (head k i) d := by
  apply Fin.ext
  show 128 * k.val + (64 * (i.val / 128) + d.val) = (2 * k.val + i.val / 128) * 64 + d.val
  omega

theorem lane_head (k : Fin 8) (l q : Fin 128) : head k ⟨128 * (l.val / 64) + q.val, by omega⟩ = Attn.hd (lane k l) :=
  Fin.ext (show 2 * k.val + (128 * (l.val / 64) + q.val) / 128 = (128 * k.val + l.val) / 64 by omega)

theorem row_qq (l q : Fin 128) : qq ⟨128 * (l.val / 64) + q.val, by omega⟩ = q :=
  Fin.ext (show (128 * (l.val / 64) + q.val) % 128 = q.val by omega)

theorem lane_el (k : Fin 8) (l : Fin 128) : col (Attn.hd (lane k l)) (el (lane k l)) = lane k l :=
  Fin.ext (show (128 * k.val + l.val) / 64 * 64 + (128 * k.val + l.val) % 64 = 128 * k.val + l.val by omega)

/-- A block's operands, as real numbers; `kp` and `up` are the keys and values of the block before. -/
structure Ins (X : Data) (a : Fin 16) (n : Fin 4) (kp up : Fin 128 → Fin 1024 → ℝ) (x0 x1 x2 x3 x4 x5 : Vec Ideal S1x128x1024 .bf16) (x6 x7 : Vec Ideal S1x128x128 .f32) : Prop where
  q : ∀ r c, IsR (x0 (ix3 0 r c)) (X.Q a (pos n r) c)
  k1 : ∀ r c, IsR (x1 (ix3 0 r c)) (kp r c)
  k2 : ∀ r c, IsR (x2 (ix3 0 r c)) (X.K a (pos n r) c)
  u1 : ∀ r c, IsR (x3 (ix3 0 r c)) (up r c)
  u2 : ∀ r c, IsR (x4 (ix3 0 r c)) (X.U a (pos n r) c)
  c : ∀ r c, IsR (x5 (ix3 0 r c)) (X.C a (pos n r) c)
  l : ∀ r (h : Fin 16), IsR (x6 (ix3 0 r ⟨h.val, by omega⟩)) (Real.log (X.Z a n h r))
  t : ∀ r (h : Fin 16), IsR (x7 (ix3 0 r ⟨h.val, by omega⟩)) (X.T a n h r)
  kw : ∀ (r : Fin 128) c (hn : 0 < n.val), kp r c = X.K a ⟨n.val * 128 + r.val - 128, by omega⟩ c
  uw : ∀ (r : Fin 128) c (hn : 0 < n.val), up r c = X.U a ⟨n.val * 128 + r.val - 128, by omega⟩ c
  sl : X.slope = slopeR

/-- The two blocks of rows one above the other. -/
def both (kp : Fin 128 → Fin 1024 → ℝ) (K : Fin 16 → Fin 512 → Fin 1024 → ℝ) (a : Fin 16) (n : Fin 4) (i : Fin 256) (c : Fin 1024) : ℝ :=
  if i.val < 128 then kp (qq i) c else K a (pos n (qq i)) c

section
variable {X : Data} {a : Fin 16} {n : Fin 4} {kp up : Fin 128 → Fin 1024 → ℝ} {x0 x1 x2 x3 x4 x5 : Vec Ideal S1x128x1024 .bf16} {x6 x7 : Vec Ideal S1x128x128 .f32}
  (I : Ins X a n kp up x0 x1 x2 x3 x4 x5 x6 x7)
include I

theorem qs_at (k : Fin 8) (i : Fin 256) (l : Fin 128) :
    IsR ((k0_pay38 (F := Ideal) (Bwd.sl k x0)) (ix2 i l)) (if i.val / 128 = l.val / 64 then X.Q a (pos n (qq i)) (lane k l) * (1 / 8) else 0) := by
  unfold k0_pay38
  refine (cat_at _ _ i l).trans ?_
  have hq : Bwd.sl k x0 (ix3 0 (qq i) l) = _ := I.q (qq i) (lane k l)
  pointwise
  rw [hq]
  exact half_sel i l _ _ _ (by rw [eighth_bf16, ← EReal.coe_mul])

theorem cs_at (k : Fin 8) (i : Fin 256) (l : Fin 128) :
    IsR ((k0_pay39 (F := Ideal) (Bwd.sl k x5)) (ix2 i l)) (if i.val / 128 = l.val / 64 then X.C a (pos n (qq i)) (lane k l) else 0) := by
  unfold k0_pay39
  refine (cat_at _ _ i l).trans ?_
  have hq : Bwd.sl k x5 (ix3 0 (qq i) l) = _ := I.c (qq i) (lane k l)
  pointwise
  rw [hq]
  exact half_sel i l _ _ _ rfl

theorem ks_at (k : Fin 8) (i : Fin 256) (l : Fin 128) :
    IsR ((k0_pay40 (F := Ideal) (Bwd.sl k x1) (Bwd.sl k x2)) (ix2 i l)) (both kp X.K a n i (lane k l)) := by
  unfold k0_pay40
  refine (cat_at _ _ i l).trans ?_
  have e1 : Bwd.sl k x1 (ix3 0 (qq i) l) = _ := I.k1 (qq i) (lane k l)
  have e2 : Bwd.sl k x2 (ix3 0 (qq i) l) = _ := I.k2 (qq i) (lane k l)
  pointwise
  rw [e1, e2]
  unfold both
  split <;> rfl

theorem us_at (k : Fin 8) (i : Fin 256) (l : Fin 128) :
    IsR ((k0_pay41 (F := Ideal) (Bwd.sl k x3) (Bwd.sl k x4)) (ix2 i l)) (both up X.U a n i (lane k l)) := by
  unfold k0_pay41
  refine (cat_at _ _ i l).trans ?_
  have e1 : Bwd.sl k x3 (ix3 0 (qq i) l) = _ := I.u1 (qq i) (lane k l)
  have e2 : Bwd.sl k x4 (ix3 0 (qq i) l) = _ := I.u2 (qq i) (lane k l)
  pointwise
  rw [e1, e2]
  unfold both
  split <;> rfl

omit I in
theorem both_win (K : Fin 16 → Fin 512 → Fin 1024 → ℝ) (kp : Fin 128 → Fin 1024 → ℝ)
    (hk : ∀ (r : Fin 128) c (hn : 0 < n.val), kp r c = K a ⟨n.val * 128 + r.val - 128, by omega⟩ c) (h : Fin 16) (q : Fin 128) (j : Fin 256) (ho : ok n q j) (d : Fin 64) :
    both kp K a n j (col h d) = win K a n h j d := by
  have ho' := ho.2.2
  unfold both win
  rw [dif_pos ho']
  by_cases hj : j.val < 128
  · rw [if_pos hj, hk _ _ (by omega)]
    congr 1
    exact Fin.ext (show n.val * 128 + j.val % 128 - 128 = n.val * 128 + j.val - 128 by omega)
  · rw [if_neg hj]
    congr 1
    exact Fin.ext (show n.val * 128 + j.val % 128 = n.val * 128 + j.val - 128 by omega)

theorem col_l (k : Fin 8) (i : Fin 256) :
    (concatenate S256x1 0 [⟨S128x1, k0_pay42 (F := Ideal) (Bwd.hd (h0 k) x6)⟩, ⟨S128x1, shapeCast S128x1 (Bwd.hd (h1 k) x6) shapeCasts_S1x128x1_S128x1⟩] concatenates_S128x1_S128x1_S256x1_d0 : FVec Ideal S256x1 .f32) (ix2 i 0)
      = ((Real.log (X.Z a n (head k i) (qq i)) : ℝ) : EReal) := by
  refine (catc_at _ _ i).trans ?_
  have e1 : Bwd.hd (h0 k) x6 (ix3 0 (qq i) 0) = _ := I.l (qq i) (h0 k)
  have e2 : Bwd.hd (h1 k) x6 (ix3 0 (qq i) 0) = _ := I.l (qq i) (h1 k)
  unfold k0_pay42
  pointwise
  rw [e1, e2]
  by_cases hi : i.val < 128
  · have e : head k i = h0 k := Fin.ext (show 2 * k.val + i.val / 128 = 2 * k.val by omega)
    rw [if_pos hi, e]
  · have e : head k i = h1 k := Fin.ext (show 2 * k.val + i.val / 128 = 2 * k.val + 1 by omega)
    rw [if_neg hi, e]

theorem col_t (k : Fin 8) (i : Fin 256) :
    (concatenate S256x1 0 [⟨S128x1, shapeCast S128x1 (Bwd.hd (h0 k) x7) shapeCasts_S1x128x1_S128x1⟩, ⟨S128x1, shapeCast S128x1 (Bwd.hd (h1 k) x7) shapeCasts_S1x128x1_S128x1⟩] concatenates_S128x1_S128x1_S256x1_d0 : FVec Ideal S256x1 .f32) (ix2 i 0)
      = ((X.T a n (head k i) (qq i) : ℝ) : EReal) := by
  refine (catc_at _ _ i).trans ?_
  have e1 : Bwd.hd (h0 k) x7 (ix3 0 (qq i) 0) = _ := I.t (qq i) (h0 k)
  have e2 : Bwd.hd (h1 k) x7 (ix3 0 (qq i) 0) = _ := I.t (qq i) (h1 k)
  pointwise
  rw [e1, e2]
  by_cases hi : i.val < 128
  · have e : head k i = h0 k := Fin.ext (show 2 * k.val + i.val / 128 = 2 * k.val by omega)
    rw [if_pos hi, e]
  · have e : head k i = h1 k := Fin.ext (show 2 * k.val + i.val / 128 = 2 * k.val + 1 by omega)
    rw [if_neg hi, e]

/-- The weights of a pair of heads. -/
abbrev pA (k : Fin 8) (n : Fin 4) (x0 x1 x2 : Vec Ideal S1x128x1024 .bf16) (x6 : Vec Ideal S1x128x128 .f32) : FVec Ideal S256x256 .f32 :=
  k0_pay43 (k0_pay38 (Bwd.sl k x0)) (k0_pay40 (Bwd.sl k x1) (Bwd.sl k x2)) (k0_pay42 (Bwd.hd (h0 k) x6)) (Bwd.hd (h1 k) x6) (tab (parB n) k biasTab)

/-- The gradients of the scores of a pair of heads. -/
abbrev pG (k : Fin 8) (n : Fin 4) (x0 x1 x2 x3 x4 x5 : Vec Ideal S1x128x1024 .bf16) (x6 x7 : Vec Ideal S1x128x128 .f32) : FVec Ideal S256x256 .bf16 :=
  k0_pay44 (k0_pay38 (Bwd.sl k x0)) (k0_pay39 (Bwd.sl k x5)) (k0_pay40 (Bwd.sl k x1) (Bwd.sl k x2)) (k0_pay41 (Bwd.sl k x3) (Bwd.sl k x4))
    (k0_pay42 (Bwd.hd (h0 k) x6)) (Bwd.hd (h1 k) x6) (Bwd.hd (h0 k) x7) (Bwd.hd (h1 k) x7) (tab (parB n) k biasTab)

theorem sum_qk (k : Fin 8) (i j : Fin 256) (ho : ok n (qq i) j) :
    ∑ l : Fin 128, (if i.val / 128 = l.val / 64 then X.Q a (pos n (qq i)) (lane k l) * (1 / 8) else 0) * both kp X.K a n j (lane k l)
      = (∑ d, X.Q a (pos n (qq i)) (col (head k i) d) * win X.K a n (head k i) j d) * (1 / 8) := by
  simp only [ite_mul, zero_mul]
  rw [sum_lane (i.val / 128) (by omega), Finset.sum_mul]
  refine Finset.sum_congr rfl fun d _ => ?_
  rw [lane_col, both_win X.K kp I.kw _ _ _ ho]
  ring

theorem sum_cu (k : Fin 8) (i j : Fin 256) (ho : ok n (qq i) j) :
    ∑ l : Fin 128, (if i.val / 128 = l.val / 64 then X.C a (pos n (qq i)) (lane k l) else 0) * both up X.U a n j (lane k l)
      = ∑ d, X.C a (pos n (qq i)) (col (head k i) d) * win X.U a n (head k i) j d := by
  simp only [ite_mul, zero_mul]
  rw [sum_lane (i.val / 128) (by omega)]
  refine Finset.sum_congr rfl fun d _ => ?_
  rw [lane_col, both_win X.U up I.uw _ _ _ ho]

theorem pA_at (k : Fin 8) (i j : Fin 256) : IsR (pA k n x0 x1 x2 x6 (ix2 i j)) (X.A a n (head k i) (qq i) j) := by
  have hl := col_l I k i
  have hb := bias_at n k i j
  unfold pA
  rw [tab_biasTab]
  unfold k0_pay43
  generalize (concatenate S256x1 0 _ _ : FVec Ideal S256x1 .f32) = cl at hl ⊢
  generalize biasPair (F := Ideal) (parB n) k = b at hb ⊢
  pointwise
  simp only [qs_at I, ks_at I, ← EReal.coe_mul, coe_sum]
  rw [hl, hb]
  by_cases ho : ok n (qq i) j
  · rw [if_pos ho, sum_qk I k i j ho, ← EReal.coe_add, ← EReal.coe_sub, Ideal.exp_coe]
    refine congrArg _ ?_
    rw [Real.exp_sub, Real.exp_log (X.Z_pos _ _ _ _)]
    unfold Data.A Data.E Data.S
    rw [if_pos ho, I.sl, ← sub_eq_add_neg]
  · rw [if_neg ho, EReal.add_bot, EReal.bot_sub, exp_bot]
    unfold Data.A Data.E
    rw [if_neg ho, zero_div]
    exact EReal.coe_zero.symm

theorem pG_at (k : Fin 8) (i j : Fin 256) : IsR (pG k n x0 x1 x2 x3 x4 x5 x6 x7 (ix2 i j)) (X.G a n (head k i) (qq i) j) := by
  have ht := col_t I k i
  have ha := pA_at I k i j
  unfold pG
  unfold pA at ha
  unfold k0_pay44
  generalize (concatenate S256x1 0 _ _ : FVec Ideal S256x1 .f32) = ct at ht ⊢
  generalize (k0_pay43 _ _ _ _ _ : FVec Ideal S256x256 .f32) = pa at ha ⊢
  pointwise
  simp only [cs_at I, us_at I, ← EReal.coe_mul, coe_sum]
  rw [ht, ha]
  by_cases ho : ok n (qq i) j
  · rw [sum_cu I k i j ho, ← EReal.coe_sub, ← EReal.coe_mul]
    rfl
  · rw [← EReal.coe_sub, ← EReal.coe_mul, X.G_of_not _ _ _ _ _ ho]
    unfold Data.A Data.E
    rw [if_neg ho, zero_div, zero_mul]

theorem pDkM_at (k : Fin 8) (j : Fin 256) (l : Fin 128) :
    IsR (pDkM (F := Ideal) (parB n) k x0 x1 x2 x3 x4 x5 x6 x7 biasTab (ix2 j l)) (X.DKW a n (Attn.hd (lane k l)) j (el (lane k l))) := by
  have hg := fun i => pG_at I k i j
  unfold pDkM k0_pay45
  unfold pG at hg
  generalize (k0_pay44 _ _ _ _ _ _ _ _ _ : FVec Ideal S256x256 .bf16) = pg at hg ⊢
  pointwise
  simp only [hg, qs_at I, ← EReal.coe_mul, coe_sum]
  refine congrArg _ ?_
  simp only [mul_ite, mul_zero]
  rw [sum_rows (l.val / 64) (by omega)]
  unfold Data.DKW
  refine Finset.sum_congr rfl fun q _ => ?_
  rw [lane_head, row_qq, lane_el]

theorem pDvM_at (k : Fin 8) (j : Fin 256) (l : Fin 128) :
    IsR (pDvM (F := Ideal) (parB n) k x0 x1 x2 x5 x6 biasTab (ix2 j l)) (X.DUW a n (Attn.hd (lane k l)) j (el (lane k l))) := by
  have hg := fun i => pA_at I k i j
  unfold pDvM k0_pay46
  unfold pA at hg
  generalize (k0_pay43 _ _ _ _ _ : FVec Ideal S256x256 .f32) = pg at hg ⊢
  pointwise
  simp only [hg, cs_at I, ← EReal.coe_mul, coe_sum]
  refine congrArg _ ?_
  simp only [mul_ite, mul_zero]
  rw [sum_rows (l.val / 64) (by omega)]
  unfold Data.DUW
  refine Finset.sum_congr rfl fun q _ => ?_
  rw [lane_head, row_qq, lane_el]

theorem pDq_at (k : Fin 8) (r l : Fin 128) :
    IsR (pDq (F := Ideal) (parB n) k x0 x1 x2 x3 x4 x5 x6 x7 biasTab (ix3 0 r l)) (X.DQ a n (Attn.hd (lane k l)) r (el (lane k l))) := by
  have hg := pG_at I k
  unfold pDq k0_pay47
  unfold pG at hg
  generalize (k0_pay44 _ _ _ _ _ _ _ _ _ : FVec Ideal S256x256 .bf16) = pg at hg ⊢
  pointwise
  simp only [hg, ks_at I, ← EReal.coe_mul, coe_sum]
  have key : ∀ i : Fin 256, i.val / 128 = l.val / 64 → qq i = r →
      ((∑ j, X.G a n (head k i) (qq i) j * both kp X.K a n j (lane k l) : ℝ) : EReal) * ((1 / 8 : ℝ) : EReal) = ((X.DQ a n (Attn.hd (lane k l)) r (el (lane k l)) : ℝ) : EReal) := by
    intro i hi hr
    have eh : head k i = Attn.hd (lane k l) := Fin.ext (show 2 * k.val + i.val / 128 = (128 * k.val + l.val) / 64 by omega)
    rw [← EReal.coe_mul, hr, eh]
    unfold Data.DQ
    refine congrArg _ (congrArg (· * (1 / 8 : ℝ)) (Finset.sum_congr rfl fun j _ => ?_))
    by_cases ho : ok n r j
    · have := both_win (a := a) X.K kp I.kw (Attn.hd (lane k l)) r j ho (el (lane k l))
      rw [lane_el] at this
      rw [this]
    · rw [X.G_of_not _ _ _ _ _ ho, zero_mul, zero_mul]
  rw [eighth]
  unfold Scalar.select
  by_cases hl : l.val < 64
  · refine (congrArg (· * ((1 / 8 : ℝ) : EReal)) (if_pos ((half_at l r).mpr hl))).trans ?_
    exact key ⟨r.val, by omega⟩ (show r.val / 128 = l.val / 64 by omega) (Fin.ext (show r.val % 128 = r.val by omega))
  · refine (congrArg (· * ((1 / 8 : ℝ) : EReal)) (if_neg fun hc => hl ((half_at l r).mp hc))).trans ?_
    exact key ⟨128 + r.val, by omega⟩ (show (128 + r.val) / 128 = l.val / 64 by omega) (Fin.ext (show (128 + r.val) % 128 = r.val by omega))

end

end Cert.KernelIdeal.Value

end
end
-- ==== Proof.Attn.KPre.lean ====
/- What the host operations before the attention's kernel compute, read at an index, as real numbers. -/
module

public import proofs.«01_k».proof.Proof.Attn.Spec
public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.KernelIdeal.Value

open Cert.KernelIdeal Cert.KernelIdeal.Gen Idealize.ShloMosaic Idealize.ShloMosaic.TcCoe Idealize.ShloMosaic.StableHlo
open Cert.Attn

section
variable {F : FTy → Type} [FloatOps F] [Named F]

/-- Host operations of one stage. -/
abbrev opsP0 : List (HloOp τ sig (Elt F)) :=
  [ StableHlo.nullary main_c (fun i => lit0 (S4x1x1.rowMajor i)),
    StableHlo.nullary main_cst (fun i => FloatOps.ofBits .f32 (lit1 (S16x1x1.rowMajor i))),
    StableHlo.unary main_arg0 main_v0 ((extf .f32 · bitsLt_bf16_f32) : (⟨S16x512x1024, .bf16⟩ : BufTy).Contents (Elt F) → (⟨S16x512x1024, .f32⟩ : BufTy).Contents (Elt F)),
    StableHlo.reshape main_v0 main_v1 (rfl : (.f32 : EltTy) = .f32) shapeCasts_S16x512x1024_S16x512x16x64,
    StableHlo.unary main_arg1 main_v2 ((extf .f32 · bitsLt_bf16_f32) : (⟨S16x512x1024, .bf16⟩ : BufTy).Contents (Elt F) → (⟨S16x512x1024, .f32⟩ : BufTy).Contents (Elt F)),
    StableHlo.reshape main_v2 main_v3 (rfl : (.f32 : EltTy) = .f32) shapeCasts_S16x512x1024_S16x512x16x64,
    StableHlo.unary main_arg2 main_v4 ((extf .f32 · bitsLt_bf16_f32) : (⟨S16x512x1024, .bf16⟩ : BufTy).Contents (Elt F) → (⟨S16x512x1024, .f32⟩ : BufTy).Contents (Elt F)),
    StableHlo.reshape main_v4 main_v5 (rfl : (.f32 : EltTy) = .f32) shapeCasts_S16x512x1024_S16x512x16x64,
    StableHlo.reshape main_v1 main_v6 (rfl : (.f32 : EltTy) = .f32) shapeCasts_S16x512x16x64_S16x4x128x16x64,
    StableHlo.nullary main_cst_0 (constant S_ .f32 0x00000000#32),
    StableHlo.unary main_cst_0 main_v7 (broadcastInDim S16x1x128x16x64 ![] bcast_S_S16x1x128x16x64 : (⟨S_, .f32⟩ : BufTy).Contents (Elt F) → (⟨S16x1x128x16x64, .f32⟩ : BufTy).Contents (Elt F)),
    StableHlo.reshape main_v3 main_v8 (rfl : (.f32 : EltTy) = .f32) shapeCasts_S16x512x16x64_S16x4x128x16x64,
    StableHlo.unary main_v8 main_v9 ((extractStridedSlice S16x3x128x16x64 ![0, 0, 0, 0, 0] · slices_S16x4x128x16x64_S16x3x128x16x64_0_0_0_0_0) : (⟨S16x4x128x16x64, .f32⟩ : BufTy).Contents (Elt F) → (⟨S16x3x128x16x64, .f32⟩ : BufTy).Contents (Elt F)) ]

/-- Host operations of one stage. -/
abbrev opsP1 : List (HloOp τ sig (Elt F)) :=
  [ StableHlo.binary main_v7 main_v9 main_v10 ((fun a b => concatenate S16x4x128x16x64 1 [⟨S16x1x128x16x64, a⟩, ⟨S16x3x128x16x64, b⟩] concatenates_S16x1x128x16x64_S16x3x128x16x64_S16x4x128x16x64_d1) : (⟨S16x1x128x16x64, .f32⟩ : BufTy).Contents (Elt F) → (⟨S16x3x128x16x64, .f32⟩ : BufTy).Contents (Elt F) → (⟨S16x4x128x16x64, .f32⟩ : BufTy).Contents (Elt F)) ]

/-- Host operations of one stage. -/
abbrev opsP2 : List (HloOp τ sig (Elt F)) :=
  [ StableHlo.binary main_v10 main_v8 main_v11 ((fun a b => concatenate S16x4x256x16x64 2 [⟨S16x4x128x16x64, a⟩, ⟨S16x4x128x16x64, b⟩] concatenates_S16x4x128x16x64_S16x4x128x16x64_S16x4x256x16x64_d2) : (⟨S16x4x128x16x64, .f32⟩ : BufTy).Contents (Elt F) → (⟨S16x4x128x16x64, .f32⟩ : BufTy).Contents (Elt F) → (⟨S16x4x256x16x64, .f32⟩ : BufTy).Contents (Elt F)),
    StableHlo.reshape main_v5 main_v12 (rfl : (.f32 : EltTy) = .f32) shapeCasts_S16x512x16x64_S16x4x128x16x64,
    StableHlo.unary main_v12 main_v13 ((extractStridedSlice S16x3x128x16x64 ![0, 0, 0, 0, 0] · slices_S16x4x128x16x64_S16x3x128x16x64_0_0_0_0_0) : (⟨S16x4x128x16x64, .f32⟩ : BufTy).Contents (Elt F) → (⟨S16x3x128x16x64, .f32⟩ : BufTy).Contents (Elt F)) ]

/-- Host operations of one stage. -/
abbrev opsP3 : List (HloOp τ sig (Elt F)) :=
  [ StableHlo.binary main_v7 main_v13 main_v14 ((fun a b => concatenate S16x4x128x16x64 1 [⟨S16x1x128x16x64, a⟩, ⟨S16x3x128x16x64, b⟩] concatenates_S16x1x128x16x64_S16x3x128x16x64_S16x4x128x16x64_d1) : (⟨S16x1x128x16x64, .f32⟩ : BufTy).Contents (Elt F) → (⟨S16x3x128x16x64, .f32⟩ : BufTy).Contents (Elt F) → (⟨S16x4x128x16x64, .f32⟩ : BufTy).Contents (Elt F)) ]

/-- Host operations of one stage. -/
abbrev opsP4 : List (HloOp τ sig (Elt F)) :=
  [ StableHlo.binary main_v14 main_v12 main_v15 ((fun a b => concatenate S16x4x256x16x64 2 [⟨S16x4x128x16x64, a⟩, ⟨S16x4x128x16x64, b⟩] concatenates_S16x4x128x16x64_S16x4x128x16x64_S16x4x256x16x64_d2) : (⟨S16x4x128x16x64, .f32⟩ : BufTy).Contents (Elt F) → (⟨S16x4x128x16x64, .f32⟩ : BufTy).Contents (Elt F) → (⟨S16x4x256x16x64, .f32⟩ : BufTy).Contents (Elt F)) ]

/-- Host operations of one stage. -/
abbrev opsA2 : List (HloOp τ sig (Elt F)) :=
  [ StableHlo.binary main_v6 main_v11 main_v16 ((fun l r => Host.dotGeneral dot_S16x4x128x16x64_S16x4x256x16x64_S16x4x16x128x256_4_4_2_2_013_013 none l r) : (⟨S16x4x128x16x64, .f32⟩ : BufTy).Contents (Elt F) → (⟨S16x4x256x16x64, .f32⟩ : BufTy).Contents (Elt F) → (⟨S16x4x16x128x256, .f32⟩ : BufTy).Contents (Elt F)),
    StableHlo.nullary main_cst_1 (constant S_ .f32 0x3E000000#32),
    StableHlo.unary main_cst_1 main_v17 (broadcastInDim S16x4x16x128x256 ![] bcast_S_S16x4x16x128x256 : (⟨S_, .f32⟩ : BufTy).Contents (Elt F) → (⟨S16x4x16x128x256, .f32⟩ : BufTy).Contents (Elt F)),
    StableHlo.binary main_v16 main_v17 main_v18 (mulf : (⟨S16x4x16x128x256, .f32⟩ : BufTy).Contents (Elt F) → (⟨S16x4x16x128x256, .f32⟩ : BufTy).Contents (Elt F) → (⟨S16x4x16x128x256, .f32⟩ : BufTy).Contents (Elt F)),
    StableHlo.nullary main_v19 (iotaInDim S128 32 0),
    StableHlo.unary main_v19 main_v20 (broadcastInDim S128x1 ![0] bcast_S128_S128x1_0 : (⟨S128, .i32⟩ : BufTy).Contents (Elt F) → (⟨S128x1, .i32⟩ : BufTy).Contents (Elt F)),
    StableHlo.nullary main_v21 (iotaInDim S256 32 0),
    StableHlo.unary main_v21 main_v22 (broadcastInDim S1x256 ![1] bcast_S256_S1x256_1 : (⟨S256, .i32⟩ : BufTy).Contents (Elt F) → (⟨S1x256, .i32⟩ : BufTy).Contents (Elt F)),
    StableHlo.nullary main_c_2 (constantI S_ 32 128#32),
    StableHlo.unary main_c_2 main_v23 (broadcastInDim S128x1 ![] bcast_S_S128x1 : (⟨S_, .i32⟩ : BufTy).Contents (Elt F) → (⟨S128x1, .i32⟩ : BufTy).Contents (Elt F)),
    StableHlo.binary main_v20 main_v23 main_v24 (addi : (⟨S128x1, .i32⟩ : BufTy).Contents (Elt F) → (⟨S128x1, .i32⟩ : BufTy).Contents (Elt F) → (⟨S128x1, .i32⟩ : BufTy).Contents (Elt F)),
    StableHlo.unary main_v24 main_v25 (broadcastInDim S128x256 ![0, 1] bcast_S128x1_S128x256_0_1 : (⟨S128x1, .i32⟩ : BufTy).Contents (Elt F) → (⟨S128x256, .i32⟩ : BufTy).Contents (Elt F)),
    StableHlo.unary main_v22 main_v26 (broadcastInDim S128x256 ![0, 1] bcast_S1x256_S128x256_0_1 : (⟨S1x256, .i32⟩ : BufTy).Contents (Elt F) → (⟨S128x256, .i32⟩ : BufTy).Contents (Elt F)),
    StableHlo.binary main_v25 main_v26 main_v27 (subi : (⟨S128x256, .i32⟩ : BufTy).Contents (Elt F) → (⟨S128x256, .i32⟩ : BufTy).Contents (Elt F) → (⟨S128x256, .i32⟩ : BufTy).Contents (Elt F)),
    StableHlo.unary main_v22 main_v28 (broadcastInDim S1x1x256 ![1, 2] bcast_S1x256_S1x1x256_1_2 : (⟨S1x256, .i32⟩ : BufTy).Contents (Elt F) → (⟨S1x1x256, .i32⟩ : BufTy).Contents (Elt F)),
    StableHlo.unary main_c main_v29 (broadcastInDim S4x1x256 ![0, 1, 2] bcast_S4x1x1_S4x1x256_0_1_2 : (⟨S4x1x1, .i32⟩ : BufTy).Contents (Elt F) → (⟨S4x1x256, .i32⟩ : BufTy).Contents (Elt F)),
    StableHlo.unary main_v28 main_v30 (broadcastInDim S4x1x256 ![0, 1, 2] bcast_S1x1x256_S4x1x256_0_1_2 : (⟨S1x1x256, .i32⟩ : BufTy).Contents (Elt F) → (⟨S4x1x256, .i32⟩ : BufTy).Contents (Elt F)),
    StableHlo.binary main_v29 main_v30 main_v31 (addi : (⟨S4x1x256, .i32⟩ : BufTy).Contents (Elt F) → (⟨S4x1x256, .i32⟩ : BufTy).Contents (Elt F) → (⟨S4x1x256, .i32⟩ : BufTy).Contents (Elt F)),
    StableHlo.nullary main_c_3 (constantI S_ 32 0#32),
    StableHlo.unary main_c_3 main_v32 (broadcastInDim S128x256 ![] bcast_S_S128x256 : (⟨S_, .i32⟩ : BufTy).Contents (Elt F) → (⟨S128x256, .i32⟩ : BufTy).Contents (Elt F)),
    StableHlo.binary main_v27 main_v32 main_v33 (cmpi .sge : (⟨S128x256, .i32⟩ : BufTy).Contents (Elt F) → (⟨S128x256, .i32⟩ : BufTy).Contents (Elt F) → (⟨S128x256, .i1⟩ : BufTy).Contents (Elt F)),
    StableHlo.nullary main_c_4 (constantI S_ 32 128#32),
    StableHlo.unary main_c_4 main_v34 (broadcastInDim S128x256 ![] bcast_S_S128x256 : (⟨S_, .i32⟩ : BufTy).Contents (Elt F) → (⟨S128x256, .i32⟩ : BufTy).Contents (Elt F)),
    StableHlo.binary main_v27 main_v34 main_v35 (cmpi .sle : (⟨S128x256, .i32⟩ : BufTy).Contents (Elt F) → (⟨S128x256, .i32⟩ : BufTy).Contents (Elt F) → (⟨S128x256, .i1⟩ : BufTy).Contents (Elt F)),
    StableHlo.binary main_v33 main_v35 main_v36 (andi : (⟨S128x256, .i1⟩ : BufTy).Contents (Elt F) → (⟨S128x256, .i1⟩ : BufTy).Contents (Elt F) → (⟨S128x256, .i1⟩ : BufTy).Contents (Elt F)),
    StableHlo.nullary main_c_5 (constantI S_ 32 0#32),
    StableHlo.unary main_c_5 main_v37 (broadcastInDim S4x1x256 ![] bcast_S_S4x1x256 : (⟨S_, .i32⟩ : BufTy).Contents (Elt F) → (⟨S4x1x256, .i32⟩ : BufTy).Contents (Elt F)),
    StableHlo.binary main_v31 main_v37 main_v38 (cmpi .sge : (⟨S4x1x256, .i32⟩ : BufTy).Contents (Elt F) → (⟨S4x1x256, .i32⟩ : BufTy).Contents (Elt F) → (⟨S4x1x256, .i1⟩ : BufTy).Contents (Elt F)),
    StableHlo.unary main_v36 main_v39 (broadcastInDim S1x128x256 ![1, 2] bcast_S128x256_S1x128x256_1_2 : (⟨S128x256, .i1⟩ : BufTy).Contents (Elt F) → (⟨S1x128x256, .i1⟩ : BufTy).Contents (Elt F)),
    StableHlo.unary main_v39 main_v40 (broadcastInDim S4x128x256 ![0, 1, 2] bcast_S1x128x256_S4x128x256_0_1_2 : (⟨S1x128x256, .i1⟩ : BufTy).Contents (Elt F) → (⟨S4x128x256, .i1⟩ : BufTy).Contents (Elt F)),
    StableHlo.unary main_v38 main_v41 (broadcastInDim S4x128x256 ![0, 1, 2] bcast_S4x1x256_S4x128x256_0_1_2 : (⟨S4x1x256, .i1⟩ : BufTy).Contents (Elt F) → (⟨S4x128x256, .i1⟩ : BufTy).Contents (Elt F)),
    StableHlo.binary main_v40 main_v41 main_v42 (andi : (⟨S4x128x256, .i1⟩ : BufTy).Contents (Elt F) → (⟨S4x128x256, .i1⟩ : BufTy).Contents (Elt F) → (⟨S4x128x256, .i1⟩ : BufTy).Contents (Elt F)),
    StableHlo.nullary main_c_6 (constantI S_ 32 16#32),
    StableHlo.unary main_c_6 main_v43 (broadcastInDim S128x256 ![] bcast_S_S128x256 : (⟨S_, .i32⟩ : BufTy).Contents (Elt F) → (⟨S128x256, .i32⟩ : BufTy).Contents (Elt F)),
    StableHlo.binary main_v43 main_v27 main_v44 (muli : (⟨S128x256, .i32⟩ : BufTy).Contents (Elt F) → (⟨S128x256, .i32⟩ : BufTy).Contents (Elt F) → (⟨S128x256, .i32⟩ : BufTy).Contents (Elt F)),
    StableHlo.unary main_v44 main_v45 (sitofp .f32 : (⟨S128x256, .i32⟩ : BufTy).Contents (Elt F) → (⟨S128x256, .f32⟩ : BufTy).Contents (Elt F)),
    StableHlo.unary main_v45 main_v46 (broadcastInDim S1x128x256 ![1, 2] bcast_S128x256_S1x128x256_1_2 : (⟨S128x256, .f32⟩ : BufTy).Contents (Elt F) → (⟨S1x128x256, .f32⟩ : BufTy).Contents (Elt F)),
    StableHlo.unary main_cst main_v47 (broadcastInDim S16x128x256 ![0, 1, 2] bcast_S16x1x1_S16x128x256_0_1_2 : (⟨S16x1x1, .f32⟩ : BufTy).Contents (Elt F) → (⟨S16x128x256, .f32⟩ : BufTy).Contents (Elt F)),
    StableHlo.unary main_v46 main_v48 (broadcastInDim S16x128x256 ![0, 1, 2] bcast_S1x128x256_S16x128x256_0_1_2 : (⟨S1x128x256, .f32⟩ : BufTy).Contents (Elt F) → (⟨S16x128x256, .f32⟩ : BufTy).Contents (Elt F)),
    StableHlo.binary main_v47 main_v48 main_v49 (mulf : (⟨S16x128x256, .f32⟩ : BufTy).Contents (Elt F) → (⟨S16x128x256, .f32⟩ : BufTy).Contents (Elt F) → (⟨S16x128x256, .f32⟩ : BufTy).Contents (Elt F)),
    StableHlo.unary main_v42 main_v50 (broadcastInDim S1x4x1x128x256 ![1, 3, 4] bcast_S4x128x256_S1x4x1x128x256_1_3_4 : (⟨S4x128x256, .i1⟩ : BufTy).Contents (Elt F) → (⟨S1x4x1x128x256, .i1⟩ : BufTy).Contents (Elt F)),
    StableHlo.unary main_v49 main_v51 (broadcastInDim S1x1x16x128x256 ![2, 3, 4] bcast_S16x128x256_S1x1x16x128x256_2_3_4 : (⟨S16x128x256, .f32⟩ : BufTy).Contents (Elt F) → (⟨S1x1x16x128x256, .f32⟩ : BufTy).Contents (Elt F)),
    StableHlo.unary main_v51 main_v52 (broadcastInDim S16x4x16x128x256 ![0, 1, 2, 3, 4] bcast_S1x1x16x128x256_S16x4x16x128x256_0_1_2_3_4 : (⟨S1x1x16x128x256, .f32⟩ : BufTy).Contents (Elt F) → (⟨S16x4x16x128x256, .f32⟩ : BufTy).Contents (Elt F)),
    StableHlo.binary main_v18 main_v52 main_v53 (subf : (⟨S16x4x16x128x256, .f32⟩ : BufTy).Contents (Elt F) → (⟨S16x4x16x128x256, .f32⟩ : BufTy).Contents (Elt F) → (⟨S16x4x16x128x256, .f32⟩ : BufTy).Contents (Elt F)),
    StableHlo.nullary main_cst_7 (constant S_ .f32 0xFF800000#32) ]

/-- Host operations of one stage. -/
abbrev opsA3 : List (HloOp τ sig (Elt F)) :=
  [ StableHlo.TRef.unary (.of main_v50 : StableHlo.TRef sig ⟨S1x4x1x128x256, .i1⟩) (.of main_call0_v0 : StableHlo.TRef sig ⟨S16x4x16x128x256, .i1⟩) (broadcastInDim S16x4x16x128x256 ![0, 1, 2, 3, 4] bcast_S1x4x1x128x256_S16x4x16x128x256_0_1_2_3_4),
    StableHlo.TRef.unary (.of main_cst_7 : StableHlo.TRef sig ⟨S_, .f32⟩) (.of main_call0_v1 : StableHlo.TRef sig ⟨S16x4x16x128x256, .f32⟩) (broadcastInDim S16x4x16x128x256 ![] bcast_S_S16x4x16x128x256),
    StableHlo.TRef.ternary (.of main_call0_v0 : StableHlo.TRef sig ⟨S16x4x16x128x256, .i1⟩) (.of main_v53 : StableHlo.TRef sig ⟨S16x4x16x128x256, .f32⟩) (.of main_call0_v1 : StableHlo.TRef sig ⟨S16x4x16x128x256, .f32⟩) (.of main_v54 : StableHlo.TRef sig ⟨S16x4x16x128x256, .f32⟩) select ]

/-- Host operations of one stage. -/
abbrev opsB : List (HloOp τ sig (Elt F)) :=
  [ StableHlo.nullary main_cst_8 (constant S_ .f32 0xFF800000#32),
    StableHlo.binary main_v54 main_cst_8 main_v55 ((fun x v => Host.reduce FloatOps.maximumf x v reducesTo_S16x4x16x128x256_S16x4x16x128_d4 h_S_) : (⟨S16x4x16x128x256, .f32⟩ : BufTy).Contents (Elt F) → (⟨S_, .f32⟩ : BufTy).Contents (Elt F) → (⟨S16x4x16x128, .f32⟩ : BufTy).Contents (Elt F)),
    StableHlo.unary main_v55 main_v56 (broadcastInDim S16x4x16x128x1 ![0, 1, 2, 3] bcast_S16x4x16x128_S16x4x16x128x1_0_1_2_3 : (⟨S16x4x16x128, .f32⟩ : BufTy).Contents (Elt F) → (⟨S16x4x16x128x1, .f32⟩ : BufTy).Contents (Elt F)),
    StableHlo.unary main_v56 main_v57 (broadcastInDim S16x4x16x128x256 ![0, 1, 2, 3, 4] bcast_S16x4x16x128x1_S16x4x16x128x256_0_1_2_3_4 : (⟨S16x4x16x128x1, .f32⟩ : BufTy).Contents (Elt F) → (⟨S16x4x16x128x256, .f32⟩ : BufTy).Contents (Elt F)),
    StableHlo.binary main_v54 main_v57 main_v58 (subf : (⟨S16x4x16x128x256, .f32⟩ : BufTy).Contents (Elt F) → (⟨S16x4x16x128x256, .f32⟩ : BufTy).Contents (Elt F) → (⟨S16x4x16x128x256, .f32⟩ : BufTy).Contents (Elt F)),
    StableHlo.unary main_v58 main_v59 (Host.exp : (⟨S16x4x16x128x256, .f32⟩ : BufTy).Contents (Elt F) → (⟨S16x4x16x128x256, .f32⟩ : BufTy).Contents (Elt F)) ]

/-- Host operations of one stage. -/
abbrev opsB1 : List (HloOp τ sig (Elt F)) :=
  [ StableHlo.nullary main_cst_9 (constant S_ .f32 0x00000000#32),
    StableHlo.binary main_v59 main_cst_9 main_v60 ((fun x v => Host.reduceAdd x v reducesTo_S16x4x16x128x256_S16x4x16x128_d4 h_S_) : (⟨S16x4x16x128x256, .f32⟩ : BufTy).Contents (Elt F) → (⟨S_, .f32⟩ : BufTy).Contents (Elt F) → (⟨S16x4x16x128, .f32⟩ : BufTy).Contents (Elt F)),
    StableHlo.binary main_v15 main_v59 main_v61 ((fun l r => Host.dotGeneral dot_S16x4x256x16x64_S16x4x16x128x256_S16x4x16x64x128_2_4_4_3_013_012 none l r) : (⟨S16x4x256x16x64, .f32⟩ : BufTy).Contents (Elt F) → (⟨S16x4x16x128x256, .f32⟩ : BufTy).Contents (Elt F) → (⟨S16x4x16x64x128, .f32⟩ : BufTy).Contents (Elt F)),
    StableHlo.unary main_v61 main_v62 ((transpose S16x4x128x16x64 [0, 1, 4, 2, 3] · transposes_S16x4x16x64x128_S16x4x128x16x64_0_1_4_2_3) : (⟨S16x4x16x64x128, .f32⟩ : BufTy).Contents (Elt F) → (⟨S16x4x128x16x64, .f32⟩ : BufTy).Contents (Elt F)),
    StableHlo.unary main_v60 main_v63 ((transpose S16x4x128x16 [0, 1, 3, 2] · transposes_S16x4x16x128_S16x4x128x16_0_1_3_2) : (⟨S16x4x16x128, .f32⟩ : BufTy).Contents (Elt F) → (⟨S16x4x128x16, .f32⟩ : BufTy).Contents (Elt F)),
    StableHlo.unary main_v63 main_v64 (broadcastInDim S16x4x128x16x1 ![0, 1, 2, 3] bcast_S16x4x128x16_S16x4x128x16x1_0_1_2_3 : (⟨S16x4x128x16, .f32⟩ : BufTy).Contents (Elt F) → (⟨S16x4x128x16x1, .f32⟩ : BufTy).Contents (Elt F)),
    StableHlo.unary main_v64 main_v65 (broadcastInDim S16x4x128x16x64 ![0, 1, 2, 3, 4] bcast_S16x4x128x16x1_S16x4x128x16x64_0_1_2_3_4 : (⟨S16x4x128x16x1, .f32⟩ : BufTy).Contents (Elt F) → (⟨S16x4x128x16x64, .f32⟩ : BufTy).Contents (Elt F)),
    StableHlo.binary main_v62 main_v65 main_v66 (Host.divf : (⟨S16x4x128x16x64, .f32⟩ : BufTy).Contents (Elt F) → (⟨S16x4x128x16x64, .f32⟩ : BufTy).Contents (Elt F) → (⟨S16x4x128x16x64, .f32⟩ : BufTy).Contents (Elt F)),
    StableHlo.unary main_v60 main_v67 (Host.log : (⟨S16x4x16x128, .f32⟩ : BufTy).Contents (Elt F) → (⟨S16x4x16x128, .f32⟩ : BufTy).Contents (Elt F)),
    StableHlo.binary main_v55 main_v67 main_v68 (addf : (⟨S16x4x16x128, .f32⟩ : BufTy).Contents (Elt F) → (⟨S16x4x16x128, .f32⟩ : BufTy).Contents (Elt F) → (⟨S16x4x16x128, .f32⟩ : BufTy).Contents (Elt F)),
    StableHlo.unary main_v68 main_v69 ((transpose S16x4x128x16 [0, 1, 3, 2] · transposes_S16x4x16x128_S16x4x128x16_0_1_3_2) : (⟨S16x4x16x128, .f32⟩ : BufTy).Contents (Elt F) → (⟨S16x4x128x16, .f32⟩ : BufTy).Contents (Elt F)),
    StableHlo.reshape main_v66 main_v70 (rfl : (.f32 : EltTy) = .f32) shapeCasts_S16x4x128x16x64_S16x512x16x64,
    StableHlo.reshape main_v69 main_v71 (rfl : (.f32 : EltTy) = .f32) shapeCasts_S16x4x128x16_S16x512x16 ]

/-- Host operations of one stage. -/
abbrev opsC : List (HloOp τ sig (Elt F)) :=
  [ StableHlo.binary main_arg4 main_arg6 main_v72 (maximumf : (⟨S16x512x16, .f32⟩ : BufTy).Contents (Elt F) → (⟨S16x512x16, .f32⟩ : BufTy).Contents (Elt F) → (⟨S16x512x16, .f32⟩ : BufTy).Contents (Elt F)),
    StableHlo.binary main_v72 main_v71 main_v73 (maximumf : (⟨S16x512x16, .f32⟩ : BufTy).Contents (Elt F) → (⟨S16x512x16, .f32⟩ : BufTy).Contents (Elt F) → (⟨S16x512x16, .f32⟩ : BufTy).Contents (Elt F)),
    StableHlo.binary main_arg4 main_v73 main_v74 (subf : (⟨S16x512x16, .f32⟩ : BufTy).Contents (Elt F) → (⟨S16x512x16, .f32⟩ : BufTy).Contents (Elt F) → (⟨S16x512x16, .f32⟩ : BufTy).Contents (Elt F)),
    StableHlo.unary main_v74 main_v75 (Host.exp : (⟨S16x512x16, .f32⟩ : BufTy).Contents (Elt F) → (⟨S16x512x16, .f32⟩ : BufTy).Contents (Elt F)),
    StableHlo.binary main_arg6 main_v73 main_v76 (subf : (⟨S16x512x16, .f32⟩ : BufTy).Contents (Elt F) → (⟨S16x512x16, .f32⟩ : BufTy).Contents (Elt F) → (⟨S16x512x16, .f32⟩ : BufTy).Contents (Elt F)),
    StableHlo.unary main_v76 main_v77 (Host.exp : (⟨S16x512x16, .f32⟩ : BufTy).Contents (Elt F) → (⟨S16x512x16, .f32⟩ : BufTy).Contents (Elt F)),
    StableHlo.binary main_v71 main_v73 main_v78 (subf : (⟨S16x512x16, .f32⟩ : BufTy).Contents (Elt F) → (⟨S16x512x16, .f32⟩ : BufTy).Contents (Elt F) → (⟨S16x512x16, .f32⟩ : BufTy).Contents (Elt F)),
    StableHlo.unary main_v78 main_v79 (Host.exp : (⟨S16x512x16, .f32⟩ : BufTy).Contents (Elt F) → (⟨S16x512x16, .f32⟩ : BufTy).Contents (Elt F)),
    StableHlo.binary main_v75 main_v77 main_v80 (addf : (⟨S16x512x16, .f32⟩ : BufTy).Contents (Elt F) → (⟨S16x512x16, .f32⟩ : BufTy).Contents (Elt F) → (⟨S16x512x16, .f32⟩ : BufTy).Contents (Elt F)),
    StableHlo.binary main_v80 main_v79 main_v81 (addf : (⟨S16x512x16, .f32⟩ : BufTy).Contents (Elt F) → (⟨S16x512x16, .f32⟩ : BufTy).Contents (Elt F) → (⟨S16x512x16, .f32⟩ : BufTy).Contents (Elt F)),
    StableHlo.unary main_v81 main_v82 (Host.log : (⟨S16x512x16, .f32⟩ : BufTy).Contents (Elt F) → (⟨S16x512x16, .f32⟩ : BufTy).Contents (Elt F)),
    StableHlo.binary main_v73 main_v82 main_v83 (addf : (⟨S16x512x16, .f32⟩ : BufTy).Contents (Elt F) → (⟨S16x512x16, .f32⟩ : BufTy).Contents (Elt F) → (⟨S16x512x16, .f32⟩ : BufTy).Contents (Elt F)) ]

/-- Host operations of one stage. -/
abbrev opsD : List (HloOp τ sig (Elt F)) :=
  [ StableHlo.unary main_v75 main_v84 (broadcastInDim S16x512x16x64 ![0, 1, 2] bcast_S16x512x16_S16x512x16x64_0_1_2 : (⟨S16x512x16, .f32⟩ : BufTy).Contents (Elt F) → (⟨S16x512x16x64, .f32⟩ : BufTy).Contents (Elt F)),
    StableHlo.binary main_v84 main_arg3 main_v85 (mulf : (⟨S16x512x16x64, .f32⟩ : BufTy).Contents (Elt F) → (⟨S16x512x16x64, .f32⟩ : BufTy).Contents (Elt F) → (⟨S16x512x16x64, .f32⟩ : BufTy).Contents (Elt F)),
    StableHlo.unary main_v77 main_v86 (broadcastInDim S16x512x16x64 ![0, 1, 2] bcast_S16x512x16_S16x512x16x64_0_1_2 : (⟨S16x512x16, .f32⟩ : BufTy).Contents (Elt F) → (⟨S16x512x16x64, .f32⟩ : BufTy).Contents (Elt F)),
    StableHlo.binary main_v86 main_arg5 main_v87 (mulf : (⟨S16x512x16x64, .f32⟩ : BufTy).Contents (Elt F) → (⟨S16x512x16x64, .f32⟩ : BufTy).Contents (Elt F) → (⟨S16x512x16x64, .f32⟩ : BufTy).Contents (Elt F)),
    StableHlo.binary main_v85 main_v87 main_v88 (addf : (⟨S16x512x16x64, .f32⟩ : BufTy).Contents (Elt F) → (⟨S16x512x16x64, .f32⟩ : BufTy).Contents (Elt F) → (⟨S16x512x16x64, .f32⟩ : BufTy).Contents (Elt F)),
    StableHlo.unary main_v79 main_v89 (broadcastInDim S16x512x16x64 ![0, 1, 2] bcast_S16x512x16_S16x512x16x64_0_1_2 : (⟨S16x512x16, .f32⟩ : BufTy).Contents (Elt F) → (⟨S16x512x16x64, .f32⟩ : BufTy).Contents (Elt F)),
    StableHlo.binary main_v89 main_v70 main_v90 (mulf : (⟨S16x512x16x64, .f32⟩ : BufTy).Contents (Elt F) → (⟨S16x512x16x64, .f32⟩ : BufTy).Contents (Elt F) → (⟨S16x512x16x64, .f32⟩ : BufTy).Contents (Elt F)),
    StableHlo.binary main_v88 main_v90 main_v91 (addf : (⟨S16x512x16x64, .f32⟩ : BufTy).Contents (Elt F) → (⟨S16x512x16x64, .f32⟩ : BufTy).Contents (Elt F) → (⟨S16x512x16x64, .f32⟩ : BufTy).Contents (Elt F)),
    StableHlo.unary main_arg7 main_v92 ((extf .f32 · bitsLt_bf16_f32) : (⟨S16x512x1024, .bf16⟩ : BufTy).Contents (Elt F) → (⟨S16x512x1024, .f32⟩ : BufTy).Contents (Elt F)),
    StableHlo.reshape main_v92 main_v93 (rfl : (.f32 : EltTy) = .f32) shapeCasts_S16x512x1024_S16x512x16x64,
    StableHlo.binary main_v93 main_v91 main_v94 (mulf : (⟨S16x512x16x64, .f32⟩ : BufTy).Contents (Elt F) → (⟨S16x512x16x64, .f32⟩ : BufTy).Contents (Elt F) → (⟨S16x512x16x64, .f32⟩ : BufTy).Contents (Elt F)),
    StableHlo.nullary main_cst_10 (constant S_ .f32 0x00000000#32),
    StableHlo.binary main_v94 main_cst_10 main_v95 ((fun x v => Host.reduceAdd x v reducesTo_S16x512x16x64_S16x512x16_d3 h_S_) : (⟨S16x512x16x64, .f32⟩ : BufTy).Contents (Elt F) → (⟨S_, .f32⟩ : BufTy).Contents (Elt F) → (⟨S16x512x16, .f32⟩ : BufTy).Contents (Elt F)),
    StableHlo.binary main_v95 main_v81 main_v96 (Host.divf : (⟨S16x512x16, .f32⟩ : BufTy).Contents (Elt F) → (⟨S16x512x16, .f32⟩ : BufTy).Contents (Elt F) → (⟨S16x512x16, .f32⟩ : BufTy).Contents (Elt F)),
    StableHlo.nullary main_cst_11 (constant S_ .f32 0x00000000#32),
    StableHlo.binary main_v83 main_cst_11 main_v97 ((fun x v => pad S16x512x128 ![0, 0, 0] ![0, 0, 112] ![0, 0, 0] x v pads_S16x512x16_S16x512x128_000_000_01120 h_S_) : (⟨S16x512x16, .f32⟩ : BufTy).Contents (Elt F) → (⟨S_, .f32⟩ : BufTy).Contents (Elt F) → (⟨S16x512x128, .f32⟩ : BufTy).Contents (Elt F)),
    StableHlo.nullary main_cst_12 (constant S_ .f32 0x00000000#32),
    StableHlo.binary main_v96 main_cst_12 main_v98 ((fun x v => pad S16x512x128 ![0, 0, 0] ![0, 0, 112] ![0, 0, 0] x v pads_S16x512x16_S16x512x128_000_000_01120 h_S_) : (⟨S16x512x16, .f32⟩ : BufTy).Contents (Elt F) → (⟨S_, .f32⟩ : BufTy).Contents (Elt F) → (⟨S16x512x128, .f32⟩ : BufTy).Contents (Elt F)) ]

theorem ops0 : (hostOps0 : List (HloOp τ sig (Elt F))) = opsP0 ++ (opsP1 ++ (opsP2 ++ (opsP3 ++ (opsP4 ++ opsA2)))) := rfl
theorem ops0_1 : (hostOps0_1 : List (HloOp τ sig (Elt F))) = opsA3 := rfl
theorem ops0_2 : (hostOps0_2 : List (HloOp τ sig (Elt F))) = opsB ++ (opsB1 ++ (opsC ++ opsD)) := rfl

theorem after_two (x y : List (HloOp τ sig (Elt F))) (V0 : Valuation τ sig (Elt F)) : after (x ++ y) V0 = after y (after x V0) := by
  induction x generalizing V0 with
  | nil => rfl
  | cons a x ih => exact ih _

/-- The buffers that the stage writes. -/
abbrev wrP0 : List (Ref sig .tc) := [main_c, main_cst, main_v0, main_v1, main_v2, main_v3, main_v4, main_v5, main_v6, main_cst_0, main_v7, main_v8, main_v9]
theorem keepP0 {r : Ref sig .tc} (hr : r ∉ wrP0) (V0 : Valuation τ sig (Elt F)) : after opsP0 V0 (Proc.devRef .tc r) = V0 (Proc.devRef .tc r) :=
  after_unwritten wrP0 rfl hr V0

/-- The buffers that the stage writes. -/
abbrev wrP1 : List (Ref sig .tc) := [main_v10]
theorem keepP1 {r : Ref sig .tc} (hr : r ∉ wrP1) (V0 : Valuation τ sig (Elt F)) : after opsP1 V0 (Proc.devRef .tc r) = V0 (Proc.devRef .tc r) :=
  after_unwritten wrP1 rfl hr V0

/-- The buffers that the stage writes. -/
abbrev wrP2 : List (Ref sig .tc) := [main_v11, main_v12, main_v13]
theorem keepP2 {r : Ref sig .tc} (hr : r ∉ wrP2) (V0 : Valuation τ sig (Elt F)) : after opsP2 V0 (Proc.devRef .tc r) = V0 (Proc.devRef .tc r) :=
  after_unwritten wrP2 rfl hr V0

/-- The buffers that the stage writes. -/
abbrev wrP3 : List (Ref sig .tc) := [main_v14]
theorem keepP3 {r : Ref sig .tc} (hr : r ∉ wrP3) (V0 : Valuation τ sig (Elt F)) : after opsP3 V0 (Proc.devRef .tc r) = V0 (Proc.devRef .tc r) :=
  after_unwritten wrP3 rfl hr V0

/-- The buffers that the stage writes. -/
abbrev wrP4 : List (Ref sig .tc) := [main_v15]
theorem keepP4 {r : Ref sig .tc} (hr : r ∉ wrP4) (V0 : Valuation τ sig (Elt F)) : after opsP4 V0 (Proc.devRef .tc r) = V0 (Proc.devRef .tc r) :=
  after_unwritten wrP4 rfl hr V0

/-- The buffers that the stage writes. -/
abbrev wrA2 : List (Ref sig .tc) := [main_v16, main_cst_1, main_v17, main_v18, main_v19, main_v20, main_v21, main_v22, main_c_2, main_v23, main_v24, main_v25, main_v26, main_v27, main_v28, main_v29, main_v30, main_v31, main_c_3, main_v32, main_v33, main_c_4, main_v34, main_v35, main_v36, main_c_5, main_v37, main_v38, main_v39, main_v40, main_v41, main_v42, main_c_6, main_v43, main_v44, main_v45, main_v46, main_v47, main_v48, main_v49, main_v50, main_v51, main_v52, main_v53, main_cst_7]
theorem keepA2 {r : Ref sig .tc} (hr : r ∉ wrA2) (V0 : Valuation τ sig (Elt F)) : after opsA2 V0 (Proc.devRef .tc r) = V0 (Proc.devRef .tc r) :=
  after_unwritten wrA2 rfl hr V0

/-- The buffers that the stage writes. -/
abbrev wrA3 : List (Ref sig .tc) := [main_call0_v0, main_call0_v1, main_v54]
theorem keepA3 {r : Ref sig .tc} (hr : r ∉ wrA3) (V0 : Valuation τ sig (Elt F)) : after opsA3 V0 (Proc.devRef .tc r) = V0 (Proc.devRef .tc r) :=
  after_unwritten wrA3 rfl hr V0

/-- The buffers that the stage writes. -/
abbrev wrB : List (Ref sig .tc) := [main_cst_8, main_v55, main_v56, main_v57, main_v58, main_v59]
theorem keepB {r : Ref sig .tc} (hr : r ∉ wrB) (V0 : Valuation τ sig (Elt F)) : after opsB V0 (Proc.devRef .tc r) = V0 (Proc.devRef .tc r) :=
  after_unwritten wrB rfl hr V0

/-- The buffers that the stage writes. -/
abbrev wrB1 : List (Ref sig .tc) := [main_cst_9, main_v60, main_v61, main_v62, main_v63, main_v64, main_v65, main_v66, main_v67, main_v68, main_v69, main_v70, main_v71]
theorem keepB1 {r : Ref sig .tc} (hr : r ∉ wrB1) (V0 : Valuation τ sig (Elt F)) : after opsB1 V0 (Proc.devRef .tc r) = V0 (Proc.devRef .tc r) :=
  after_unwritten wrB1 rfl hr V0

/-- The buffers that the stage writes. -/
abbrev wrC : List (Ref sig .tc) := [main_v72, main_v73, main_v74, main_v75, main_v76, main_v77, main_v78, main_v79, main_v80, main_v81, main_v82, main_v83]
theorem keepC {r : Ref sig .tc} (hr : r ∉ wrC) (V0 : Valuation τ sig (Elt F)) : after opsC V0 (Proc.devRef .tc r) = V0 (Proc.devRef .tc r) :=
  after_unwritten wrC rfl hr V0

/-- The buffers that the stage writes. -/
abbrev wrD : List (Ref sig .tc) := [main_v84, main_v85, main_v86, main_v87, main_v88, main_v89, main_v90, main_v91, main_v92, main_v93, main_v94, main_cst_10, main_v95, main_v96, main_cst_11, main_v97, main_cst_12, main_v98]
theorem keepD {r : Ref sig .tc} (hr : r ∉ wrD) (V0 : Valuation τ sig (Elt F)) : after opsD V0 (Proc.devRef .tc r) = V0 (Proc.devRef .tc r) :=
  after_unwritten wrD rfl hr V0

end

/-- What the host operations are given. -/
structure Given (V0 : Valuation τ sig (Elt Ideal)) (X : Data) : Prop where
  q : ∀ a r c, IsR (V0 (Proc.devRef .tc main_arg0) (ix3 a r c)) (X.Q a r c)
  k : ∀ a r c, IsR (V0 (Proc.devRef .tc main_arg1) (ix3 a r c)) (X.K a r c)
  u : ∀ a r c, IsR (V0 (Proc.devRef .tc main_arg2) (ix3 a r c)) (X.U a r c)
  o1 : ∀ a r h d, IsR (V0 (Proc.devRef .tc main_arg3) (ix4 a r h d)) (X.O1 a r h d)
  l1 : ∀ a r h, IsR (V0 (Proc.devRef .tc main_arg4) (ix3 a r h)) (X.L1 a r h)
  o2 : ∀ a r h d, IsR (V0 (Proc.devRef .tc main_arg5) (ix4 a r h d)) (X.O2 a r h d)
  l2 : ∀ a r h, IsR (V0 (Proc.devRef .tc main_arg6) (ix3 a r h)) (X.L2 a r h)
  c : ∀ a r c, IsR (V0 (Proc.devRef .tc main_arg7) (ix3 a r c)) (X.C a r c)
  sl : X.slope = slopeR

variable {V0 : Valuation τ sig (Elt Ideal)} {X : Data}

/-! ## The windows -/

theorem p0_v6 (G : Given V0 X) (a : Fin 16) (n : Fin 4) (q : Fin 128) (h : Fin 16) (d : Fin 64) :
    IsR (after opsP0 V0 (Proc.devRef .tc main_v6) (ix5 a n q h d)) (X.Q a (pos n q) (col h d)) := by
  unfold opsP0
  after_reads_at
  exact G.q _ _ _

theorem p0_v8 (G : Given V0 X) (a : Fin 16) (n : Fin 4) (q : Fin 128) (h : Fin 16) (d : Fin 64) :
    IsR (after opsP0 V0 (Proc.devRef .tc main_v8) (ix5 a n q h d)) (X.K a (pos n q) (col h d)) := by
  unfold opsP0
  after_reads_at
  exact G.k _ _ _

theorem p0_v9 (G : Given V0 X) (a : Fin 16) (n : Fin 3) (q : Fin 128) (h : Fin 16) (d : Fin 64) :
    IsR (after opsP0 V0 (Proc.devRef .tc main_v9) (ix5 a n q h d)) (X.K a (pos ⟨n.val, by omega⟩ q) (col h d)) := by
  unfold opsP0
  after_reads_at
  exact G.k _ _ _

theorem p0_v7 (a : Fin 16) (n : Fin 1) (q : Fin 128) (h : Fin 16) (d : Fin 64) :
    IsR (after opsP0 V0 (Proc.devRef .tc main_v7) (ix5 a n q h d)) 0 := by
  unfold opsP0
  after_reads_at
  exact EReal.coe_zero.symm

theorem p0_v5 (G : Given V0 X) (a : Fin 16) (l : Fin 512) (h : Fin 16) (d : Fin 64) :
    IsR (after opsP0 V0 (Proc.devRef .tc main_v5) (ix4 a l h d)) (X.U a l (col h d)) := by
  unfold opsP0
  after_reads_at
  exact G.u _ _ _

theorem p0_c (n : Fin 4) : (after opsP0 V0 (Proc.devRef .tc main_c) (ix3 n 0 0) : BitVec 32) = lit0 (S4x1x1.rowMajor (ix3 n 0 0)) := by
  unfold opsP0
  after_reads_at

theorem p0_cst (h : Fin 16) : Eq (α := EReal) (after opsP0 V0 (Proc.devRef .tc main_cst) (ix3 h 0 0)) ((slopeR h : ℝ) : EReal) := by
  rw [← slopeR_coe, ← show lit1 (S16x1x1.rowMajor (ix3 h 0 0)) = slopeBits h by fin_cases h <;> rfl]
  unfold opsP0
  after_reads_at

/-- The block before, zeros before the first. -/
def bef (K : Fin 16 → Fin 512 → Fin 1024 → ℝ) (a : Fin 16) (n : Fin 4) (r : Fin 128) (h : Fin 16) (d : Fin 64) : ℝ :=
  if hn : n.val < 1 then 0 else K a ⟨n.val * 128 + r.val - 128, by omega⟩ (col h d)

theorem bef_win (K : Fin 16 → Fin 512 → Fin 1024 → ℝ) (a : Fin 16) (n : Fin 4) (j : Fin 256) (h : Fin 16) (d : Fin 64) :
    win K a n h j d = if hj : j.val < 128 then bef K a n ⟨j.val, hj⟩ h d else K a (pos n ⟨j.val - 128, by omega⟩) (col h d) := by
  unfold win bef
  have hj := j.isLt
  by_cases h1 : j.val < 128
  · rw [dif_pos h1]
    by_cases h2 : n.val < 1
    · rw [dif_pos h2, dif_neg (by omega)]
    · rw [dif_neg h2, dif_pos (by omega)]
  · rw [dif_neg h1, dif_pos (by omega)]
    congr 1
    exact Fin.ext (show n.val * 128 + j.val - 128 = n.val * 128 + (j.val - 128) by omega)

theorem p1_v10 (K : Fin 16 → Fin 512 → Fin 1024 → ℝ) (h7 : ∀ a (n : Fin 1) q h d, IsR (V0 (Proc.devRef .tc main_v7) (ix5 a n q h d)) 0)
    (h9 : ∀ a (n : Fin 3) q h d, IsR (V0 (Proc.devRef .tc main_v9) (ix5 a n q h d)) (K a (pos ⟨n.val, by omega⟩ q) (col h d)))
    (a : Fin 16) (n : Fin 4) (q : Fin 128) (h : Fin 16) (d : Fin 64) :
    IsR (after opsP1 V0 (Proc.devRef .tc main_v10) (ix5 a n q h d)) (bef K a n q h d) := by
  unfold opsP1
  after_reads_at
  unfold bef
  split
  · exact h7 _ _ _ _ _
  · refine (h9 _ _ _ _ _).trans ?_
    congr 2
    exact Fin.ext (show (n.val - 1) * 128 + q.val = n.val * 128 + q.val - 128 by omega)

theorem p3_v14 (K : Fin 16 → Fin 512 → Fin 1024 → ℝ) (h7 : ∀ a (n : Fin 1) q h d, IsR (V0 (Proc.devRef .tc main_v7) (ix5 a n q h d)) 0)
    (h9 : ∀ a (n : Fin 3) q h d, IsR (V0 (Proc.devRef .tc main_v13) (ix5 a n q h d)) (K a (pos ⟨n.val, by omega⟩ q) (col h d)))
    (a : Fin 16) (n : Fin 4) (q : Fin 128) (h : Fin 16) (d : Fin 64) :
    IsR (after opsP3 V0 (Proc.devRef .tc main_v14) (ix5 a n q h d)) (bef K a n q h d) := by
  unfold opsP3
  after_reads_at
  unfold bef
  split
  · exact h7 _ _ _ _ _
  · refine (h9 _ _ _ _ _).trans ?_
    congr 2
    exact Fin.ext (show (n.val - 1) * 128 + q.val = n.val * 128 + q.val - 128 by omega)

theorem p2_v11 (K : Fin 16 → Fin 512 → Fin 1024 → ℝ) (h10 : ∀ a n q h d, IsR (V0 (Proc.devRef .tc main_v10) (ix5 a n q h d)) (bef K a n q h d))
    (h8 : ∀ a n q h d, IsR (V0 (Proc.devRef .tc main_v8) (ix5 a n q h d)) (K a (pos n q) (col h d)))
    (a : Fin 16) (n : Fin 4) (j : Fin 256) (h : Fin 16) (d : Fin 64) :
    IsR (after opsP2 V0 (Proc.devRef .tc main_v11) (ix5 a n j h d)) (win K a n h j d) := by
  rw [bef_win]
  unfold opsP2
  after_reads_at
  split
  · exact h10 _ _ _ _ _
  · exact h8 _ _ _ _ _

theorem p2_v12 (K : Fin 16 → Fin 512 → Fin 1024 → ℝ) (h5 : ∀ a l h d, IsR (V0 (Proc.devRef .tc main_v5) (ix4 a l h d)) (K a l (col h d)))
    (a : Fin 16) (n : Fin 4) (q : Fin 128) (h : Fin 16) (d : Fin 64) :
    IsR (after opsP2 V0 (Proc.devRef .tc main_v12) (ix5 a n q h d)) (K a (pos n q) (col h d)) := by
  unfold opsP2
  after_reads_at
  exact h5 _ _ _ _

theorem p2_v13 (K : Fin 16 → Fin 512 → Fin 1024 → ℝ) (h5 : ∀ a l h d, IsR (V0 (Proc.devRef .tc main_v5) (ix4 a l h d)) (K a l (col h d)))
    (a : Fin 16) (n : Fin 3) (q : Fin 128) (h : Fin 16) (d : Fin 64) :
    IsR (after opsP2 V0 (Proc.devRef .tc main_v13) (ix5 a n q h d)) (K a (pos ⟨n.val, by omega⟩ q) (col h d)) := by
  unfold opsP2
  after_reads_at
  exact h5 _ _ _ _

theorem p4_v15 (K : Fin 16 → Fin 512 → Fin 1024 → ℝ) (h10 : ∀ a n q h d, IsR (V0 (Proc.devRef .tc main_v14) (ix5 a n q h d)) (bef K a n q h d))
    (h8 : ∀ a n q h d, IsR (V0 (Proc.devRef .tc main_v12) (ix5 a n q h d)) (K a (pos n q) (col h d)))
    (a : Fin 16) (n : Fin 4) (j : Fin 256) (h : Fin 16) (d : Fin 64) :
    IsR (after opsP4 V0 (Proc.devRef .tc main_v15) (ix5 a n j h d)) (win K a n h j d) := by
  rw [bef_win]
  unfold opsP4
  after_reads_at
  split
  · exact h10 _ _ _ _ _
  · exact h8 _ _ _ _ _

/-! ## The scores -/

theorem a_v54 (hs : X.slope = slopeR) (hc : ∀ n : Fin 4, (V0 (Proc.devRef .tc main_c) (ix3 n 0 0) : BitVec 32) = lit0 (S4x1x1.rowMajor (ix3 n 0 0)))
    (hcst : ∀ h : Fin 16, Eq (α := EReal) (V0 (Proc.devRef .tc main_cst) (ix3 h 0 0)) ((slopeR h : ℝ) : EReal))
    (h6 : ∀ a n q h d, IsR (V0 (Proc.devRef .tc main_v6) (ix5 a n q h d)) (X.Q a (pos n q) (col h d)))
    (h11 : ∀ a n j h d, IsR (V0 (Proc.devRef .tc main_v11) (ix5 a n j h d)) (win X.K a n h j d))
    (a : Fin 16) (n : Fin 4) (q : Fin 128) (j : Fin 256) (h : Fin 16) :
    Eq (α := EReal) (after (opsA2 ++ opsA3) V0 (Proc.devRef .tc main_v54) (ix5 a n h q j)) (if ok n q j then ((X.S a n h q j : ℝ) : EReal) else ⊥) := by
  simp only [opsA2, opsA3, List.cons_append, List.nil_append]
  after_reads_at
  simp only [h6, h11]
  rw [hc, hcst, minus_infinity, eighth]
  unfold Scalar.select
  have hw : IntOp.andi (IntOp.andi (IntOp.cmpi .sge (IntOp.subi (IntOp.addi (BitVec.ofNat 32 q.val) 128#32) (BitVec.ofNat 32 j.val)) 0#32)
      (IntOp.cmpi .sle (IntOp.subi (IntOp.addi (BitVec.ofNat 32 q.val) 128#32) (BitVec.ofNat 32 j.val)) 128#32))
      (IntOp.cmpi .sge (IntOp.addi (lit0 (S4x1x1.rowMajor (ix3 n 0 0))) (BitVec.ofNat 32 j.val)) 0#32) = 1#1 ↔ ok n q j := by
    rw [andi_iff, band_iff, start_iff n _ (by fin_cases n <;> rfl)]
    unfold ok
    tauto
  by_cases ho : ok n q j
  · rw [if_pos ho]
    refine (if_pos (hw.mpr ho)).trans ?_
    have e : FloatOps.sitofp (F := Ideal) FTy.f32 (IntOp.muli (16#32) (IntOp.subi (IntOp.addi (BitVec.ofNat 32 q.val) 128#32) (BitVec.ofNat 32 j.val)))
        = ((16 * ((q.val : ℝ) + 128 - j.val) : ℝ) : EReal) := by
      refine (Ideal.scalar_sitofp_def _).trans ?_
      rw [dist_toInt]
      push_cast
      ring_nf
    rw [e]
    simp only [← EReal.coe_mul, coe_sum, ← EReal.coe_sub]
    unfold Data.S
    rw [hs]
  · rw [if_neg ho]
    exact if_neg (fun hc => ho (hw.mp hc))

/-- A query's largest score, on the host. -/
def hmx (V0 : Valuation τ sig (Elt Ideal)) (a : Fin 16) (n : Fin 4) (h : Fin 16) (q : Fin 128) : ℝ :=
  EReal.toReal (after opsB V0 (Proc.devRef .tc main_v55) (ix4 a n h q))

theorem b_v55 (h54 : ∀ a n q j h, Eq (α := EReal) (V0 (Proc.devRef .tc main_v54) (ix5 a n h q j)) (if ok n q j then ((X.S a n h q j : ℝ) : EReal) else ⊥))
    (a : Fin 16) (n : Fin 4) (q : Fin 128) (h : Fin 16) :
    IsR (after opsB V0 (Proc.devRef .tc main_v55) (ix4 a n h q)) (hmx V0 a n h q) := by
  refine (EReal.coe_toReal ?_ ?_).symm
  all_goals
    unfold opsB
    after_reads_at
    simp only [h54, minus_infinity]
  · refine ne_of_lt ((Finset.fold_max_lt _).mpr ⟨bot_lt_top, fun x _ => ?_⟩)
    split
    · exact EReal.coe_lt_top _
    · exact bot_lt_top
  · refine ne_of_gt ((Finset.lt_fold_max _).mpr (Or.inr ⟨⟨q.val + 128, by omega⟩, Finset.mem_univ _, ?_⟩))
    rw [if_pos ⟨by show q.val ≤ q.val + 128; omega, le_rfl, by show 128 ≤ n.val * 128 + (q.val + 128); omega⟩]
    exact EReal.bot_lt_coe _

theorem b_v59 (h54 : ∀ a n q j h, Eq (α := EReal) (V0 (Proc.devRef .tc main_v54) (ix5 a n h q j)) (if ok n q j then ((X.S a n h q j : ℝ) : EReal) else ⊥))
    (a : Fin 16) (n : Fin 4) (q : Fin 128) (j : Fin 256) (h : Fin 16) :
    IsR (after opsB V0 (Proc.devRef .tc main_v59) (ix5 a n h q j)) (X.E a n h q j / Real.exp (hmx V0 a n h q)) := by
  have hm : ∀ x y : EReal, x = V0 (Proc.devRef .tc main_v54) (ix5 a n h q j) → y = after opsB V0 (Proc.devRef .tc main_v55) (ix4 a n h q)
      → Eq (α := EReal) (after opsB V0 (Proc.devRef .tc main_v59) (ix5 a n h q j)) (Ideal.exp (x - y)) := by
    intro x y hx hy
    rw [hx, hy]
    unfold opsB
    after_reads_at
  rw [hm _ _ (h54 a n q j h).symm (b_v55 h54 a n q h).symm]
  unfold Data.E
  by_cases ho : ok n q j
  · rw [if_pos ho, if_pos ho, ← EReal.coe_sub]
    refine (Ideal.exp_coe _).trans ?_
    rw [Real.exp_sub]
  · rw [if_neg ho, if_neg ho, zero_div, EReal.bot_sub]
    exact exp_bot.trans EReal.coe_zero.symm

theorem fin_pos_div (n : Fin 4) (q : Fin 128) (hh) : (⟨(pos n q).val / 128, hh⟩ : Fin 4) = n := Fin.ext (show (n.val * 128 + q.val) / 128 = n.val by omega)
theorem fin_pos_mod (n : Fin 4) (q : Fin 128) (hh) : (⟨(pos n q).val % 128, hh⟩ : Fin 128) = q := Fin.ext (show (n.val * 128 + q.val) % 128 = q.val by omega)

theorem b1_v70 (m : Fin 16 → Fin 4 → Fin 16 → Fin 128 → ℝ) (h15 : ∀ a n j h d, IsR (V0 (Proc.devRef .tc main_v15) (ix5 a n j h d)) (win X.U a n h j d))
    (h59 : ∀ a n q j h, IsR (V0 (Proc.devRef .tc main_v59) (ix5 a n h q j)) (X.E a n h q j / Real.exp (m a n h q)))
    (a : Fin 16) (n : Fin 4) (q : Fin 128) (h : Fin 16) (d : Fin 64) :
    IsR (after opsB1 V0 (Proc.devRef .tc main_v70) (ix4 a (pos n q) h d)) (X.OU a n h q d / X.D a n h q) := by
  unfold opsB1
  after_reads_at
  rw [fin_pos_div n q, fin_pos_mod n q]
  simp only [h15, h59, ← EReal.coe_mul, coe_sum]
  have he := (Real.exp_pos (m a n h q)).ne'
  have hd := (X.D_pos a n h q).ne'
  rw [sum_shift, div_coe _ _ (div_ne_zero hd he)]
  refine congrArg _ ?_
  have e : ∑ i, win X.U a n h i d * (X.E a n h q i / Real.exp (m a n h q)) = X.OU a n h q d / Real.exp (m a n h q) := by
    unfold Data.OU
    rw [Finset.sum_div]
    exact Finset.sum_congr rfl fun i _ => (mul_div_assoc _ _ _).symm
  rw [e]
  change X.OU a n h q d / Real.exp (m a n h q) / (X.D a n h q / Real.exp (m a n h q)) = _
  field_simp

/-- A sum's log from the log of its quotient by an exponential. -/
theorem log_shift (t z : ℝ) (hz : 0 < z) : t + Real.log (z / Real.exp t) = Real.log z := by
  rw [Real.log_div hz.ne' (Real.exp_pos t).ne', Real.log_exp]; ring

theorem b1_v71 (m : Fin 16 → Fin 4 → Fin 16 → Fin 128 → ℝ) (h55 : ∀ a n q h, IsR (V0 (Proc.devRef .tc main_v55) (ix4 a n h q)) (m a n h q))
    (h59 : ∀ a n q j h, IsR (V0 (Proc.devRef .tc main_v59) (ix5 a n h q j)) (X.E a n h q j / Real.exp (m a n h q)))
    (a : Fin 16) (n : Fin 4) (q : Fin 128) (h : Fin 16) :
    IsR (after opsB1 V0 (Proc.devRef .tc main_v71) (ix3 a (pos n q) h)) (Real.log (X.D a n h q)) := by
  unfold opsB1
  after_reads_at
  rw [fin_pos_div n q, fin_pos_mod n q]
  simp only [h55, h59, ← EReal.coe_mul, coe_sum]
  rw [sum_shift]
  change ((m a n h q : ℝ) : EReal) + Ideal.log ((X.D a n h q / Real.exp (m a n h q) : ℝ) : EReal) = _
  rw [log_coe _ (div_pos (X.D_pos a n h q) (Real.exp_pos _)), ← EReal.coe_add, log_shift _ _ (X.D_pos a n h q)]

theorem pos_blk (l : Fin 512) : pos (blk l) (row l) = l := Fin.ext (show l.val / 128 * 128 + l.val % 128 = l.val by omega)
theorem blk_pos (n : Fin 4) (q : Fin 128) : blk (pos n q) = n := Fin.ext (show (n.val * 128 + q.val) / 128 = n.val by omega)
theorem row_pos (n : Fin 4) (q : Fin 128) : row (pos n q) = q := Fin.ext (show (n.val * 128 + q.val) % 128 = q.val by omega)

/-! ## The merge -/

section
variable (L3 : Fin 16 → Fin 512 → Fin 16 → ℝ) (h4 : ∀ a l h, IsR (V0 (Proc.devRef .tc main_arg4) (ix3 a l h)) (X.L1 a l h))
  (h6 : ∀ a l h, IsR (V0 (Proc.devRef .tc main_arg6) (ix3 a l h)) (X.L2 a l h)) (h71 : ∀ a l h, IsR (V0 (Proc.devRef .tc main_v71) (ix3 a l h)) (L3 a l h))
include h4 h6 h71

theorem c_v75 (a : Fin 16) (l : Fin 512) (h : Fin 16) :
    IsR (after opsC V0 (Proc.devRef .tc main_v75) (ix3 a l h)) (Real.exp (X.L1 a l h - max (max (X.L1 a l h) (X.L2 a l h)) (L3 a l h))) := by
  unfold opsC
  after_reads_at
  rw [h4, h6, h71, max_coe, max_coe, ← EReal.coe_sub, Ideal.exp_coe]

theorem c_v77 (a : Fin 16) (l : Fin 512) (h : Fin 16) :
    IsR (after opsC V0 (Proc.devRef .tc main_v77) (ix3 a l h)) (Real.exp (X.L2 a l h - max (max (X.L1 a l h) (X.L2 a l h)) (L3 a l h))) := by
  unfold opsC
  after_reads_at
  rw [h4, h6, h71, max_coe, max_coe, ← EReal.coe_sub, Ideal.exp_coe]

theorem c_v79 (a : Fin 16) (l : Fin 512) (h : Fin 16) :
    IsR (after opsC V0 (Proc.devRef .tc main_v79) (ix3 a l h)) (Real.exp (L3 a l h - max (max (X.L1 a l h) (X.L2 a l h)) (L3 a l h))) := by
  unfold opsC
  after_reads_at
  rw [h4, h6, h71, max_coe, max_coe, ← EReal.coe_sub, Ideal.exp_coe]

theorem c_v81 (a : Fin 16) (l : Fin 512) (h : Fin 16) :
    IsR (after opsC V0 (Proc.devRef .tc main_v81) (ix3 a l h)) ((Real.exp (X.L1 a l h) + Real.exp (X.L2 a l h) + Real.exp (L3 a l h)) / Real.exp (max (max (X.L1 a l h) (X.L2 a l h)) (L3 a l h))) := by
  unfold opsC
  after_reads_at
  rw [h4, h6, h71, max_coe, max_coe]
  simp only [← EReal.coe_sub, Ideal.exp_coe, ← EReal.coe_add]
  rw [Real.exp_sub, Real.exp_sub, Real.exp_sub, ← add_div, ← add_div]

theorem c_v83 (a : Fin 16) (l : Fin 512) (h : Fin 16) :
    IsR (after opsC V0 (Proc.devRef .tc main_v83) (ix3 a l h)) (Real.log (Real.exp (X.L1 a l h) + Real.exp (X.L2 a l h) + Real.exp (L3 a l h))) := by
  unfold opsC
  after_reads_at
  rw [h4, h6, h71, max_coe, max_coe]
  simp only [← EReal.coe_sub, Ideal.exp_coe, ← EReal.coe_add]
  rw [Real.exp_sub, Real.exp_sub, Real.exp_sub, ← add_div, ← add_div, log_coe _ (by positivity), ← EReal.coe_add, log_shift _ _ (by positivity)]

end

theorem d_v97 (Z : Fin 16 → Fin 512 → Fin 16 → ℝ) (h83 : ∀ a l h, IsR (V0 (Proc.devRef .tc main_v83) (ix3 a l h)) (Z a l h))
    (a : Fin 16) (l : Fin 512) (h : Fin 16) :
    IsR (after opsD V0 (Proc.devRef .tc main_v97) (ix3 a l ⟨h.val, by omega⟩)) (Z a l h) := by
  unfold opsD
  after_reads_at
  exact h83 _ _ _

theorem d_v98 (w1 w2 w3 z : Fin 16 → Fin 512 → Fin 16 → ℝ) (hz : ∀ a l h, z a l h ≠ 0) (O3 : Fin 16 → Fin 512 → Fin 16 → Fin 64 → ℝ)
    (h75 : ∀ a l h, IsR (V0 (Proc.devRef .tc main_v75) (ix3 a l h)) (w1 a l h)) (h77 : ∀ a l h, IsR (V0 (Proc.devRef .tc main_v77) (ix3 a l h)) (w2 a l h))
    (h79 : ∀ a l h, IsR (V0 (Proc.devRef .tc main_v79) (ix3 a l h)) (w3 a l h)) (h81 : ∀ a l h, IsR (V0 (Proc.devRef .tc main_v81) (ix3 a l h)) (z a l h))
    (h3 : ∀ a l h d, IsR (V0 (Proc.devRef .tc main_arg3) (ix4 a l h d)) (X.O1 a l h d)) (h5 : ∀ a l h d, IsR (V0 (Proc.devRef .tc main_arg5) (ix4 a l h d)) (X.O2 a l h d))
    (h70 : ∀ a l h d, IsR (V0 (Proc.devRef .tc main_v70) (ix4 a l h d)) (O3 a l h d)) (h7 : ∀ a l c, IsR (V0 (Proc.devRef .tc main_arg7) (ix3 a l c)) (X.C a l c))
    (a : Fin 16) (l : Fin 512) (h : Fin 16) :
    IsR (after opsD V0 (Proc.devRef .tc main_v98) (ix3 a l ⟨h.val, by omega⟩))
      ((∑ d, X.C a l (col h d) * (w1 a l h * X.O1 a l h d + w2 a l h * X.O2 a l h d + w3 a l h * O3 a l h d)) / z a l h) := by
  unfold opsD
  after_reads_at
  simp only [h75, h77, h79, h81, h3, h5, h70, h7, ← EReal.coe_mul, ← EReal.coe_add, coe_sum]
  exact div_coe _ _ (hz a l h)

/-! ## All of it -/

/-- The merged output's product with the gradient, from exponentials against a shift. -/
theorem merge_T (X : Data) (a : Fin 16) (n : Fin 4) (h : Fin 16) (q : Fin 128) (t : ℝ) :
    (∑ d, X.C a (pos n q) (col h d) * (Real.exp (X.L1 a (pos n q) h - t) * X.O1 a (pos n q) h d + Real.exp (X.L2 a (pos n q) h - t) * X.O2 a (pos n q) h d
        + Real.exp (Real.log (X.D a n h q) - t) * (X.OU a n h q d / X.D a n h q)))
      / ((Real.exp (X.L1 a (pos n q) h) + Real.exp (X.L2 a (pos n q) h) + Real.exp (Real.log (X.D a n h q))) / Real.exp t) = X.T a n h q := by
  have hD := (X.D_pos a n h q).ne'
  have hZ := (X.Z_pos a n h q).ne'
  have ht := (Real.exp_pos t).ne'
  rw [Real.exp_log (X.D_pos a n h q)]
  change _ / (X.Z a n h q / Real.exp t) = _
  unfold Data.T
  rw [div_div_eq_mul_div, Finset.sum_mul]
  congr 1
  refine Finset.sum_congr rfl fun d _ => ?_
  rw [Real.exp_sub, Real.exp_sub, Real.exp_sub, Real.exp_log (X.D_pos a n h q)]
  field_simp

section
variable (G : Given V0 X)
include G

/-- The buffers after the windows are built. -/
theorem wins (a : Fin 16) (n : Fin 4) (j : Fin 256) (h : Fin 16) (d : Fin 64) :
    IsR (after opsP4 (after opsP3 (after opsP2 (after opsP1 (after opsP0 V0)))) (Proc.devRef .tc main_v11) (ix5 a n j h d)) (win X.K a n h j d)
    ∧ IsR (after opsP4 (after opsP3 (after opsP2 (after opsP1 (after opsP0 V0)))) (Proc.devRef .tc main_v15) (ix5 a n j h d)) (win X.U a n h j d) := by
  constructor
  · rw [keepP4 (by decide), keepP3 (by decide)]
    refine p2_v11 X.K ?_ ?_ a n j h d
    · exact p1_v10 X.K (fun a n q h d => p0_v7 a n q h d) (fun a n q h d => p0_v9 G a n q h d)
    · intro a n q h d
      rw [keepP1 (by decide)]
      exact p0_v8 G a n q h d
  · refine p4_v15 X.U ?_ ?_ a n j h d
    · refine p3_v14 X.U ?_ ?_
      · intro a n q h d
        rw [keepP2 (by decide), keepP1 (by decide)]
        exact p0_v7 a n q h d
      · refine p2_v13 X.U ?_
        intro a l h d
        rw [keepP1 (by decide)]
        exact p0_v5 G a l h d
    · intro a n q h d
      rw [keepP3 (by decide)]
      refine p2_v12 X.U ?_ a n q h d
      intro a l h d
      rw [keepP1 (by decide)]
      exact p0_v5 G a l h d

/-- The valuation before the softmax. -/
abbrev V5 (V0 : Valuation τ sig (Elt Ideal)) : Valuation τ sig (Elt Ideal) := after opsP4 (after opsP3 (after opsP2 (after opsP1 (after opsP0 V0))))
/-- The valuation before the maximum. -/
abbrev V7 (V0 : Valuation τ sig (Elt Ideal)) : Valuation τ sig (Elt Ideal) := after opsA3 (after opsA2 (V5 V0))

theorem all_v54 (a : Fin 16) (n : Fin 4) (q : Fin 128) (j : Fin 256) (h : Fin 16) :
    Eq (α := EReal) (V7 V0 (Proc.devRef .tc main_v54) (ix5 a n h q j)) (if ok n q j then ((X.S a n h q j : ℝ) : EReal) else ⊥) := by
  unfold V7
  refine a_v54 G.sl ?_ ?_ ?_ (fun a n j h d => (wins G a n j h d).1) a n q j h
  · intro n
    rw [keepP4 (by decide), keepP3 (by decide), keepP2 (by decide), keepP1 (by decide)]
    exact p0_c n
  · intro h
    rw [keepP4 (by decide), keepP3 (by decide), keepP2 (by decide), keepP1 (by decide)]
    exact p0_cst h
  · intro a n q h d
    rw [keepP4 (by decide), keepP3 (by decide), keepP2 (by decide), keepP1 (by decide)]
    exact p0_v6 G a n q h d

/-- The valuation before the merge. -/
abbrev V9 (V0 : Valuation τ sig (Elt Ideal)) : Valuation τ sig (Elt Ideal) := after opsB1 (after opsB (V7 V0))

theorem all_v70 (a : Fin 16) (n : Fin 4) (q : Fin 128) (h : Fin 16) (d : Fin 64) :
    IsR (V9 V0 (Proc.devRef .tc main_v70) (ix4 a (pos n q) h d)) (X.OU a n h q d / X.D a n h q) := by
  refine b1_v70 (fun a n h q => hmx (V7 V0) a n h q) ?_ (fun a n q j h => b_v59 (all_v54 G) a n q j h) a n q h d
  intro a n j h d
  rw [keepB (by decide)]
  unfold V7
  rw [keepA3 (by decide), keepA2 (by decide)]
  exact (wins G a n j h d).2

theorem all_v71 (a : Fin 16) (n : Fin 4) (q : Fin 128) (h : Fin 16) :
    IsR (V9 V0 (Proc.devRef .tc main_v71) (ix3 a (pos n q) h)) (Real.log (X.D a n h q)) :=
  b1_v71 (fun a n h q => hmx (V7 V0) a n h q) (fun a n q h => b_v55 (all_v54 G) a n q h) (fun a n q j h => b_v59 (all_v54 G) a n q j h) a n q h

omit G in
theorem keep9 {r : Ref sig .tc} (h0 : r ∉ wrP0) (h1 : r ∉ wrP1) (h2 : r ∉ wrP2) (h3 : r ∉ wrP3) (h4 : r ∉ wrP4) (hA2 : r ∉ wrA2) (hA3 : r ∉ wrA3)
    (hB : r ∉ wrB) (hB1 : r ∉ wrB1) : V9 V0 (Proc.devRef .tc r) = V0 (Proc.devRef .tc r) := by
  unfold V9 V7 V5
  rw [keepB1 hB1, keepB hB, keepA3 hA3, keepA2 hA2, keepP4 h4, keepP3 h3, keepP2 h2, keepP1 h1, keepP0 h0]

theorem l1_9 (a : Fin 16) (l : Fin 512) (h : Fin 16) : IsR (V9 V0 (Proc.devRef .tc main_arg4) (ix3 a l h)) (X.L1 a l h) := by
  rw [keep9 (by decide) (by decide) (by decide) (by decide) (by decide) (by decide) (by decide) (by decide) (by decide)]
  exact G.l1 a l h
theorem l2_9 (a : Fin 16) (l : Fin 512) (h : Fin 16) : IsR (V9 V0 (Proc.devRef .tc main_arg6) (ix3 a l h)) (X.L2 a l h) := by
  rw [keep9 (by decide) (by decide) (by decide) (by decide) (by decide) (by decide) (by decide) (by decide) (by decide)]
  exact G.l2 a l h
theorem l3_9 (a : Fin 16) (l : Fin 512) (h : Fin 16) : IsR (V9 V0 (Proc.devRef .tc main_v71) (ix3 a l h)) (Real.log (X.D a (blk l) h (row l))) := by
  have := all_v71 G a (blk l) (row l) h
  rwa [pos_blk] at this

theorem all_v97 (a : Fin 16) (n : Fin 4) (q : Fin 128) (h : Fin 16) :
    IsR (after opsD (after opsC (V9 V0)) (Proc.devRef .tc main_v97) (ix3 a (pos n q) ⟨h.val, by omega⟩)) (Real.log (X.Z a n h q)) := by
  refine (d_v97 _ (c_v83 (fun a l h => Real.log (X.D a (blk l) h (row l))) (l1_9 G) (l2_9 G) (l3_9 G)) a (pos n q) h).trans ?_
  rw [blk_pos, row_pos, Real.exp_log (X.D_pos a n h q)]
  rfl

theorem all_v98 (a : Fin 16) (n : Fin 4) (q : Fin 128) (h : Fin 16) :
    IsR (after opsD (after opsC (V9 V0)) (Proc.devRef .tc main_v98) (ix3 a (pos n q) ⟨h.val, by omega⟩)) (X.T a n h q) := by
  refine (d_v98 (X := X) _ _ _ _ (fun a l h => by positivity) (fun a l h d => X.OU a (blk l) h (row l) d / X.D a (blk l) h (row l))
    (c_v75 (fun a l h => Real.log (X.D a (blk l) h (row l))) (l1_9 G) (l2_9 G) (l3_9 G))
    (c_v77 (fun a l h => Real.log (X.D a (blk l) h (row l))) (l1_9 G) (l2_9 G) (l3_9 G))
    (c_v79 (fun a l h => Real.log (X.D a (blk l) h (row l))) (l1_9 G) (l2_9 G) (l3_9 G))
    (c_v81 (fun a l h => Real.log (X.D a (blk l) h (row l))) (l1_9 G) (l2_9 G) (l3_9 G)) ?_ ?_ ?_ ?_ a (pos n q) h).trans ?_
  · intro a l h d
    rw [keepC (by decide), keep9 (by decide) (by decide) (by decide) (by decide) (by decide) (by decide) (by decide) (by decide) (by decide)]
    exact G.o1 a l h d
  · intro a l h d
    rw [keepC (by decide), keep9 (by decide) (by decide) (by decide) (by decide) (by decide) (by decide) (by decide) (by decide) (by decide)]
    exact G.o2 a l h d
  · intro a l h d
    rw [keepC (by decide)]
    have := all_v70 G a (blk l) (row l) h d
    rwa [pos_blk] at this
  · intro a l c
    rw [keepC (by decide), keep9 (by decide) (by decide) (by decide) (by decide) (by decide) (by decide) (by decide) (by decide) (by decide)]
    exact G.c a l c
  · rw [blk_pos, row_pos]
    exact congrArg _ (merge_T X a n h q _)

omit G in
theorem V_eq (m : (ℓ : Loc nD τ sig) → Buf (Elt Ideal) ℓ) (c : Dev nD) (b : Ref sig .tc) :
    V m c b = after opsD (after opsC (V9 (fun b => m (c, b)))) (Proc.devRef .tc b) := by
  unfold V9 V7 V5
  simp only [← after_two]
  rfl

end

end Cert.KernelIdeal.Value

end
end
-- ==== Proof.Attn.KFin.lean ====
/- The backward kernel's arrays, block by block, as real numbers. -/
module

public import proofs.«01_k».proof.Proof.Bwd.Frame
public import proofs.«01_k».proof.Proof.Attn.KPay
public import proofs.«01_k».proof.Proof.Attn.KPre
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Cert.KernelIdeal.Bwd Idealize.ShloMosaic Idealize.ShloMosaic.TcCoe Idealize.SL.Sem
open Idealize.ShloMosaic.Pipeline (Dat)
open Cert.Attn hiding hd

/-- Where each window's block lies at a point. -/
theorem idx : ∀ t : Fin cfg0.N, win0_0.index t = ![t.val / 5, min (t.val % 5) 3, 0] ∧ win0_1.index t = ![t.val / 5, min (t.val % 5) 3 - 1, 0]
    ∧ win0_2.index t = ![t.val / 5, min (t.val % 5) 3, 0] ∧ win0_3.index t = ![t.val / 5, min (t.val % 5) 3 - 1, 0]
    ∧ win0_4.index t = ![t.val / 5, min (t.val % 5) 3, 0] ∧ win0_5.index t = ![t.val / 5, min (t.val % 5) 3, 0]
    ∧ win0_6.index t = ![t.val / 5, min (t.val % 5) 3, 0] ∧ win0_7.index t = ![t.val / 5, min (t.val % 5) 3, 0]
    ∧ win0_8.index t = ![t.val / 5, min (t.val % 5) 3, 0] ∧ win0_9.index t = ![t.val / 5, t.val % 5 - 1, 0]
    ∧ win0_10.index t = ![t.val / 5, t.val % 5 - 1, 0] :=
  (by decide +kernel : ∀ t : Fin grid0.N, _)

theorem flush9 : ∀ t : Fin cfg0.N, win0_9.flush t = true → t.val % 5 ≠ 0 := (by decide +kernel : ∀ t : Fin grid0.N, _)
theorem flush10 : ∀ t : Fin cfg0.N, win0_10.flush t = true → t.val % 5 ≠ 0 := (by decide +kernel : ∀ t : Fin grid0.N, _)

variable (m : (ℓ : Loc nD τ sig) → Buf (Elt Ideal) ℓ) (c : Dev nD)

/-- The block before. -/
def bpos (n : Fin 4) (r : Fin 128) : Fin 512 := ⟨(n.val - 1) * 128 + r.val, by omega⟩

section
variable (t : Fin cfg0.N) (a : Fin 16) (n : Fin 4) (ha : t.val / 5 = a.val) (hn : min (t.val % 5) 3 = n.val)
include ha hn

theorem x0_at (r : Fin 128) (k : Fin 1024) : (iblk m c 0 t : Vec Ideal S1x128x1024 .bf16) (ix3 0 r k) = (V m c main_arg0 : FVec Ideal S16x512x1024 .bf16) (ix3 a (pos n r) k) := by
  blk_point [iblk, idx t, pos, bpos]
  all_goals omega

theorem x1_at (r : Fin 128) (k : Fin 1024) : (iblk m c 1 t : Vec Ideal S1x128x1024 .bf16) (ix3 0 r k) = (V m c main_arg1 : FVec Ideal S16x512x1024 .bf16) (ix3 a (bpos n r) k) := by
  blk_point [iblk, idx t, pos, bpos]
  all_goals omega

theorem x2_at (r : Fin 128) (k : Fin 1024) : (iblk m c 2 t : Vec Ideal S1x128x1024 .bf16) (ix3 0 r k) = (V m c main_arg1 : FVec Ideal S16x512x1024 .bf16) (ix3 a (pos n r) k) := by
  blk_point [iblk, idx t, pos, bpos]
  all_goals omega

theorem x3_at (r : Fin 128) (k : Fin 1024) : (iblk m c 3 t : Vec Ideal S1x128x1024 .bf16) (ix3 0 r k) = (V m c main_arg2 : FVec Ideal S16x512x1024 .bf16) (ix3 a (bpos n r) k) := by
  blk_point [iblk, idx t, pos, bpos]
  all_goals omega

theorem x4_at (r : Fin 128) (k : Fin 1024) : (iblk m c 4 t : Vec Ideal S1x128x1024 .bf16) (ix3 0 r k) = (V m c main_arg2 : FVec Ideal S16x512x1024 .bf16) (ix3 a (pos n r) k) := by
  blk_point [iblk, idx t, pos, bpos]
  all_goals omega

theorem x5_at (r : Fin 128) (k : Fin 1024) : (iblk m c 5 t : Vec Ideal S1x128x1024 .bf16) (ix3 0 r k) = (V m c main_arg7 : FVec Ideal S16x512x1024 .bf16) (ix3 a (pos n r) k) := by
  blk_point [iblk, idx t, pos, bpos]
  all_goals omega

theorem x6_at (r : Fin 128) (k : Fin 128) : (iblk m c 6 t : Vec Ideal S1x128x128 .f32) (ix3 0 r k) = (V m c main_v97 : FVec Ideal S16x512x128 .f32) (ix3 a (pos n r) k) := by
  blk_point [iblk, idx t, pos, bpos]
  all_goals omega

theorem x7_at (r : Fin 128) (k : Fin 128) : (iblk m c 7 t : Vec Ideal S1x128x128 .f32) (ix3 0 r k) = (V m c main_v98 : FVec Ideal S16x512x128 .f32) (ix3 a (pos n r) k) := by
  blk_point [iblk, idx t, pos, bpos]
  all_goals omega

end

variable {X : Data} (G : Given (fun b => m (c, b)) X)

section
variable (t : Fin cfg0.N) (a : Fin 16) (n : Fin 4) (ha : t.val / 5 = a.val) (hn : min (t.val % 5) 3 = n.val)
include G ha hn

theorem ins : Ins X a n (fun r k => X.K a (bpos n r) k) (fun r k => X.U a (bpos n r) k) (iblk m c 0 t) (iblk m c 1 t) (iblk m c 2 t) (iblk m c 3 t) (iblk m c 4 t) (iblk m c 5 t)
    (iblk m c 6 t) (iblk m c 7 t) where
  q r k := (x0_at m c t a n ha hn r k).trans ((congrFun (V_main_arg0 m c) _).trans (G.q a (pos n r) k))
  k1 r k := (x1_at m c t a n ha hn r k).trans ((congrFun (V_main_arg1 m c) _).trans (G.k a (bpos n r) k))
  k2 r k := (x2_at m c t a n ha hn r k).trans ((congrFun (V_main_arg1 m c) _).trans (G.k a (pos n r) k))
  u1 r k := (x3_at m c t a n ha hn r k).trans ((congrFun (V_main_arg2 m c) _).trans (G.u a (bpos n r) k))
  u2 r k := (x4_at m c t a n ha hn r k).trans ((congrFun (V_main_arg2 m c) _).trans (G.u a (pos n r) k))
  c r k := (x5_at m c t a n ha hn r k).trans ((congrFun (V_main_arg7 m c) _).trans (G.c a (pos n r) k))
  l r h := (x6_at m c t a n ha hn r _).trans ((congrFun (V_eq m c main_v97) _).trans (all_v97 G a n r h))
  t r h := (x7_at m c t a n ha hn r _).trans ((congrFun (V_eq m c main_v98) _).trans (all_v98 G a n r h))
  kw r k h := congrArg (fun i => X.K a i k) (Fin.ext (show (n.val - 1) * 128 + r.val = n.val * 128 + r.val - 128 by omega))
  uw r k h := congrArg (fun i => X.U a i k) (Fin.ext (show (n.val - 1) * 128 + r.val = n.val * 128 + r.val - 128 by omega))
  sl := G.sl
end

theorem lane_pr (k : Fin 1024) : lane (pr k) (pl k) = k := Fin.ext (show 128 * (k.val / 128) + k.val % 128 = k.val by omega)

theorem src_a (t : Fin cfg0.N) : (src t).val / 5 = t.val / 5 := by
  unfold src
  split
  · show (t.val - 1) / 5 = t.val / 5
    omega
  · rfl
theorem src_n (t : Fin cfg0.N) : min ((src t).val % 5) 3 = min (t.val % 5) 3 := by
  unfold src
  split
  · show min ((t.val - 1) % 5) 3 = _
    omega
  · rfl
theorem src_lt (t : Fin cfg0.N) : (src t).val % 5 < 4 := by
  unfold src
  split
  · show (t.val - 1) % 5 < 4
    omega
  · omega

theorem par_n (t : Fin cfg0.N) (n : Fin 4) (hn : min (t.val % 5) 3 = n.val) : par t = parB n := by
  unfold par parB
  by_cases h : n.val = 0
  · rw [if_pos h, if_pos (by omega)]
  · rw [if_neg h, if_neg (by omega)]

section
variable (p : Fin 2) (k : Fin 8) (x0 x1 x2 x3 x4 x5 : Vec Ideal S1x128x1024 .bf16) (x6 x7 : Vec Ideal S1x128x128 .f32) (b : Vec Ideal S2x8x256x256 .f32) (a : Vec Ideal S128x128 .f32) (r l : Fin 128)

theorem pDk_at : Eq (α := EReal) (pDk p k x0 x1 x2 x3 x4 x5 x6 x7 b a (ix3 0 r l)) ((a (ix2 r l) : EReal) + (pDkM p k x0 x1 x2 x3 x4 x5 x6 x7 b (ix2 ⟨r.val, by omega⟩ l) : EReal)) := by
  unfold pDk pDkM k0_pay49 k0_pay48
  generalize k0_pay45 (F := Ideal) _ _ _ _ _ _ _ _ _ = z
  pointwise

theorem pDv_at : Eq (α := EReal) (pDv p k x0 x1 x2 x5 x6 b a (ix3 0 r l)) ((a (ix2 r l) : EReal) + (pDvM p k x0 x1 x2 x5 x6 b (ix2 ⟨r.val, by omega⟩ l) : EReal)) := by
  unfold pDv k0_pay51
  generalize pDvM (F := Ideal) _ _ _ _ _ _ _ _ = z
  pointwise

theorem hi_at (z : FVec Ideal S256x128 .f32) : Eq (α := EReal) (k0_pay50 z (ix2 r l)) (z (ix2 ⟨128 + r.val, by omega⟩ l)) ∧ Eq (α := EReal) (k0_pay52 z (ix2 r l)) (z (ix2 ⟨128 + r.val, by omega⟩ l)) := by
  unfold k0_pay50 k0_pay52
  constructor <;> pointwise

theorem dkHi_at (k : Fin 1024) : Eq (α := EReal) (dkHi p x0 x1 x2 x3 x4 x5 x6 x7 b (ix2 r k)) (pDkM p (pr k) x0 x1 x2 x3 x4 x5 x6 x7 b (ix2 ⟨128 + r.val, by omega⟩ (pl k))) :=
  (hi_at r (pl k) (pDkM p (pr k) x0 x1 x2 x3 x4 x5 x6 x7 b)).1

theorem dvHi_at (k : Fin 1024) : Eq (α := EReal) (dvHi p x0 x1 x2 x5 x6 b (ix2 r k)) (pDvM p (pr k) x0 x1 x2 x5 x6 b (ix2 ⟨128 + r.val, by omega⟩ (pl k))) :=
  (hi_at r (pl k) (pDvM p (pr k) x0 x1 x2 x5 x6 b)).2

theorem out_at (z : Vec Ideal S128x1024 .f32) (k : Fin 1024) : Eq (α := EReal) (k0_pay5 z (ix3 0 r k)) (z (ix2 r k)) ∧ Eq (α := EReal) (k0_pay6 z (ix3 0 r k)) (z (ix2 r k)) := by
  unfold k0_pay5 k0_pay6
  constructor <;> pointwise
end

section
variable (t : Fin cfg0.N) (a : Fin 16) (n : Fin 4) (ha : t.val / 5 = a.val) (hn : min (t.val % 5) 3 = n.val) (r : Fin 128) (k : Fin 1024)
include G ha hn

theorem dqAt_at : IsR (dqAt m c t (ix3 0 r k)) (X.dq a (pos n r) k) := by
  have I := ins m c G (src t) a n ((src_a t).trans ha) ((src_n t).trans hn)
  have h := pDq_at I (pr k) r (pl k)
  rw [← par_n (src t) n ((src_n t).trans hn), lane_pr] at h
  unfold Data.dq
  rw [blk_pos, row_pos]
  exact h

theorem accK_at : IsR (accK m c t (ix2 r k)) (X.DKW a n (Attn.hd k) ⟨128 + r.val, by omega⟩ (el k)) := by
  have I := ins m c G (src t) a n ((src_a t).trans ha) ((src_n t).trans hn)
  have h := pDkM_at I (pr k) ⟨128 + r.val, by omega⟩ (pl k)
  rw [← par_n (src t) n ((src_n t).trans hn), lane_pr] at h
  unfold accK
  exact (dkHi_at _ _ _ _ _ _ _ _ _ _ r k).trans h

theorem accV_at : IsR (accV m c t (ix2 r k)) (X.DUW a n (Attn.hd k) ⟨128 + r.val, by omega⟩ (el k)) := by
  have I := ins m c G (src t) a n ((src_a t).trans ha) ((src_n t).trans hn)
  have h := pDvM_at I (pr k) ⟨128 + r.val, by omega⟩ (pl k)
  rw [← par_n (src t) n ((src_n t).trans hn), lane_pr] at h
  unfold accV
  exact (dvHi_at _ _ _ _ _ _ _ r k).trans h
end

theorem shift_last (W : Fin 16 → Fin 4 → Fin 16 → Fin 256 → Fin 64 → ℝ) (a : Fin 16) (n : Fin 4) (r : Fin 128) (k : Fin 1024) (hn : ¬ n.val < 3) :
    shift W a (pos n r) k = W a n (Attn.hd k) ⟨128 + r.val, by omega⟩ (el k) := by
  unfold shift
  simp only [blk_pos, row_pos, dif_neg hn, add_zero]

theorem shift_next (W : Fin 16 → Fin 4 → Fin 16 → Fin 256 → Fin 64 → ℝ) (a : Fin 16) (n : Fin 4) (r : Fin 128) (k : Fin 1024) (hn : n.val < 3) :
    shift W a (pos n r) k = W a n (Attn.hd k) ⟨128 + r.val, by omega⟩ (el k) + W a ⟨n.val + 1, by omega⟩ (Attn.hd k) ⟨r.val, by omega⟩ (el k) := by
  unfold shift
  simp only [blk_pos, row_pos, dif_pos hn]

section
variable (t : Fin cfg0.N) (a : Fin 16) (n : Fin 4) (ha : t.val / 5 = a.val) (hn : t.val % 5 = n.val + 1) (r : Fin 128) (k : Fin 1024)
include G ha hn

theorem dkAt_at : IsR (dkAt m c t (ix3 0 r k)) (shift X.DKW a (pos n r) k) := by
  have hp : (prev t).val / 5 = a.val := by show (t.val - 1) / 5 = a.val; omega
  have hq : min ((prev t).val % 5) 3 = n.val := by show min ((t.val - 1) % 5) 3 = n.val; omega
  have hacc := accK_at m c G (prev t) a n hp hq r k
  unfold dkAt
  rw [if_neg (by omega)]
  by_cases h4 : t.val % 5 = 4
  · rw [if_pos h4, shift_last _ _ _ _ _ (by omega)]
    exact (out_at r _ k).1.trans hacc
  · rw [if_neg h4, shift_next _ _ _ _ _ (by omega)]
    have I := ins m c G t a ⟨n.val + 1, by omega⟩ ha (by show min (t.val % 5) 3 = n.val + 1; omega)
    have h := pDkM_at I (pr k) ⟨r.val, by omega⟩ (pl k)
    rw [show parB ⟨n.val + 1, by omega⟩ = 0 from if_neg (Nat.succ_ne_zero _), lane_pr] at h
    have e : sla (pr k) (accK m c (prev t)) (ix2 r (pl k)) = accK m c (prev t) (ix2 r k) := by
      refine congrArg (fun i => accK m c (prev t) (ix2 r i)) (lane_pr k)
    refine (pDk_at 0 (pr k) _ _ _ _ _ _ _ _ _ _ r (pl k)).trans ?_
    rw [EReal.coe_add]
    exact congrArg₂ (· + ·) (e.trans hacc) h

theorem dvAt_at : IsR (dvAt m c t (ix3 0 r k)) (shift X.DUW a (pos n r) k) := by
  have hp : (prev t).val / 5 = a.val := by show (t.val - 1) / 5 = a.val; omega
  have hq : min ((prev t).val % 5) 3 = n.val := by show min ((t.val - 1) % 5) 3 = n.val; omega
  have hacc := accV_at m c G (prev t) a n hp hq r k
  unfold dvAt
  rw [if_neg (by omega)]
  by_cases h4 : t.val % 5 = 4
  · rw [if_pos h4, shift_last _ _ _ _ _ (by omega)]
    exact (out_at r _ k).2.trans hacc
  · rw [if_neg h4, shift_next _ _ _ _ _ (by omega)]
    have I := ins m c G t a ⟨n.val + 1, by omega⟩ ha (by show min (t.val % 5) 3 = n.val + 1; omega)
    have h := pDvM_at I (pr k) ⟨r.val, by omega⟩ (pl k)
    rw [show parB ⟨n.val + 1, by omega⟩ = 0 from if_neg (Nat.succ_ne_zero _), lane_pr] at h
    have e : sla (pr k) (accV m c (prev t)) (ix2 r (pl k)) = accV m c (prev t) (ix2 r k) := by
      refine congrArg (fun i => accV m c (prev t) (ix2 r i)) (lane_pr k)
    refine (pDv_at 0 (pr k) _ _ _ _ _ _ _ r (pl k)).trans ?_
    rw [EReal.coe_add]
    exact congrArg₂ (· + ·) (e.trans hacc) h
end

/-- An array of real numbers. -/
def arr (f : Fin 16 → Fin 512 → Fin 1024 → ℝ) : FVec Ideal S16x512x1024 .bf16 := fun y => ((f (y 0) (y 1) (y 2) : ℝ) : EReal)

include G

theorem final8 : (dats m 0 c).arrAt 8 (cfgs 0).N = arr X.dq := by
  refine (dats m 0 c).arrAt_eq_of_covers 8 _ (by decide +kernel) fun t _ y => ?_
  blk_simp
  rw [after0_8]
  have ht : t.val < 80 := lt_of_lt_of_eq t.isLt (show cfg0.N = 80 from N_0)
  obtain ⟨r, k, rfl⟩ : ∃ (r : Fin 128) (k : Fin 1024), y = (ix3 0 r k : S1x128x1024.Idx) := ⟨y 1, y 2, by
    funext i
    fin_cases i
    · exact Subsingleton.elim (α := Fin 1) _ _
    · rfl
    · rfl⟩
  have e : arr (X.dq) ((win0_8.blk t).view.emb (ix3 0 r k)) = arr (X.dq) (ix3 ⟨t.val / 5, by omega⟩ (pos ⟨min (t.val % 5) 3, by omega⟩ r) k) := by
    blk_point [idx t, pos]
  rw [e]
  exact dqAt_at m c G t ⟨t.val / 5, by omega⟩ ⟨min (t.val % 5) 3, by omega⟩ rfl rfl r k

theorem final9 : (dats m 0 c).arrAt 9 (cfgs 0).N = arr (shift X.DKW) := by
  refine (dats m 0 c).arrAt_eq_of_covers 9 _ (by decide +kernel) fun t hf y => ?_
  have h0 := flush9 t hf
  blk_simp
  rw [after0_9]
  have ht : t.val < 80 := lt_of_lt_of_eq t.isLt (show cfg0.N = 80 from N_0)
  obtain ⟨r, k, rfl⟩ : ∃ (r : Fin 128) (k : Fin 1024), y = (ix3 0 r k : S1x128x1024.Idx) := ⟨y 1, y 2, by
    funext i
    fin_cases i
    · exact Subsingleton.elim (α := Fin 1) _ _
    · rfl
    · rfl⟩
  have e : arr (shift X.DKW) ((win0_9.blk t).view.emb (ix3 0 r k)) = arr (shift X.DKW) (ix3 ⟨t.val / 5, by omega⟩ (pos ⟨t.val % 5 - 1, by omega⟩ r) k) := by
    blk_point [idx t, pos]
  rw [e]
  exact dkAt_at m c G t ⟨t.val / 5, by omega⟩ ⟨t.val % 5 - 1, by omega⟩ rfl (by show t.val % 5 = t.val % 5 - 1 + 1; omega) r k

theorem final10 : (dats m 0 c).arrAt 10 (cfgs 0).N = arr (shift X.DUW) := by
  refine (dats m 0 c).arrAt_eq_of_covers 10 _ (by decide +kernel) fun t hf y => ?_
  have h0 := flush10 t hf
  blk_simp
  rw [after0_10]
  have ht : t.val < 80 := lt_of_lt_of_eq t.isLt (show cfg0.N = 80 from N_0)
  obtain ⟨r, k, rfl⟩ : ∃ (r : Fin 128) (k : Fin 1024), y = (ix3 0 r k : S1x128x1024.Idx) := ⟨y 1, y 2, by
    funext i
    fin_cases i
    · exact Subsingleton.elim (α := Fin 1) _ _
    · rfl
    · rfl⟩
  have e : arr (shift X.DUW) ((win0_10.blk t).view.emb (ix3 0 r k)) = arr (shift X.DUW) (ix3 ⟨t.val / 5, by omega⟩ (pos ⟨t.val % 5 - 1, by omega⟩ r) k) := by
    blk_point [idx t, pos]
  rw [e]
  exact dvAt_at m c G t ⟨t.val / 5, by omega⟩ ⟨t.val % 5 - 1, by omega⟩ rfl (by show t.val % 5 = t.val % 5 - 1 + 1; omega) r k

end Cert.KernelIdeal.Value

end
end
-- ==== Proof.Attn.RefA.lean ====
/- The reference's forward quantities, read at an index, as real numbers. -/
module

public import proofs.«01_k».proof.Proof.Attn.Spec
public import proofs.«01_k».proof.Proof.Gen.ReferenceIdeal.Run
public import Idealize.ShloMosaic.Lib.Pointwise
public import Idealize.ShloMosaic.Lib.StableHlo.ReadAt
public import Idealize.ShloMosaic.Lib.Tactic.WordOmega

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.Attn

/-- The arguments hold the given real numbers. -/
structure Given (V0 : Valuation τ sig (Elt Ideal)) (X : Data) : Prop where
  q : ∀ a r c, IsR (V0 (Proc.devRef .tc main_arg0) (ix3 a r c)) (X.Q a r c)
  k : ∀ a r c, IsR (V0 (Proc.devRef .tc main_arg1) (ix3 a r c)) (X.K a r c)
  u : ∀ a r c, IsR (V0 (Proc.devRef .tc main_arg2) (ix3 a r c)) (X.U a r c)
  o1 : ∀ a r h d, IsR (V0 (Proc.devRef .tc main_arg3) (ix4 a r h d)) (X.O1 a r h d)
  l1 : ∀ a r h, IsR (V0 (Proc.devRef .tc main_arg4) (ix3 a r h)) (X.L1 a r h)
  o2 : ∀ a r h d, IsR (V0 (Proc.devRef .tc main_arg5) (ix4 a r h d)) (X.O2 a r h d)
  l2 : ∀ a r h, IsR (V0 (Proc.devRef .tc main_arg6) (ix3 a r h)) (X.L2 a r h)
  c : ∀ a r c, IsR (V0 (Proc.devRef .tc main_arg7) (ix3 a r c)) (X.C a r c)
  sl : X.slope = slopeR

variable {V0 : Valuation τ sig (Elt Ideal)} {X : Data} (G : Given V0 X)
include G

theorem v6_at (a : Fin 16) (n : Fin 4) (q : Fin 128) (h : Fin 16) (d : Fin 64) :
    IsR (res_main_v6 V0 (ix5 a n q h d)) (X.Q a (pos n q) (col h d)) := by
  unfold res_main_v6
  clean_types
  pointwise
  exact G.q a (pos n q) (col h d)

theorem v8_at (a : Fin 16) (n : Fin 4) (q : Fin 128) (h : Fin 16) (d : Fin 64) :
    IsR (res_main_v8 V0 (ix5 a n q h d)) (X.K a (pos n q) (col h d)) := by
  unfold res_main_v8
  clean_types
  pointwise
  exact G.k a (pos n q) (col h d)

theorem v13_at (a : Fin 16) (n : Fin 4) (q : Fin 128) (h : Fin 16) (d : Fin 64) :
    IsR (res_main_v13 V0 (ix5 a n q h d)) (X.U a (pos n q) (col h d)) := by
  unfold res_main_v13
  clean_types
  pointwise
  exact G.u a (pos n q) (col h d)

omit G in
theorem v7_at (a : Fin 16) (n : Fin 1) (q : Fin 128) (h : Fin 16) (d : Fin 64) : IsR (res_main_v7 V0 (ix5 a n q h d)) 0 := by
  unfold res_main_v7
  clean_types
  pointwise
  exact EReal.coe_zero.symm

theorem v12_at (a : Fin 16) (n : Fin 4) (j : Fin 256) (h : Fin 16) (d : Fin 64) :
    IsR (res_main_v12 V0 (ix5 a n j h d)) (win X.K a n h j d) := by
  unfold res_main_v12
  clean_types
  pointwise
  unfold win
  have hn := n.isLt
  have hj := j.isLt
  split
  · rename_i hj1
    split
    · rename_i hn1
      rw [dif_neg (by omega)]
      exact v7_at _ _ _ _ _
    · rename_i hn1
      rw [dif_pos (by omega)]
      refine (v8_at G _ _ _ _ _).trans ?_
      congr 3
      unfold pos
      apply Fin.ext
      dsimp only
      omega
  · rename_i hj1
    rw [dif_pos (by omega)]
    refine (v8_at G _ _ _ _ _).trans ?_
    congr 3
    unfold pos
    apply Fin.ext
    dsimp only
    omega

theorem v17_at (a : Fin 16) (n : Fin 4) (j : Fin 256) (h : Fin 16) (d : Fin 64) :
    IsR (res_main_v17 V0 (ix5 a n j h d)) (win X.U a n h j d) := by
  unfold res_main_v17
  clean_types
  pointwise
  unfold win
  have hn := n.isLt
  have hj := j.isLt
  split
  · rename_i hj1
    split
    · rename_i hn1
      rw [dif_neg (by omega)]
      exact v7_at _ _ _ _ _
    · rename_i hn1
      rw [dif_pos (by omega)]
      refine (v13_at G _ _ _ _ _).trans ?_
      congr 3
      unfold pos
      apply Fin.ext
      dsimp only
      omega
  · rename_i hj1
    rw [dif_pos (by omega)]
    refine (v13_at G _ _ _ _ _).trans ?_
    congr 3
    unfold pos
    apply Fin.ext
    dsimp only
    omega

omit G in
theorem v561_at (a : Fin 16) (n : Fin 4) (q : Fin 128) (j : Fin 256) (h : Fin 16) :
    (res_main_v56_1 V0 (ix5 a n h q j) : BitVec 1) = 1#1 ↔ ok n q j := by
  unfold res_main_v56_1 res_main_v29 res_main_v24
  clean_types
  pointwise
  rw [andi_iff, band_iff, start_iff n _ (by fin_cases n <;> rfl)]
  unfold ok
  tauto

omit G in
theorem lit1_eq (h : Fin 16) : lit1 (S16x1x1.rowMajor (ix3 h 0 0)) = slopeBits h := by
  fin_cases h <;> rfl

theorem v560_at (a : Fin 16) (n : Fin 4) (q : Fin 128) (j : Fin 256) (h : Fin 16) :
    Eq (α := EReal) (res_main_v56_0 V0 (ix5 a n h q j)) (if ok n q j then ((X.S a n h q j : ℝ) : EReal) else ⊥) := by
  unfold res_main_v56_0 res_main_v29 res_main_v24
  clean_types
  pointwise
  rw [lit1_eq, minus_infinity, eighth, slopeR_coe]
  simp only [v6_at G, v12_at G]
  unfold Scalar.select
  by_cases ho : ok n q j
  · rw [if_pos ho]
    refine (if_pos ((v561_at a n q j h).mpr ho)).trans ?_
    have e : FloatOps.sitofp (F := Ideal) FTy.f32 (IntOp.muli (16#32) (IntOp.subi (IntOp.addi (BitVec.ofNat 32 q.val) 128#32) (BitVec.ofNat 32 j.val)))
        = ((16 * ((q.val : ℝ) + 128 - j.val) : ℝ) : EReal) := by
      refine (Ideal.scalar_sitofp_def _).trans ?_
      rw [dist_toInt]
      push_cast
      ring_nf
    rw [e]
    simp only [← EReal.coe_mul, coe_sum, ← EReal.coe_sub]
    unfold Data.S
    rw [G.sl]
  · rw [if_neg ho]
    exact if_neg (fun hc => ho ((v561_at a n q j h).mp hc))

/-- The reference's maximum of a query's scores. -/
def mx (V0 : Valuation τ sig (Elt Ideal)) (a : Fin 16) (n : Fin 4) (h : Fin 16) (q : Fin 128) : ℝ :=
  EReal.toReal (res_main_v57 V0 (ix4 a n h q))

theorem v57_at (a : Fin 16) (n : Fin 4) (q : Fin 128) (h : Fin 16) :
    IsR (res_main_v57 V0 (ix4 a n h q)) (mx V0 a n h q) := by
  refine (EReal.coe_toReal ?_ ?_).symm
  all_goals
    unfold res_main_v57
    clean_types
    pointwise
    simp only [v560_at G, minus_infinity]
  · refine ne_of_lt ((Finset.fold_max_lt _).mpr ⟨bot_lt_top, fun x _ => ?_⟩)
    split
    · exact EReal.coe_lt_top _
    · exact bot_lt_top
  · refine ne_of_gt ((Finset.lt_fold_max _).mpr (Or.inr ⟨⟨q.val + 128, by omega⟩, Finset.mem_univ _, ?_⟩))
    rw [if_pos ⟨by show q.val ≤ q.val + 128; omega, le_rfl, by show 128 ≤ n.val * 128 + (q.val + 128); omega⟩]
    exact EReal.bot_lt_coe _

theorem v61_at (a : Fin 16) (n : Fin 4) (q : Fin 128) (j : Fin 256) (h : Fin 16) :
    IsR (res_main_v61 V0 (ix5 a n h q j)) (X.E a n h q j / Real.exp (mx V0 a n h q)) := by
  unfold res_main_v61
  clean_types
  pointwise
  rw [v560_at G, v57_at G]
  unfold Data.E
  by_cases ho : ok n q j
  · rw [if_pos ho, if_pos ho, ← EReal.coe_sub]
    refine (Ideal.exp_coe _).trans ?_
    rw [Real.exp_sub]
  · rw [if_neg ho, if_neg ho, zero_div, EReal.bot_sub]
    exact exp_bot.trans EReal.coe_zero.symm

theorem v62_at (a : Fin 16) (n : Fin 4) (q : Fin 128) (h : Fin 16) :
    IsR (res_main_v62 V0 (ix4 a n h q)) (X.D a n h q / Real.exp (mx V0 a n h q)) := by
  unfold res_main_v62
  clean_types
  pointwise
  simp only [v61_at G, coe_sum, sum_shift]

theorem v64_at (a : Fin 16) (n : Fin 4) (q : Fin 128) (h : Fin 16) (d : Fin 64) :
    IsR (res_main_v64 V0 (ix5 a n q h d)) (X.OU a n h q d / Real.exp (mx V0 a n h q)) := by
  unfold res_main_v64
  clean_types
  pointwise
  simp only [v61_at G, v17_at G, ← EReal.coe_mul, coe_sum]
  unfold Data.OU
  rw [Finset.sum_div]
  simp only [mul_div_assoc]

theorem v66_at (a : Fin 16) (n : Fin 4) (q : Fin 128) (h : Fin 16) :
    IsR (res_main_v66 V0 (ix5 a n q h 0)) (X.D a n h q / Real.exp (mx V0 a n h q)) := by
  unfold res_main_v66
  clean_types
  pointwise
  exact v62_at G a n q h

end Cert.ReferenceIdeal.Value

end
end
-- ==== Proof.Attn.RefB.lean ====
/- The reference's merge of the three branches and its gradient, read at an index, as real numbers. -/
module

public import proofs.«01_k».proof.Proof.Attn.RefA
public import proofs.«01_k».proof.Proof.Gen.ReferenceIdeal.Run
public import Idealize.ShloMosaic.Lib.Pointwise
public import Idealize.ShloMosaic.Lib.StableHlo.ReadAt
public import Idealize.ShloMosaic.Lib.Tactic.WordOmega

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.Attn

variable {V0 : Valuation τ sig (Elt Ideal)} {X : Data} (G : Given V0 X)
include G

omit G in
theorem blk_pos (n : Fin 4) (q : Fin 128) (hp) : (⟨(pos n q).val / 128, hp⟩ : Fin 4) = n := by
  apply Fin.ext; show (n.val * 128 + q.val) / 128 = n.val; omega

omit G in
theorem row_pos (n : Fin 4) (q : Fin 128) (hp) : (⟨(pos n q).val % 128, hp⟩ : Fin 128) = q := by
  apply Fin.ext; show (n.val * 128 + q.val) % 128 = q.val; omega

omit G in
theorem stack4 (x y z : FVec Ideal S1x16x512x16 .f32) (i : Fin 3) (a : Fin 16) (l : Fin 512) (h : Fin 16) :
    (concatenate S3x16x512x16 0 [⟨S1x16x512x16, x⟩, ⟨S1x16x512x16, y⟩, ⟨S1x16x512x16, z⟩] concatenates_S1x16x512x16_S1x16x512x16_S1x16x512x16_S3x16x512x16_d0) (ix4 i a l h)
      = if i.val < 1 then x (ix4 0 a l h) else if i.val - 1 < 1 then y (ix4 0 a l h) else z (ix4 0 a l h) := by
  pointwise
  rcases three i with rfl | rfl | rfl <;> rfl

omit G in
theorem stack5 (x y z : FVec Ideal S1x16x512x16x64 .f32) (i : Fin 3) (a : Fin 16) (l : Fin 512) (h : Fin 16) (d : Fin 64) :
    (concatenate S3x16x512x16x64 0 [⟨S1x16x512x16x64, x⟩, ⟨S1x16x512x16x64, y⟩, ⟨S1x16x512x16x64, z⟩] concatenates_S1x16x512x16x64_S1x16x512x16x64_S1x16x512x16x64_S3x16x512x16x64_d0) (ix5 i a l h d)
      = if i.val < 1 then x (ix5 0 a l h d) else if i.val - 1 < 1 then y (ix5 0 a l h d) else z (ix5 0 a l h d) := by
  pointwise
  rcases three i with rfl | rfl | rfl <;> rfl

omit G in
theorem rows_at (x : FVec Ideal S16x4x16x128 .f32) (a : Fin 16) (n : Fin 4) (q : Fin 128) (h : Fin 16) :
    (broadcastInDim S1x16x512x16 ![1, 2, 3] bcast_S16x512x16_S1x16x512x16_1_2_3
      (shapeCast S16x512x16 (transpose S16x4x128x16 [0, 1, 3, 2] x transposes_S16x4x16x128_S16x4x128x16_0_1_3_2) shapeCasts_S16x4x128x16_S16x512x16)) (ix4 0 a (pos n q) h)
      = x (ix4 a n h q) := by
  pointwise
  rw [blk_pos, row_pos]

omit G in
theorem add_log_at (x y : FVec Ideal S16x4x16x128 .f32) (i : S16x4x16x128.Idx) (m d : ℝ) (hx : IsR (x i) m) (hy : IsR (y i) (d / Real.exp m)) (hd : 0 < d) :
    IsR (addf x (Host.log y) i) (Real.log d) := by
  have e : addf x (Host.log y) i = (x i : EReal) + Ideal.log (y i) := rfl
  rw [e, hx, hy]
  exact lse_shift m d hd

omit G in
theorem exp_sub_at (x y : EReal) (w t : ℝ) (hx : IsR x (Real.log w)) (hy : IsR y t) (hw : 0 < w) :
    IsR (Ideal.exp (x - y)) (w / Real.exp t) := by
  rw [hx, hy]
  exact exp_shift w t hw

theorem v80_at (i : Fin 3) (a : Fin 16) (n : Fin 4) (q : Fin 128) (h : Fin 16) :
    IsR (res_main_v80 V0 (ix4 i a (pos n q) h)) (Real.log (X.W a n h q i)) := by
  unfold res_main_v80
  refine (stack4 _ _ _ i a (pos n q) h).trans ?_
  rcases three i with rfl | rfl | rfl
  · rw [if_pos (by decide), X.W_zero, Real.log_exp]
    clean_types
    pointwise
    exact G.l1 a (pos n q) h
  · rw [if_neg (by decide), if_pos (by decide), X.W_one, Real.log_exp]
    clean_types
    pointwise
    exact G.l2 a (pos n q) h
  · rw [if_neg (by decide), if_neg (by decide), X.W_two]
    refine (rows_at _ a n q h).trans ?_
    exact add_log_at _ _ _ _ _ (v57_at G a n q h) (v62_at G a n q h) (X.D_pos a n h q)

/-- The reference's maximum of the three log-sums. -/
def top (V0 : Valuation τ sig (Elt Ideal)) (a : Fin 16) (n : Fin 4) (h : Fin 16) (q : Fin 128) : ℝ :=
  EReal.toReal (res_main_v83 V0 (ix3 a (pos n q) h))

theorem v83_at (a : Fin 16) (n : Fin 4) (q : Fin 128) (h : Fin 16) :
    IsR (res_main_v83 V0 (ix3 a (pos n q) h)) (top V0 a n h q) := by
  refine (EReal.coe_toReal ?_ ?_).symm
  all_goals
    unfold res_main_v83
    clean_types
    pointwise
    simp only [v80_at G, minus_infinity]
  · refine ne_of_lt ((Finset.fold_max_lt _).mpr ⟨bot_lt_top, fun x _ => EReal.coe_lt_top _⟩)
  · refine ne_of_gt ((Finset.lt_fold_max _).mpr (Or.inr ⟨0, Finset.mem_univ _, EReal.bot_lt_coe _⟩))

theorem v103_at (i : Fin 3) (a : Fin 16) (n : Fin 4) (q : Fin 128) (h : Fin 16) :
    IsR (res_main_v103 V0 (ix4 i a (pos n q) h)) (X.W a n h q i / Real.exp (top V0 a n h q)) := by
  unfold res_main_v103
  clean_types
  pointwise
  rw [minus_infinity, max_bot_left]
  exact exp_sub_at _ _ _ _ (v80_at G i a n q h) (v83_at G a n q h) (X.W_pos a n h q i)

theorem v105_at (a : Fin 16) (n : Fin 4) (q : Fin 128) (h : Fin 16) :
    IsR (res_main_v105 V0 (ix4 0 a (pos n q) h)) (X.Z a n h q / Real.exp (top V0 a n h q)) := by
  unfold res_main_v105
  clean_types
  pointwise
  simp only [v103_at G, coe_sum]
  rw [← Finset.sum_div, X.sum_W]

theorem v111_at (i : Fin 3) (a : Fin 16) (n : Fin 4) (q : Fin 128) (h : Fin 16) :
    IsR (res_main_v111 V0 (ix5 i a (pos n q) h 0)) (X.W a n h q i / X.Z a n h q) := by
  unfold res_main_v111
  clean_types
  pointwise
  simp only [v103_at G, v105_at G]
  have hz := (X.Z_pos a n h q).ne'
  have he := (Real.exp_pos (top V0 a n h q)).ne'
  rw [div_coe _ _ (div_ne_zero hz he)]
  congr 1
  field_simp

theorem v115_at (i : Fin 3) (a : Fin 16) (n : Fin 4) (q : Fin 128) (h : Fin 16) (d : Fin 64) :
    IsR (res_main_v115 V0 (ix5 i a (pos n q) h d)) (X.O a n h q d i) := by
  unfold res_main_v115
  refine (stack5 _ _ _ i a (pos n q) h d).trans ?_
  rcases three i with rfl | rfl | rfl
  · rw [if_pos (by decide), X.O_zero]
    clean_types
    pointwise
    exact G.o1 a (pos n q) h d
  · rw [if_neg (by decide), if_pos (by decide), X.O_one]
    clean_types
    pointwise
    exact G.o2 a (pos n q) h d
  · rw [if_neg (by decide), if_neg (by decide), X.O_two]
    clean_types
    pointwise
    simp only [blk_pos, row_pos, v64_at G, v66_at G]
    have hz := (X.D_pos a n h q).ne'
    have he := (Real.exp_pos (mx V0 a n h q)).ne'
    rw [div_coe _ _ (div_ne_zero hz he)]
    congr 1
    field_simp

theorem v124_at (i : Fin 3) (a : Fin 16) (n : Fin 4) (q : Fin 128) (h : Fin 16) (d : Fin 64) :
    IsR (res_main_v124 V0 (ix5 i a (pos n q) h d)) (X.C a (pos n q) (col h d)) := by
  unfold res_main_v124
  clean_types
  pointwise
  exact G.c a (pos n q) (col h d)

theorem v126_at (i : Fin 3) (a : Fin 16) (n : Fin 4) (q : Fin 128) (h : Fin 16) (d : Fin 64) :
    IsR (res_main_v126 V0 (ix5 i a (pos n q) h d)) (X.W a n h q i / X.Z a n h q * X.C a (pos n q) (col h d)) := by
  unfold res_main_v126
  clean_types
  pointwise
  simp only [v111_at G, v124_at G]
  rw [← EReal.coe_mul]

theorem v136_at (i : Fin 3) (a : Fin 16) (n : Fin 4) (q : Fin 128) (h : Fin 16) :
    IsR (res_main_v136 V0 (ix4 i a (pos n q) h)) (X.CO a n h q i) := by
  unfold res_main_v136
  clean_types
  pointwise
  simp only [v124_at G, v115_at G, ← EReal.coe_mul, coe_sum, Fin.sum_univ_one]
  simp [Data.CO]

theorem v148_at (i : Fin 3) (a : Fin 16) (n : Fin 4) (q : Fin 128) (h : Fin 16) :
    IsR (res_main_v148 V0 (ix4 i a (pos n q) h)) (X.W a n h q i / X.Z a n h q * (X.CO a n h q i - X.T a n h q)) := by
  unfold res_main_v148
  clean_types
  pointwise
  simp only [v136_at G, v105_at G, v103_at G]
  have hz := (X.Z_pos a n h q).ne'
  have he := (Real.exp_pos (top V0 a n h q)).ne'
  have hze : X.Z a n h q / Real.exp (top V0 a n h q) ≠ 0 := div_ne_zero hz he
  rw [div_coe _ _ hze, ← EReal.coe_mul, show (1 : EReal) = ((1 : ℝ) : EReal) from rfl, div_coe _ _ (mul_ne_zero hze hze)]
  simp only [← EReal.coe_mul, coe_sum, ← EReal.coe_neg, ← EReal.coe_add]
  congr 1
  have ht : ∑ x, X.CO a n h q x * (1 / (X.Z a n h q / Real.exp (top V0 a n h q) * (X.Z a n h q / Real.exp (top V0 a n h q)))) * (X.W a n h q x / Real.exp (top V0 a n h q))
      = X.T a n h q * (Real.exp (top V0 a n h q) / X.Z a n h q) := by
    rw [← X.sum_WCO, Finset.sum_mul]
    refine Finset.sum_congr rfl fun x _ => ?_
    field_simp
  simp only [ht]
  simp
  field_simp
  ring

end Cert.ReferenceIdeal.Value

end
end
-- ==== Proof.Attn.RefC.lean ====
/- The reference's gradients of the scores, the queries, the keys and the values, read at an index, as real numbers. -/
module

public import proofs.«01_k».proof.Proof.Attn.RefB

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.Attn

variable {V0 : Valuation τ sig (Elt Ideal)} {X : Data} (G : Given V0 X)
include G

theorem v156_at (a : Fin 16) (n : Fin 4) (q : Fin 128) (h : Fin 16) (d : Fin 64) :
    IsR (res_main_v156 V0 (ix5 a n q h d)) (X.D a n h q / X.Z a n h q * X.C a (pos n q) (col h d)) := by
  unfold res_main_v156
  clean_types
  pointwise
  exact v126_at G 2 a n q h d

theorem v170_at (a : Fin 16) (n : Fin 4) (q : Fin 128) (h : Fin 16) (d : Fin 64) :
    IsR (res_main_v170 V0 (ix5 a n h d q)) (Real.exp (mx V0 a n h q) / X.Z a n h q * X.C a (pos n q) (col h d)) := by
  unfold res_main_v170
  clean_types
  pointwise
  rw [v156_at G, v66_at G]
  exact quot_shift _ _ _ _ (X.D_pos a n h q).ne'

theorem v173_at (a : Fin 16) (n : Fin 4) (j : Fin 256) (h : Fin 16) (d : Fin 64) :
    IsR (res_main_v173 V0 (ix5 a n j h d)) (X.DUW a n h j d) := by
  unfold res_main_v173
  clean_types
  pointwise
  simp only [v170_at G, v61_at G, ← EReal.coe_mul, coe_sum]
  exact congrArg _ (Finset.sum_congr rfl fun q _ => weight_shift _ _ _ _)

omit G in
theorem v179_read (b : IVec S16x4x16x128x256 1) (v170 : FVec Ideal S16x4x16x64x128 .f32) (v17 : FVec Ideal S16x4x256x16x64 .f32) (v148 : FVec Ideal S3x16x512x16 .f32)
    (v62 : FVec Ideal S16x4x16x128 .f32) (v156 v64 : FVec Ideal S16x4x128x16x64 .f32) (v66 : FVec Ideal S16x4x128x16x1 .f32) (v61 : FVec Ideal S16x4x16x128x256 .f32)
    (a : Fin 16) (n : Fin 4) (q : Fin 128) (j : Fin 256) (h : Fin 16) :
    (mulf (select b (mulf (addf (Host.dotGeneral dot_S16x4x16x64x128_S16x4x256x16x64_S16x4x16x128x256_3_4_4_2_012_013 none v170 v17) (broadcastInDim S16x4x16x128x256 ![0, 1, 2, 3] bcast_S16x4x16x128_S16x4x16x128x256_0_1_2_3 (addf (Host.divf (transpose S16x4x16x128 [0, 1, 3, 2] (shapeCast S16x4x128x16 (shapeCast S16x512x16 (extractStridedSlice S1x16x512x16 ![2, 0, 0, 0] v148 slices_S3x16x512x16_S1x16x512x16_2_0_0_0) shapeCasts_S1x16x512x16_S16x512x16) shapeCasts_S16x512x16_S16x4x128x16) transposes_S16x4x128x16_S16x4x16x128_0_1_3_2) v62) (transpose S16x4x16x128 [0, 1, 3, 2] (Host.reduceAdd (Host.negf (shapeCast S16x4x128x16x1 (Host.reduceAdd (mulf (mulf v156 (broadcastInDim S16x4x128x16x64 ![0, 1, 2, 3, 4] bcast_S16x4x128x16x1_S16x4x128x16x64_0_1_2_3_4 (Host.divf (broadcastInDim S16x4x128x16x1 ![] bcast_S_S16x4x128x16x1 (constant S_ .f32 0x3F800000#32)) (mulf v66 v66)))) v64) (constant S_ .f32 0x00000000#32) reducesTo_S16x4x128x16x64_S16x4x128x16_d4 h_S_) shapeCasts_S16x4x128x16_S16x4x128x16x1)) (constant S_ .f32 0x00000000#32) reducesTo_S16x4x128x16x1_S16x4x128x16_d4 h_S_) transposes_S16x4x128x16_S16x4x16x128_0_1_3_2)))) v61) (broadcastInDim S16x4x16x128x256 ![] bcast_S_S16x4x16x128x256 (constant S_ .f32 0x00000000#32))) (broadcastInDim S16x4x16x128x256 ![] bcast_S_S16x4x16x128x256 (constant S_ .f32 0x3E000000#32)) : FVec Ideal S16x4x16x128x256 .f32) (ix5 a n h q j)
      = Scalar.select (b (ix5 a n h q j)) ((∑ x, v170 (ix5 a n h x q) * v17 (ix5 a n j h x) + (Ideal.div (v148 (ix4 2 a (pos n q) h)) (v62 (ix4 a n h q))
          + ∑ _x : Fin 1, -∑ x, v156 (ix5 a n q h x) * Ideal.div 1 (v66 (ix5 a n q h 0) * v66 (ix5 a n q h 0)) * v64 (ix5 a n q h x))) * v61 (ix5 a n h q j)) 0 * Ideal.ofBits .f32 0x3E000000#32 := by
  pointwise
  rfl

theorem v179_at (a : Fin 16) (n : Fin 4) (q : Fin 128) (j : Fin 256) (h : Fin 16) :
    IsR (res_main_v179 V0 (ix5 a n h q j)) (X.G a n h q j * (1 / 8)) := by
  have e170 := fun x => v170_at G a n q h x
  have e17 := fun x => v17_at G a n j h x
  have e148 := v148_at G 2 a n q h
  have e62 := v62_at G a n q h
  have e156 := fun x => v156_at G a n q h x
  have e64 := fun x => v64_at G a n q h x
  have e66 := v66_at G a n q h
  have e61 := v61_at G a n q j h
  have eb := v561_at (V0 := V0) a n q j h
  unfold res_main_v179
  generalize res_main_v170 V0 = v170 at e170 ⊢
  generalize res_main_v17 V0 = v17 at e17 ⊢
  generalize res_main_v148 V0 = v148 at e148 ⊢
  generalize res_main_v62 V0 = v62 at e62 ⊢
  generalize res_main_v156 V0 = v156 at e156 ⊢
  generalize res_main_v64 V0 = v64 at e64 ⊢
  generalize res_main_v66 V0 = v66 at e66 ⊢
  generalize res_main_v61 V0 = v61 at e61 ⊢
  generalize res_main_v56_1 V0 = b at eb ⊢
  refine (v179_read b v170 v17 v148 v62 v156 v64 v66 v61 a n q j h).trans ?_
  simp only [e170, e17, e156, e64]
  rw [e66, e61, e62, e148, eighth]
  unfold Scalar.select
  by_cases ho : ok n q j
  · refine (congrArg (· * ((1 / 8 : ℝ) : EReal)) (if_pos (eb.mpr ho))).trans ?_
    exact grad_shift X a n h q j (mx V0 a n h q)
  · refine (congrArg (· * ((1 / 8 : ℝ) : EReal)) (if_neg (fun hc => ho (eb.mp hc)))).trans ?_
    rw [X.G_of_not _ _ _ _ _ ho, zero_mul, zero_mul]
    exact EReal.coe_zero.symm

theorem v181_at (a : Fin 16) (n : Fin 4) (j : Fin 256) (h : Fin 16) (d : Fin 64) :
    IsR (res_main_v181 V0 (ix5 a n j h d)) (X.DKW a n h j d) := by
  unfold res_main_v181
  clean_types
  pointwise
  simp only [v179_at G, v6_at G, ← EReal.coe_mul, coe_sum]
  exact congrArg _ (Finset.sum_congr rfl fun q _ => by ring)

theorem v184_at (a : Fin 16) (n : Fin 4) (r : Fin 128) (h : Fin 16) (d : Fin 64) :
    IsR (res_main_v184 V0 (ix5 a n r h d)) (X.DUW a n h ⟨r.val, by omega⟩ d) := by
  unfold res_main_v184
  clean_types
  pointwise
  exact v173_at G a n ⟨r.val, by omega⟩ h d

theorem v191_at (a : Fin 16) (n : Fin 4) (r : Fin 128) (h : Fin 16) (d : Fin 64) :
    IsR (res_main_v191 V0 (ix5 a n r h d)) (X.DKW a n h ⟨r.val, by omega⟩ d) := by
  unfold res_main_v191
  clean_types
  pointwise
  exact v181_at G a n ⟨r.val, by omega⟩ h d

theorem dq_at (a : Fin 16) (l : Fin 512) (c : Fin 1024) :
    IsR ((truncf .bf16 (shapeCast S16x512x1024 (shapeCast S16x512x16x64 (transpose S16x4x128x16x64 [0, 1, 3, 2, 4] (Host.dotGeneral (φ₁ := .f32) (φ₂ := .f32) dot_S16x4x16x128x256_S16x4x256x16x64_S16x4x16x128x64_4_2_3_4_012_013 none (res_main_v179 V0) (res_main_v12 V0)) transposes_S16x4x16x128x64_S16x4x128x16x64_0_1_3_2_4) shapeCasts_S16x4x128x16x64_S16x512x16x64) shapeCasts_S16x512x16x64_S16x512x1024) bitsLt_bf16_f32 : FVec Ideal S16x512x1024 .bf16) (ix3 a l c))
      (X.dq a l c) := by
  clean_types
  pointwise
  simp only [v179_at G, v12_at G, ← EReal.coe_mul, coe_sum]
  unfold Data.dq Data.DQ
  rw [Finset.sum_mul]
  exact congrArg _ (Finset.sum_congr rfl fun j _ => by unfold blk row hd el; ring)

omit G in
theorem shift_at (x : FVec Ideal S16x4x256x16x64 .f32) (y : FVec Ideal S16x4x128x16x64 .f32) (W : Fin 16 → Fin 4 → Fin 16 → Fin 256 → Fin 64 → ℝ)
    (hx : ∀ a n j h d, IsR (x (ix5 a n j h d)) (W a n h j d)) (hy : ∀ a n (r : Fin 128) h d, IsR (y (ix5 a n r h d)) (W a n h ⟨r.val, by omega⟩ d))
    (a : Fin 16) (l : Fin 512) (c : Fin 1024) :
    IsR ((truncf .bf16 (shapeCast S16x512x1024 (shapeCast S16x512x16x64 (addf (extractStridedSlice S16x4x128x16x64 ![0, 0, 128, 0, 0] x slices_S16x4x256x16x64_S16x4x128x16x64_0_0_128_0_0) (pad S16x4x128x16x64 ![0, 0, 0, 0, 0] ![0, 1, 0, 0, 0] ![0, 0, 0, 0, 0] (extractStridedSlice S16x3x128x16x64 ![0, 1, 0, 0, 0] y slices_S16x4x128x16x64_S16x3x128x16x64_0_1_0_0_0) (constant S_ .f32 0x00000000#32) pads_S16x3x128x16x64_S16x4x128x16x64_000_010_000_000_000 h_S_)) shapeCasts_S16x4x128x16x64_S16x512x16x64) shapeCasts_S16x512x16x64_S16x512x1024) bitsLt_bf16_f32 : FVec Ideal S16x512x1024 .bf16) (ix3 a l c))
      (shift W a l c) := by
  clean_types
  pointwise
  simp only [hx, hy]
  refine Eq.trans ?_ (EReal.coe_add _ _).symm
  refine congrArg₂ (· + ·) rfl ?_
  by_cases hn : l.val / 128 < 3
  · refine (dif_pos ⟨hn, by omega, by omega, by omega⟩).trans ?_
    refine Eq.trans ?_ (congrArg _ (dif_pos hn).symm)
    unfold blk row Attn.hd el
    refine congrArg _ ?_
    congr 1
    exact Fin.ext (Nat.add_comm _ _)
  · refine (dif_neg (fun hc => hn hc.1)).trans ?_
    refine EReal.coe_zero.symm.trans (congrArg Real.toEReal ?_)
    have hb : ¬ (blk l).val < 3 := hn
    rw [dif_neg hb]

end Cert.ReferenceIdeal.Value

end
end
-- ==== Proof.Attn.Main.lean ====
/- The attention's gradient, as the call writes it, is the reference's wherever every argument is finite. -/
module

public import proofs.«01_k».proof.Defs
public import proofs.«01_k».proof.Proof.Attn.Pre
public import proofs.«01_k».proof.Proof.Attn.KFin
public import proofs.«01_k».proof.Proof.Attn.RefC

@[expose] public section

set_option maxRecDepth 16384

noncomputable section

namespace Cert.Attn.Main

open Idealize.ShloMosaic Idealize.ShloMosaic.TcCoe Idealize.SL.Sem Cert.Attn

/-- The real numbers that eight finite arrays hold. -/
def data (x0 x1 x2 : FVec Ideal Cert.KernelIdeal.S16x512x1024 .bf16) (x3 : FVec Ideal Cert.KernelIdeal.S16x512x16x64 .f32) (x4 : FVec Ideal Cert.KernelIdeal.S16x512x16 .f32)
    (x5 : FVec Ideal Cert.KernelIdeal.S16x512x16x64 .f32) (x6 : FVec Ideal Cert.KernelIdeal.S16x512x16 .f32) (x7 : FVec Ideal Cert.KernelIdeal.S16x512x1024 .bf16) : Data where
  Q a r k := EReal.toReal (x0 (ix3 a r k))
  K a r k := EReal.toReal (x1 (ix3 a r k))
  U a r k := EReal.toReal (x2 (ix3 a r k))
  O1 a r h d := EReal.toReal (x3 (ix4 a r h d))
  L1 a r h := EReal.toReal (x4 (ix3 a r h))
  O2 a r h d := EReal.toReal (x5 (ix4 a r h d))
  L2 a r h := EReal.toReal (x6 (ix3 a r h))
  C a r k := EReal.toReal (x7 (ix3 a r k))
  slope := slopeR

section Kernel

open Cert.KernelIdeal Cert.KernelIdeal.Gen

variable (m : (ℓ : Loc nD τ sig) → Buf (Elt Ideal) ℓ) (g : Dev nD → PrngReg)

abbrev X (c : Dev nD) : Data :=
  data (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem given (hpre : Cert.Pre_KernelIdeal_finite m) (c : Dev nD) : Cert.KernelIdeal.Value.Given (fun b => m (c, b)) (X m c) := by
  obtain ⟨h0, h1, h2, h3, h4, h5, h6, h7⟩ := Cert.Pre_finite.real_of_fn _ _ _ _ _ _ _ _ (hpre c)
  exact ⟨fun a r k => h0 _, fun a r k => h1 _, fun a r k => h2 _, fun a r h d => h3 _, fun a r h => h4 _, fun a r h d => h5 _, fun a r h => h6 _,
    fun a r k => h7 _, rfl⟩

/-- The kernel's run: its three results, and the arguments as they were. -/
theorem run_blocks (hpre : Cert.Pre_KernelIdeal_finite m) : θ_run (defs (F := Ideal)) (onTc (τ := τ) (main (F := Ideal))) ⟨m, fun _ => 0, g⟩ (fun r => ∀ c : Dev nD,
      r.2.mem ((c.tc : Thread nD τ).loc main_v99_0) = Cert.KernelIdeal.Value.arr (X m c).dq
      ∧ r.2.mem ((c.tc : Thread nD τ).loc main_v99_1) = Cert.KernelIdeal.Value.arr (shift (X m c).DKW)
      ∧ r.2.mem ((c.tc : Thread nD τ).loc main_v99_2) = Cert.KernelIdeal.Value.arr (shift (X m c).DUW)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun r h c => ?_) (θ_run_and (Cert.KernelIdeal.Bwd.run_main (F := Ideal) m g) (Cert.KernelIdeal.Bwd.frame (F := Ideal) m g))
  have e8 : r.2.mem ((c.tc : Thread nD τ).loc main_v99_0) = (Cert.KernelIdeal.Bwd.dats m 0 c).arrAt 8 (cfgs 0).N := (h.1 c).1 8
  have e9 : r.2.mem ((c.tc : Thread nD τ).loc main_v99_1) = (Cert.KernelIdeal.Bwd.dats m 0 c).arrAt 9 (cfgs 0).N := (h.1 c).1 9
  have e10 : r.2.mem ((c.tc : Thread nD τ).loc main_v99_2) = (Cert.KernelIdeal.Bwd.dats m 0 c).arrAt 10 (cfgs 0).N := (h.1 c).1 10
  exact ⟨e8.trans (Cert.KernelIdeal.Value.final8 m c (given m hpre c)), e9.trans (Cert.KernelIdeal.Value.final9 m c (given m hpre c)),
    e10.trans (Cert.KernelIdeal.Value.final10 m c (given m hpre c)), h.2.1 c⟩

end Kernel

section Reference

open Cert.ReferenceIdeal Cert.ReferenceIdeal.Gen Cert.ReferenceIdeal.Value Idealize.ShloMosaic.StableHlo

theorem eq_arr (x : FVec Ideal S16x512x1024 .bf16) (f : Fin 16 → Fin 512 → Fin 1024 → ℝ) (h : ∀ a l c, IsR (x (ix3 a l c)) (f a l c)) : x = Cert.KernelIdeal.Value.arr f := by
  funext y
  rw [eq_ix3 y]
  exact h _ _ _

theorem given_ref (m' : (ℓ : Loc nD τ sig) → Buf (Elt Ideal) ℓ) (c : Dev nD) (x0 x1 x2 x3 x4 x5 x6 x7)
    (e0 : m' ((c.tc : Thread nD τ).loc main_arg0) = x0) (e1 : m' ((c.tc : Thread nD τ).loc main_arg1) = x1) (e2 : m' ((c.tc : Thread nD τ).loc main_arg2) = x2)
    (e3 : m' ((c.tc : Thread nD τ).loc main_arg3) = x3) (e4 : m' ((c.tc : Thread nD τ).loc main_arg4) = x4) (e5 : m' ((c.tc : Thread nD τ).loc main_arg5) = x5)
    (e6 : m' ((c.tc : Thread nD τ).loc main_arg6) = x6) (e7 : m' ((c.tc : Thread nD τ).loc main_arg7) = x7)
    (h : Cert.Pre_finite.fn (F := Ideal) x0 x1 x2 x3 x4 x5 x6 x7 = fun _ => 1#1) : Given (launchContents m' c) (data x0 x1 x2 x3 x4 x5 x6 x7) := by
  subst e0 e1 e2 e3 e4 e5 e6 e7
  obtain ⟨h0, h1, h2, h3, h4, h5, h6, h7⟩ := Cert.Pre_finite.real_of_fn _ _ _ _ _ _ _ _ h
  exact ⟨fun a r k => h0 _, fun a r k => h1 _, fun a r k => h2 _, fun a r h d => h3 _, fun a r h => h4 _, fun a r h d => h5 _, fun a r h => h6 _,
    fun a r k => h7 _, rfl⟩

end Reference

/-- The kernel's three results are the reference's. -/
theorem algebraic_Attn : Cert.algebraic_KernelIdeal_ReferenceIdeal_pre_finite := by
  intro m g m' g' hpre hagree
  refine ⟨fun c => Cert.KernelIdeal.Value.arr (X m c).dq, fun c => Cert.KernelIdeal.Value.arr (shift (X m c).DKW), fun c => Cert.KernelIdeal.Value.arr (shift (X m c).DUW), run_blocks m g hpre, ?_⟩
  refine (θ_run (Cert.ReferenceIdeal.defs (F := Ideal)) _ _).mono (fun r h c => ?_) (Cert.ReferenceIdeal.Value.run (F := Ideal) m' g')
  obtain ⟨a0, a1, a2, a3, a4, a5, a6, a7⟩ := hagree c
  have G := given_ref m' c _ _ _ _ _ _ _ _ a0 a1 a2 a3 a4 a5 a6 a7 (hpre c)
  obtain ⟨r0, r1, r2, rest⟩ := h c
  refine ⟨?_, ?_, ?_, rest⟩
  · exact r0.trans (eq_arr _ _ fun a l k => Cert.ReferenceIdeal.Value.dq_at G a l k)
  · exact r1.trans (eq_arr _ _ fun a l k => Cert.ReferenceIdeal.Value.shift_at _ _ _ (fun a n j h d => Cert.ReferenceIdeal.Value.v181_at G a n j h d)
      (fun a n r h d => Cert.ReferenceIdeal.Value.v191_at G a n r h d) a l k)
  · exact r2.trans (eq_arr _ _ fun a l k => Cert.ReferenceIdeal.Value.shift_at _ _ _ (fun a n j h d => Cert.ReferenceIdeal.Value.v173_at G a n j h d)
      (fun a n r h d => Cert.ReferenceIdeal.Value.v184_at G a n r h d) a l k)

end Cert.Attn.Main

end
end
-- ==== Proof.DownDx.Value.lean ====
module

public import proofs.«01_k».proof.Proof.Gen.DownDx.Frame
public import proofs.«01_k».proof.Proof.Gen.DownDxIdeal.Value
public import proofs.«01_k».proof.Proof.Gen.DownDxReferenceIdeal.Run
-- ==== Proof.DownDx.Main.lean ====
/- The channel mixer's gradient by what its squared ReLU takes, block by block, is the reference's. -/
module

public import proofs.«01_k».proof.Defs
public import proofs.«01_k».proof.Proof.DownDx.Value
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.DownDxIdeal.Main

open Cert.DownDxIdeal Cert.DownDxIdeal.Gen

variable (m : (ℓ : Loc nD τ sig) → Buf (Elt Ideal) ℓ)

/-- The channel mixer's activation at a position. -/
def act (A : FVec Ideal S8192x2048 .f32) (B : FVec Ideal S2048x8192 .f32) (j : S8192x8192.Idx) : EReal :=
  max (∑ k : Fin 2048, A (Idealize.ShloMosaic.ix2 (j 0) k) * B (Idealize.ShloMosaic.ix2 k (j 1))) 0

/-- The call finds the activation, which the host computes, in its buffer. -/
theorem u_at (c : Dev nD) (j : S8192x8192.Idx) :
    (V m c main_v4 : FVec Ideal S8192x8192 .bf16) j = act (m ((c : Thread nD τ).loc main_arg0)) (m ((c : Thread nD τ).loc main_arg1)) j := by
  simp only [V, hostOps0, hostOps0_1, hostOps0_2, List.flatten_cons, List.flatten_nil, List.cons_append, List.nil_append, List.append_nil, act]
  after_reads_at

/-- Twice the activation times the incoming gradient is what the square's two factors give. -/
theorem step (pre acc : EReal) : acc * (Ideal.ofBits FTy.f32 1073741824#32 * max pre 0)
    = if 0 < pre then max pre 0 * acc + acc * max pre 0 else 0 := by
  have h2 : Ideal.ofBits FTy.f32 1073741824#32 = 1 + 1 := by
    rw [show Ideal.ofBits FTy.f32 1073741824#32 = ((2 : ℝ) : EReal) from by simp [Ideal.ofBits, Ideal.ieee, -EReal.coe_mul]; norm_num]
    rw [show (1 : EReal) = ((1 : ℝ) : EReal) by norm_cast, ← EReal.coe_add]; norm_num
  split
  · rw [h2, EReal.right_distrib_of_nonneg zero_le_one zero_le_one, one_mul, mul_comm (max pre 0) acc]
    rw [← EReal.left_distrib_of_nonneg (le_max_right _ _) (le_max_right _ _)]
  · rw [max_eq_right (not_lt.mp ‹_›), mul_zero, mul_zero]

/-- The product that the reference states, over its argument arrays. -/
abbrev REF (H : FVec Ideal S8192x2048 .f32) (W : FVec Ideal S2048x8192 .f32) (Y : FVec Ideal S8192x2048 .f32) (D : FVec Ideal S8192x2048 .f32) : FVec Ideal S8192x8192 .bf16 :=
  truncf .bf16 (select (cmpf .ogt (Host.dotGeneral Cert.DownDxReferenceIdeal.dot_S8192x2048_S2048x8192_S8192x8192_1_0_0_1_n_n none H W) (broadcastInDim S8192x8192 ![] Cert.DownDxReferenceIdeal.Gen.bcast_S_S8192x8192 (constant Cert.DownDxReferenceIdeal.S_ .f32 0x00000000#32))) (addf (mulf (maximumf (Host.dotGeneral Cert.DownDxReferenceIdeal.dot_S8192x2048_S2048x8192_S8192x8192_1_0_0_1_n_n none H W) (broadcastInDim S8192x8192 ![] Cert.DownDxReferenceIdeal.Gen.bcast_S_S8192x8192 (constant Cert.DownDxReferenceIdeal.S_ .f32 0x00000000#32))) (Host.dotGeneral Cert.DownDxReferenceIdeal.dot_S8192x2048_S8192x2048_S8192x8192_1_1_0_0_n_n none D Y)) (mulf (Host.dotGeneral Cert.DownDxReferenceIdeal.dot_S8192x2048_S8192x2048_S8192x8192_1_1_0_0_n_n none D Y) (maximumf (Host.dotGeneral Cert.DownDxReferenceIdeal.dot_S8192x2048_S2048x8192_S8192x8192_1_0_0_1_n_n none H W) (broadcastInDim S8192x8192 ![] Cert.DownDxReferenceIdeal.Gen.bcast_S_S8192x8192 (constant Cert.DownDxReferenceIdeal.S_ .f32 0x00000000#32))))) (broadcastInDim S8192x8192 ![] Cert.DownDxReferenceIdeal.Gen.bcast_S_S8192x8192 (constant Cert.DownDxReferenceIdeal.S_ .f32 0x00000000#32))) Cert.DownDxReferenceIdeal.Gen.bitsLt_bf16_f32

/-- Where each window's block lies at a point. -/
theorem idx : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

/-- The array after the run is the reference's product. -/
theorem final (c : Dev nD) : (dats m 0 c).arrAt 3 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]
  frame_out
  pointwise [k0_pay1, REF]
  refine Eq.trans ?_ (step _ _)
  refine congrArg₂ (· * ·) ?_ (congrArg₂ (· * ·) rfl ?_)
  · blk_point [iblk, V, idx t]
  · blk_simp [iblk]
    rw [u_at, act]
    blk_point [idx t]

end Cert.DownDxIdeal.Main

namespace Cert.Proof

/-- The two programs leave the same array. -/
theorem algebraic_DownDx : Cert.algebraic_DownDxIdeal_DownDxReferenceIdeal := by
  pair_intro
  · run_from Cert.DownDxIdeal.Value.run_blocks m g
  · run_from Cert.DownDxReferenceIdeal.Value.run (F := Ideal) m' g'
    exact (Cert.DownDxIdeal.Main.final m c).symm

end Cert.Proof

end
-- ==== Proof.DownDw.Value.lean ====
module

public import proofs.«01_k».proof.Proof.Gen.DownDw.Frame
public import proofs.«01_k».proof.Proof.Gen.DownDwIdeal.Value
public import proofs.«01_k».proof.Proof.Gen.DownDwReferenceIdeal.Run
-- ==== Proof.DownDw.Main.lean ====
/- The channel mixer's gradient by its second weight: four blocks of rows in turn, summed, are the reference's product. -/
module

public import proofs.«01_k».proof.Defs
public import proofs.«01_k».proof.Proof.DownDw.Value
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.DownDwIdeal.Main

open Cert.DownDwIdeal Cert.DownDwIdeal.Gen

variable (m : (ℓ : Loc nD τ sig) → Buf (Elt Ideal) ℓ)

/-- The channel mixer's activation at a position. -/
def act (A : FVec Ideal S8192x2048 .f32) (B : FVec Ideal S2048x8192 .f32) (j : S8192x8192.Idx) : EReal :=
  max (∑ k : Fin 2048, A (Idealize.ShloMosaic.ix2 (j 0) k) * B (Idealize.ShloMosaic.ix2 k (j 1))) 0

/-- The call finds the activation, which the host computes, in its buffer. -/
theorem u_at (c : Dev nD) (j : S8192x8192.Idx) :
    (V m c main_v3 : FVec Ideal S8192x8192 .bf16) j = act (m ((c : Thread nD τ).loc main_arg0)) (m ((c : Thread nD τ).loc main_arg1)) j := by
  simp only [V, hostOps0, hostOps0_1, hostOps0_2, List.flatten_cons, List.flatten_nil, List.cons_append, List.nil_append, List.append_nil, act]
  after_reads_at

/-- The reference's term, over its argument arrays. -/
abbrev REF (H : FVec Ideal S8192x2048 .f32) (W : FVec Ideal S2048x8192 .f32) (D : FVec Ideal S8192x2048 .f32) : FVec Ideal S8192x2048 .bf16 :=
  truncf .bf16 (transpose S8192x2048 [1, 0] (Host.dotGeneral Cert.DownDwReferenceIdeal.dot_S8192x2048_S8192x8192_S2048x8192_0_0_1_1_n_n none D (mulf (maximumf (Host.dotGeneral Cert.DownDwReferenceIdeal.dot_S8192x2048_S2048x8192_S8192x8192_1_0_0_1_n_n none H W) (broadcastInDim S8192x8192 ![] Cert.DownDwReferenceIdeal.Gen.bcast_S_S8192x8192 (constant Cert.DownDwReferenceIdeal.S_ .f32 0x00000000#32))) (maximumf (Host.dotGeneral Cert.DownDwReferenceIdeal.dot_S8192x2048_S2048x8192_S8192x8192_1_0_0_1_n_n none H W) (broadcastInDim S8192x8192 ![] Cert.DownDwReferenceIdeal.Gen.bcast_S_S8192x8192 (constant Cert.DownDwReferenceIdeal.S_ .f32 0x00000000#32))))) Cert.DownDwReferenceIdeal.Gen.transposes_S2048x8192_S8192x2048_1_0) Cert.DownDwReferenceIdeal.Gen.bitsLt_bf16_f32

/-- Where each window's block lies at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- What one point's blocks add: their product. -/
def part (x0 : Vec Ideal S2048x1024 .bf16) (x1 : Vec Ideal S2048x2048 .bf16) (j : S1024x2048.Idx) : EReal :=
  ∑ k : Fin 2048, (x0 (Idealize.ShloMosaic.ix2 k (j 0)) * x0 (Idealize.ShloMosaic.ix2 k (j 0))) * x1 (Idealize.ShloMosaic.ix2 k (j 1))

/-- The first point of a run leaves its block's product. -/
theorem hfirst (x0 : Vec Ideal S2048x1024 .bf16) (x1 : Vec Ideal S2048x2048 .bf16) (j) :
    k0_pay2 (F := Ideal) x0 x1 j = (0 : EReal) + part x0 x1 j := by
  rw [zero_add]
  pointwise [k0_pay2, k0_pay1, part]

/-- Each further point adds its block's product. -/
theorem hnext (x0 : Vec Ideal S2048x1024 .bf16) (x1 : Vec Ideal S2048x2048 .bf16) (acc : Vec Ideal S1024x2048 .f32) (j) :
    k0_pay3 (F := Ideal) x0 x1 acc j = acc j + part x0 x1 j := by
  pointwise [k0_pay3, k0_pay1, part]

/-- The accumulator at a run's last point: the sum of the run's products. -/
theorem acc_eq (c : Dev nD) (t : Fin cfg0.N) (h : t.val % 4 = 3) (y) :
    (outsAt0 m c t.val t.isLt).2 y = ∑ s : Fin 4,
      part (iblk m c 0 ⟨4 * (t.val / 4) + s.val, Pipeline.run_point_lt_of_flush t h s⟩)
        (iblk m c 1 ⟨4 * (t.val / 4) + s.val, Pipeline.run_point_lt_of_flush t h s⟩) y := by
  have := Pipeline.eq_sum_fin_of_reset_step_apply_of_flush (fun n h => (outsAt0 m c n h).2) 4 (fun _ => (0 : EReal))
    (fun t j => part (iblk m c 0 t) (iblk m c 1 t) j)
    (fun t h j => by rw [outsAt0_A m c t h (by omega) (by omega)]; frame_out; rw [hfirst])
    (fun t h j => by
      by_cases h3 : t.val % 4 = 3
      · rw [outsAt0_C m c t h (by omega) h3]; frame_out; rw [read_unread_whole, hnext]
      · rw [outsAt0_B m c t h (by omega) h3]; frame_out; rw [read_unread_whole, hnext])
    t h y
  rw [this, zero_add]

/-- What the last point of a run writes back is what it leaves in the accumulator. -/
theorem out_eq (c : Dev nD) (t : Fin cfg0.N) (h : t.val % 4 = 3) (y) :
    (outsAt0 m c t.val t.isLt).1 y = (outsAt0 m c t.val t.isLt).2 (y) := by
  rw [outsAt0_C m c t (by omega) (by omega) h]
  frame_out
  pointwise [k0_pay4]

/-- The array after the run is the reference's. -/
theorem final (c : Dev nD) : (dats m 0 c).arrAt 2 (cfgs 0).N = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, out_eq m c t ((flush0_2 t).mp hf)]
  rw [acc_eq m c t ((flush0_2 t).mp hf)]
  simp only [part]
  pointwise [REF]
  refine Fin.sum_mul_add_congr fun s k hl => ?_
  rw [mul_comm]
  refine congrArg₂ (· * ·) ?_ ?_
  · blk_point [iblk, V, idx t, idx ⟨_, Pipeline.run_point_lt_of_flush t ((flush0_2 t).mp hf) s⟩]
  · blk_simp [iblk]
    rw [u_at, act]
    blk_point [idx t, idx ⟨_, Pipeline.run_point_lt_of_flush t ((flush0_2 t).mp hf) s⟩]

end Cert.DownDwIdeal.Main

namespace Cert.Proof

/-- The two programs leave the same array. -/
theorem algebraic_DownDw : Cert.algebraic_DownDwIdeal_DownDwReferenceIdeal := by
  pair_intro
  · run_from Cert.DownDwIdeal.Value.run_blocks m g
  · run_from Cert.DownDwReferenceIdeal.Value.run (F := Ideal) m' g'
    exact (Cert.DownDwIdeal.Main.final m c).symm

end Cert.Proof

end
-- ==== Proof.UpDw.Value.lean ====
module

public import proofs.«01_k».proof.Proof.Gen.UpDw.Frame
public import proofs.«01_k».proof.Proof.Gen.UpDwIdeal.Value
public import proofs.«01_k».proof.Proof.Gen.UpDwReferenceIdeal.Run
-- ==== Proof.UpDw.Main.lean ====
/- The channel mixer's gradient by its first weight: four blocks of rows in turn, summed, are the reference's product, its columns apart by chip. -/
module

public import proofs.«01_k».proof.Defs
public import proofs.«01_k».proof.Proof.UpDw.Value
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.UpDwIdeal.Main

open Cert.UpDwIdeal Cert.UpDwIdeal.Gen

variable (m : (ℓ : Loc nD τ sig) → Buf (Elt Ideal) ℓ)

/-- The reference's term, over its argument arrays. -/
abbrev REF (H : FVec Ideal S8192x2048 .f32) (D : FVec Ideal S8192x8192 .f32) : FVec Ideal S4x2048x2048 .bf16 :=
  truncf .bf16 (transpose S4x2048x2048 [1, 0, 2] (shapeCast _ (transpose Cert.UpDwReferenceIdeal.S2048x8192 [1, 0] (Host.dotGeneral Cert.UpDwReferenceIdeal.dot_S8192x8192_S8192x2048_S8192x2048_0_0_1_1_n_n none D H) Cert.UpDwReferenceIdeal.Gen.transposes_S8192x2048_S2048x8192_1_0) Cert.UpDwReferenceIdeal.Gen.shapeCasts_S2048x8192_S2048x4x2048) Cert.UpDwReferenceIdeal.Gen.transposes_S2048x4x2048_S4x2048x2048_1_0_2) Cert.UpDwReferenceIdeal.Gen.bitsLt_bf16_f32

/-- Where each window's block lies at a point. -/
theorem idx : ∀ t : Fin cfg0.N, win0_0.index t = ![t.val % 4, t.val / 16] ∧ win0_1.index t = ![t.val % 4, t.val / 4 % 4] ∧ win0_2.index t = ![t.val / 4 % 4, t.val / 16, 0] :=
  (by decide +kernel : ∀ t : Fin grid0.N, _)

/-- What one point's blocks add: their product. -/
def part (x0 : Vec Ideal S2048x1024 .bf16) (x1 : Vec Ideal S2048x2048 .bf16) (j : S1024x2048.Idx) : EReal :=
  ∑ k : Fin 2048, x0 (Idealize.ShloMosaic.ix2 k (j 0)) * x1 (Idealize.ShloMosaic.ix2 k (j 1))

/-- The first point of a run leaves its block's product. -/
theorem hfirst (x0 : Vec Ideal S2048x1024 .bf16) (x1 : Vec Ideal S2048x2048 .bf16) (j) :
    k0_pay2 (F := Ideal) x0 x1 j = (0 : EReal) + part x0 x1 j := by
  rw [zero_add]
  pointwise [k0_pay2, k0_pay1, part]

/-- Each further point adds its block's product. -/
theorem hnext (x0 : Vec Ideal S2048x1024 .bf16) (x1 : Vec Ideal S2048x2048 .bf16) (acc : Vec Ideal S1024x2048 .f32) (j) :
    k0_pay3 (F := Ideal) x0 x1 acc j = acc j + part x0 x1 j := by
  pointwise [k0_pay3, k0_pay1, part]

/-- The accumulator at a run's last point: the sum of the run's products. -/
theorem acc_eq (c : Dev nD) (t : Fin cfg0.N) (h : t.val % 4 = 3) (y) :
    (outsAt0 m c t.val t.isLt).2 y = ∑ s : Fin 4,
      part (iblk m c 0 ⟨4 * (t.val / 4) + s.val, Pipeline.run_point_lt_of_flush t h s⟩)
        (iblk m c 1 ⟨4 * (t.val / 4) + s.val, Pipeline.run_point_lt_of_flush t h s⟩) y := by
  have := Pipeline.eq_sum_fin_of_reset_step_apply_of_flush (fun n h => (outsAt0 m c n h).2) 4 (fun _ => (0 : EReal))
    (fun t j => part (iblk m c 0 t) (iblk m c 1 t) j)
    (fun t h j => by rw [outsAt0_A m c t h (by omega) (by omega)]; frame_out; rw [hfirst])
    (fun t h j => by
      by_cases h3 : t.val % 4 = 3
      · rw [outsAt0_C m c t h (by omega) h3]; frame_out; rw [read_unread_whole, hnext]
      · rw [outsAt0_B m c t h (by omega) h3]; frame_out; rw [read_unread_whole, hnext])
    t h y
  rw [this, zero_add]

/-- What the last point of a run writes back is what it leaves in the accumulator. -/
theorem out_eq (c : Dev nD) (t : Fin cfg0.N) (h : t.val % 4 = 3) (y) :
    (outsAt0 m c t.val t.isLt).1 y = (outsAt0 m c t.val t.isLt).2 (Idealize.ShloMosaic.ix2 (y 1) (y 2)) := by
  rw [outsAt0_C m c t (by omega) (by omega) h]
  frame_out
  pointwise [k0_pay4]

/-- The array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf)]
  rw [acc_eq m c t ((flush0_2 t).mp hf)]
  simp only [part]
  pointwise [REF]
  refine Fin.sum_mul_add_congr fun s k hl => ?_
  rw [mul_comm]
  blk_point [iblk, V, idx t, idx ⟨_, Pipeline.run_point_lt_of_flush t ((flush0_2 t).mp hf) s⟩]

end Cert.UpDwIdeal.Main

namespace Cert.Proof

/-- The two programs leave the same array. -/
theorem algebraic_UpDw : Cert.algebraic_UpDwIdeal_UpDwReferenceIdeal := by
  pair_intro
  · run_from Cert.UpDwIdeal.Value.run_blocks m g
  · run_from Cert.UpDwReferenceIdeal.Value.run (F := Ideal) m' g'
    exact (Cert.UpDwIdeal.Main.final m c).symm

end Cert.Proof

end
-- ==== Proof.OutDx.Value.lean ====
module

public import proofs.«01_k».proof.Proof.Gen.OutDx.Frame
public import proofs.«01_k».proof.Proof.Gen.OutDxIdeal.Value
public import proofs.«01_k».proof.Proof.Gen.OutDxReferenceIdeal.Run
-- ==== Proof.OutDx.Main.lean ====
/- The output projection's gradient by its input, block by block, is the reference's product. -/
module

public import proofs.«01_k».proof.Defs
public import proofs.«01_k».proof.Proof.OutDx.Value
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.OutDxIdeal.Main

open Cert.OutDxIdeal Cert.OutDxIdeal.Gen

variable (m : (ℓ : Loc nD τ sig) → Buf (Elt Ideal) ℓ)

/-- The product that the reference states, over its argument arrays. -/
abbrev REF (X : FVec Ideal S2048x2048 .f32) (D : FVec Ideal S8192x2048 .f32) : FVec Ideal S8192x2048 .f32 :=
  Host.dotGeneral Cert.OutDxReferenceIdeal.dot_S8192x2048_S2048x2048_S8192x2048_1_1_0_0_n_n none D X

/-- Where each window's block lies at a point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The array after the run is the reference's product. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, REF]
  blk_point [iblk, V, idx t]

end Cert.OutDxIdeal.Main

namespace Cert.Proof

/-- The two programs leave the same array. -/
theorem algebraic_OutDx : Cert.algebraic_OutDxIdeal_OutDxReferenceIdeal := by
  pair_intro
  · run_from Cert.OutDxIdeal.Value.run_blocks m g
  · run_from Cert.OutDxReferenceIdeal.Value.run (F := Ideal) m' g'
    exact (Cert.OutDxIdeal.Main.final m c).symm

end Cert.Proof

end
-- ==== Proof.OutDw.Value.lean ====
module

public import proofs.«01_k».proof.Proof.Gen.OutDw.Frame
public import proofs.«01_k».proof.Proof.Gen.OutDwIdeal.Value
public import proofs.«01_k».proof.Proof.Gen.OutDwReferenceIdeal.Run
-- ==== Proof.OutDw.Main.lean ====
/- The output projection's gradient by its weight: four blocks of rows in turn, summed, are the reference's product. -/
module

public import proofs.«01_k».proof.Defs
public import proofs.«01_k».proof.Proof.OutDw.Value
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.OutDwIdeal.Main

open Cert.OutDwIdeal Cert.OutDwIdeal.Gen

variable (m : (ℓ : Loc nD τ sig) → Buf (Elt Ideal) ℓ)

/-- The reference's term, over its argument arrays. -/
abbrev REF (X : FVec Ideal S8192x2048 .f32) (D : FVec Ideal S8192x2048 .f32) : FVec Ideal S2048x2048 .bf16 :=
  truncf .bf16 (transpose S2048x2048 [1, 0] (Host.dotGeneral Cert.OutDwReferenceIdeal.dot_S8192x2048_S8192x2048_S2048x2048_0_0_1_1_n_n none D X) Cert.OutDwReferenceIdeal.Gen.transposes_S2048x2048_S2048x2048_1_0) Cert.OutDwReferenceIdeal.Gen.bitsLt_bf16_f32

/-- Where each window's block lies at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- What one point's blocks add: their product. -/
def part (x0 : Vec Ideal S2048x1024 .bf16) (x1 : Vec Ideal S2048x2048 .bf16) (j : S1024x2048.Idx) : EReal :=
  ∑ k : Fin 2048, x0 (Idealize.ShloMosaic.ix2 k (j 0)) * x1 (Idealize.ShloMosaic.ix2 k (j 1))

/-- The first point of a run leaves its block's product. -/
theorem hfirst (x0 : Vec Ideal S2048x1024 .bf16) (x1 : Vec Ideal S2048x2048 .bf16) (j) :
    k0_pay2 (F := Ideal) x0 x1 j = (0 : EReal) + part x0 x1 j := by
  rw [zero_add]
  pointwise [k0_pay2, k0_pay1, part]

/-- Each further point adds its block's product. -/
theorem hnext (x0 : Vec Ideal S2048x1024 .bf16) (x1 : Vec Ideal S2048x2048 .bf16) (acc : Vec Ideal S1024x2048 .f32) (j) :
    k0_pay3 (F := Ideal) x0 x1 acc j = acc j + part x0 x1 j := by
  pointwise [k0_pay3, k0_pay1, part]

/-- The accumulator at a run's last point: the sum of the run's products. -/
theorem acc_eq (c : Dev nD) (t : Fin cfg0.N) (h : t.val % 4 = 3) (y) :
    (outsAt0 m c t.val t.isLt).2 y = ∑ s : Fin 4,
      part (iblk m c 0 ⟨4 * (t.val / 4) + s.val, Pipeline.run_point_lt_of_flush t h s⟩)
        (iblk m c 1 ⟨4 * (t.val / 4) + s.val, Pipeline.run_point_lt_of_flush t h s⟩) y := by
  have := Pipeline.eq_sum_fin_of_reset_step_apply_of_flush (fun n h => (outsAt0 m c n h).2) 4 (fun _ => (0 : EReal))
    (fun t j => part (iblk m c 0 t) (iblk m c 1 t) j)
    (fun t h j => by rw [outsAt0_A m c t h (by omega) (by omega)]; frame_out; rw [hfirst])
    (fun t h j => by
      by_cases h3 : t.val % 4 = 3
      · rw [outsAt0_C m c t h (by omega) h3]; frame_out; rw [read_unread_whole, hnext]
      · rw [outsAt0_B m c t h (by omega) h3]; frame_out; rw [read_unread_whole, hnext])
    t h y
  rw [this, zero_add]

/-- What the last point of a run writes back is what it leaves in the accumulator. -/
theorem out_eq (c : Dev nD) (t : Fin cfg0.N) (h : t.val % 4 = 3) (y) :
    (outsAt0 m c t.val t.isLt).1 y = (outsAt0 m c t.val t.isLt).2 (y) := by
  rw [outsAt0_C m c t (by omega) (by omega) h]
  frame_out
  pointwise [k0_pay4]

/-- The array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf)]
  rw [acc_eq m c t ((flush0_2 t).mp hf)]
  simp only [part]
  pointwise [REF]
  refine Fin.sum_mul_add_congr fun s k hl => ?_
  rw [mul_comm]
  blk_point [iblk, V, idx t, idx ⟨_, Pipeline.run_point_lt_of_flush t ((flush0_2 t).mp hf) s⟩]

end Cert.OutDwIdeal.Main

namespace Cert.Proof

/-- The two programs leave the same array. -/
theorem algebraic_OutDw : Cert.algebraic_OutDwIdeal_OutDwReferenceIdeal := by
  pair_intro
  · run_from Cert.OutDwIdeal.Value.run_blocks m g
  · run_from Cert.OutDwReferenceIdeal.Value.run (F := Ideal) m' g'
    exact (Cert.OutDwIdeal.Main.final m c).symm

end Cert.Proof

end
-- ==== Proof.Down.Value.lean ====
module

public import proofs.«01_k».proof.Proof.Gen.Down.Frame
public import proofs.«01_k».proof.Proof.Gen.DownIdeal.Value
public import proofs.«01_k».proof.Proof.Gen.DownReferenceIdeal.Run
-- ==== Proof.Down.Main.lean ====
/- The channel mixer's second product with the residual: four blocks of the hidden width in turn, summed, are the reference's. -/
module

public import proofs.«01_k».proof.Defs
public import proofs.«01_k».proof.Proof.Down.Value
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.DownIdeal.Main

open Cert.DownIdeal Cert.DownIdeal.Gen

variable (m : (ℓ : Loc nD τ sig) → Buf (Elt Ideal) ℓ)

/-- The channel mixer's activation at a position. -/
def act (A : FVec Ideal S8192x2048 .f32) (B : FVec Ideal S2048x8192 .f32) (j : S8192x8192.Idx) : EReal :=
  max (∑ k : Fin 2048, A (Idealize.ShloMosaic.ix2 (j 0) k) * B (Idealize.ShloMosaic.ix2 k (j 1))) 0

/-- The call finds the activation, which the host computes, in its buffer. -/
theorem u_at (c : Dev nD) (j : S8192x8192.Idx) :
    (V m c main_v3 : FVec Ideal S8192x8192 .bf16) j = act (m ((c : Thread nD τ).loc main_arg0)) (m ((c : Thread nD τ).loc main_arg1)) j := by
  simp only [V, hostOps0, hostOps0_1, hostOps0_2, List.flatten_cons, List.flatten_nil, List.cons_append, List.nil_append, List.append_nil, act]
  after_reads_at

/-- The reference's term, over its argument arrays. -/
abbrev REF (H : FVec Ideal S8192x2048 .f32) (W : FVec Ideal S2048x8192 .f32) (Y : FVec Ideal S8192x2048 .f32) (Z : FVec Ideal S8192x2048 .f32) : FVec Ideal S8192x2048 .f32 :=
  addf Z (Host.dotGeneral Cert.DownReferenceIdeal.dot_S8192x8192_S8192x2048_S8192x2048_1_0_0_1_n_n none (mulf (maximumf (Host.dotGeneral Cert.DownReferenceIdeal.dot_S8192x2048_S2048x8192_S8192x8192_1_0_0_1_n_n none H W) (broadcastInDim S8192x8192 ![] Cert.DownReferenceIdeal.Gen.bcast_S_S8192x8192 (constant Cert.DownReferenceIdeal.S_ .f32 0x00000000#32))) (maximumf (Host.dotGeneral Cert.DownReferenceIdeal.dot_S8192x2048_S2048x8192_S8192x8192_1_0_0_1_n_n none H W) (broadcastInDim S8192x8192 ![] Cert.DownReferenceIdeal.Gen.bcast_S_S8192x8192 (constant Cert.DownReferenceIdeal.S_ .f32 0x00000000#32)))) Y)

/-- Where each window's block lies at a point. -/
theorem idx : ∀ t : Fin cfg0.N, win0_0.index t = ![t.val / 8, t.val % 4] ∧ win0_1.index t = ![t.val % 4, t.val / 4 % 2] ∧ win0_2.index t = ![t.val / 8, t.val / 4 % 2] ∧ win0_3.index t = ![t.val / 8, t.val / 4 % 2] :=
  (by decide +kernel : ∀ t : Fin grid0.N, _)

/-- What one point's blocks add: their product. -/
def part (x0 : Vec Ideal S1024x2048 .bf16) (x1 : Vec Ideal S2048x1024 .bf16) (j : S1024x1024.Idx) : EReal :=
  ∑ k : Fin 2048, (x0 (Idealize.ShloMosaic.ix2 (j 0) k) * x0 (Idealize.ShloMosaic.ix2 (j 0) k)) * x1 (Idealize.ShloMosaic.ix2 k (j 1))

/-- The first point of a run leaves its block's product. -/
theorem hfirst (x0 : Vec Ideal S1024x2048 .bf16) (x1 : Vec Ideal S2048x1024 .bf16) (j) :
    k0_pay2 (F := Ideal) x0 x1 j = (0 : EReal) + part x0 x1 j := by
  rw [zero_add]
  pointwise [k0_pay2, k0_pay1, part]

/-- Each further point adds its block's product. -/
theorem hnext (x0 : Vec Ideal S1024x2048 .bf16) (x1 : Vec Ideal S2048x1024 .bf16) (acc : Vec Ideal S1024x1024 .f32) (j) :
    k0_pay3 (F := Ideal) x0 x1 acc j = acc j + part x0 x1 j := by
  pointwise [k0_pay3, k0_pay1, part]

/-- The accumulator at a run's last point: the sum of the run's products. -/
theorem acc_eq (c : Dev nD) (t : Fin cfg0.N) (h : t.val % 4 = 3) (y) :
    (outsAt0 m c t.val t.isLt).2 y = ∑ s : Fin 4,
      part (iblk m c 0 ⟨4 * (t.val / 4) + s.val, Pipeline.run_point_lt_of_flush t h s⟩)
        (iblk m c 1 ⟨4 * (t.val / 4) + s.val, Pipeline.run_point_lt_of_flush t h s⟩) y := by
  have := Pipeline.eq_sum_fin_of_reset_step_apply_of_flush (fun n h => (outsAt0 m c n h).2) 4 (fun _ => (0 : EReal))
    (fun t j => part (iblk m c 0 t) (iblk m c 1 t) j)
    (fun t h j => by rw [outsAt0_A m c t h (by omega) (by omega)]; frame_out; rw [hfirst])
    (fun t h j => by
      by_cases h3 : t.val % 4 = 3
      · rw [outsAt0_C m c t h (by omega) h3]; frame_out; rw [read_unread_whole, hnext]
      · rw [outsAt0_B m c t h (by omega) h3]; frame_out; rw [read_unread_whole, hnext])
    t h y
  rw [this, zero_add]

/-- What the last point of a run writes back is what it leaves in the accumulator and the residual's block. -/
theorem out_eq (c : Dev nD) (t : Fin cfg0.N) (h : t.val % 4 = 3) (y) :
    (outsAt0 m c t.val t.isLt).1 y = (outsAt0 m c t.val t.isLt).2 (y) + (show FVec Ideal S1024x1024 .f32 from iblk m c 2 t) y := by
  rw [outsAt0_C m c t (by omega) (by omega) h]
  frame_out
  pointwise [k0_pay4]

/-- The array after the run is the reference's. -/
theorem final (c : Dev nD) : (dats m 0 c).arrAt 3 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3, out_eq m c t ((flush0_3 t).mp hf)]
  rw [acc_eq m c t ((flush0_3 t).mp hf)]
  simp only [part]
  pointwise [REF]
  rw [add_comm]
  refine congrArg₂ (· + ·) ?_ (Fin.sum_mul_add_congr fun s k hl => ?_)
  · blk_point [iblk, V, idx t]
  · refine congrArg₂ (· * ·) ?_ ?_
    · blk_simp [iblk]
      rw [u_at, act]
      blk_point [idx t, idx ⟨_, Pipeline.run_point_lt_of_flush t ((flush0_3 t).mp hf) s⟩]
    · blk_point [iblk, V, idx t, idx ⟨_, Pipeline.run_point_lt_of_flush t ((flush0_3 t).mp hf) s⟩]

end Cert.DownIdeal.Main

namespace Cert.Proof

/-- The two programs leave the same array. -/
theorem algebraic_Down : Cert.algebraic_DownIdeal_DownReferenceIdeal := by
  pair_intro
  · run_from Cert.DownIdeal.Value.run_blocks m g
  · run_from Cert.DownReferenceIdeal.Value.run (F := Ideal) m' g'
    exact (Cert.DownIdeal.Main.final m c).symm

end Cert.Proof

end
-- ==== Proof.OutProj.Value.lean ====
module

public import proofs.«01_k».proof.Proof.Gen.OutProj.Frame
public import proofs.«01_k».proof.Proof.Gen.OutProjIdeal.Value
public import proofs.«01_k».proof.Proof.Gen.OutProjReferenceIdeal.Run
-- ==== Proof.OutProj.Main.lean ====
/- The output projection with the residual, block by block, is the reference's sum. -/
module

public import proofs.«01_k».proof.Defs
public import proofs.«01_k».proof.Proof.OutProj.Value
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.ValueIdx
open Idealize.ShloMosaic.Pipeline (Dat)

namespace Cert.OutProjIdeal.Main

open Cert.OutProjIdeal Cert.OutProjIdeal.Gen

variable (m : (ℓ : Loc nD τ sig) → Buf (Elt Ideal) ℓ)

/-- The product that the reference states, over its argument arrays. -/
abbrev REF (X : FVec Ideal S8192x2048 .f32) (Y : FVec Ideal S2048x2048 .f32) (Z : FVec Ideal S8192x2048 .f32) : FVec Ideal S8192x2048 .f32 :=
  addf Z (Host.dotGeneral Cert.OutProjReferenceIdeal.dot_S8192x2048_S2048x2048_S8192x2048_1_0_0_1_n_n none X Y)

/-- Where each window's block lies at a point. -/
theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The array after the run is the reference's product. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, REF]
  rw [add_comm]
  blk_point [iblk, V, idx t]

end Cert.OutProjIdeal.Main

namespace Cert.Proof

/-- The two programs leave the same array. -/
theorem algebraic_OutProj : Cert.algebraic_OutProjIdeal_OutProjReferenceIdeal := by
  pair_intro
  · run_from Cert.OutProjIdeal.Value.run_blocks m g
  · run_from Cert.OutProjReferenceIdeal.Value.run (F := Ideal) m' g'
    exact (Cert.OutProjIdeal.Main.final m c).symm

end Cert.Proof

end
-- ==== Proof.Fix.Frame.lean ====
module

public import proofs.«01_k».proof.Proof.Fix.RunD
public import Idealize.ShloMosaic.Lib.Claim

@[expose] public section

set_option maxRecDepth 16384

noncomputable section

namespace Cert.Kernel.Fix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: the outputs and the scratch are at anything -/

/-- The three outputs: nothing of their contents is stated. -/
def unstated : Fin 11 → Bool := fun w => w.val == 8 || w.val == 9 || w.val == 10

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 4000000 in
/-- The body at a point of case A. -/
theorem sound_body_A (c : Dev nD) (t : Fin cfg0.N) (h0 : t.val % 80 = 0) (h1 : t.val % 5 = 0) (h2 : ¬t.val % 5 = 4) (h3 : t.val % 5 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA c (grid0.coords t) _ _ _ _ _ _ _ _ _ _ _ _ _ _ _ _ _ _ _ _ _ _ _ _ _ _ _ _ ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) ).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexists _; iexact HS0
  isplitl [HS1]; · iexists _; iexact HS1
  isplitl [HS2]; · iexists _; iexact HS2
  iintro ⟨H0, H1, H2, H3, H4, H5, H6, H7, ⟨%e8, H8⟩, ⟨%e9, H9⟩, ⟨%e10, H10⟩, ⟨%es0, HS0⟩, ⟨%es1, HS1⟩, ⟨%es2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; unfold owns; iexists _; isplitr
    swap; · iexact H8
    ipureintro; rfl
  isplitl [H9]
  · iexists _; unfold owns; iexists _; isplitr
    swap; · iexact H9
    ipureintro; rfl
  iexists _; unfold owns; iexists _; isplitr
  swap; · iexact H10
  ipureintro; rfl

set_option maxHeartbeats 4000000 in
/-- The body at a point of case B. -/
theorem sound_body_B (c : Dev nD) (t : Fin cfg0.N) (h0 : ¬t.val % 80 = 0) (h1 : ¬t.val % 5 = 0) (h2 : ¬t.val % 5 = 4) (h3 : t.val % 5 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, ⟨%es0, HS0⟩, ⟨%es1, HS1⟩, HS2⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; unfold owns; iexists _; isplitr
    swap; · iexact H8
    ipureintro; rfl
  isplitl [H9]
  · iexists _; unfold owns; iexists _; isplitr
    swap; · iexact H9
    ipureintro; rfl
  iexists _; unfold owns; iexists _; isplitr
  swap; · iexact H10
  ipureintro; rfl

set_option maxHeartbeats 4000000 in
/-- The body at a point of case C. -/
theorem sound_body_C (c : Dev nD) (t : Fin cfg0.N) (h0 : ¬t.val % 80 = 0) (h1 : ¬t.val % 5 = 0) (h2 : t.val % 5 = 4) (h3 : ¬t.val % 5 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) _ _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, H8, ⟨%e9, H9⟩, ⟨%e10, H10⟩, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iexact H8
  isplitl [H9]
  · iexists _; unfold owns; iexists _; isplitr
    swap; · iexact H9
    ipureintro; rfl
  iexists _; unfold owns; iexists _; isplitr
  swap; · iexact H10
  ipureintro; rfl

set_option maxHeartbeats 4000000 in
/-- The body at a point of case D. -/
theorem sound_body_D (c : Dev nD) (t : Fin cfg0.N) (h0 : ¬t.val % 80 = 0) (h1 : t.val % 5 = 0) (h2 : ¬t.val % 5 = 4) (h3 : t.val % 5 ≤ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  simp only [leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runD c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexists _; iexact HS0
  isplitl [HS1]; · iexists _; iexact HS1
  isplitl [HS2]; · iexact HS2
  iintro ⟨H0, H1, H2, H3, H4, H5, H6, H7, ⟨%e8, H8⟩, ⟨%e9, H9⟩, ⟨%e10, H10⟩, ⟨%es0, HS0⟩, ⟨%es1, HS1⟩, HS2⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; unfold owns; iexists _; isplitr
    swap; · iexact H8
    ipureintro; rfl
  isplitl [H9]
  · iexists _; unfold owns; iexists _; isplitr
    swap; · iexact H9
    ipureintro; rfl
  iexists _; unfold owns; iexists _; isplitr
  swap; · iexact H10
  ipureintro; rfl

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  by_cases hz : t.val = 0
  · exact sound_body_A m c t (by omega) (by omega) (by omega) (by omega)
  · by_cases h1 : t.val % 5 = 0
    · exact sound_body_D m c t (by omega) h1 (by omega) (by omega)
    · by_cases h2 : t.val % 5 = 4
      · exact sound_body_C m c t (by omega) h1 h2 (by omega)
      · exact sound_body_B m c t (by omega) h1 h2 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unstated := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget unstated) (V m)) r ∧ r.2.sem = fun _ => 0) :=
  Pipeline.θ_run_frame_track_forget_shared (Q' := _) cfgs (dats m) (0 : Fin 1) launch₀0 defs₀ Variants.none unstated m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and ((θ_run defs _ _).mono (fun _ h c => ⟨((Dat.toRForget_arrAt_iff (dat := dats m 0 c) (fgt := unstated) (w := 0) rfl _ _).mp ((h.1 c).1 0)).trans (((dats m 0 c).arrAt_in 0 rfl _).trans ((A_eq m c 0).trans (V_main_arg0 m c))),
      ((Dat.toRForget_arrAt_iff (dat := dats m 0 c) (fgt := unstated) (w := 2) rfl _ _).mp ((h.1 c).1 2)).trans (((dats m 0 c).arrAt_in 2 rfl _).trans ((A_eq m c 2).trans (V_main_arg1 m c))),
      ((Dat.toRForget_arrAt_iff (dat := dats m 0 c) (fgt := unstated) (w := 4) rfl _ _).mp ((h.1 c).1 4)).trans (((dats m 0 c).arrAt_in 4 rfl _).trans ((A_eq m c 4).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((Dat.toRForget_arrAt_iff (dat := dats m 0 c) (fgt := unstated) (w := 5) rfl _ _).mp ((h.1 c).1 5)).trans (((dats m 0 c).arrAt_in 5 rfl _).trans ((A_eq m c 5).trans (V_main_arg7 m c)))⟩) (run_main_quiescent m ρ)) ((θ_run defs _ _).mono (fun _ h => h.2) (run_main_quiescent m ρ))

end Cert.Kernel.Fix

end
-- ==== Proof.lean ====
/- The proof of the certificate: the frames of every program, the name of the mask, and the values of the attention's gradient and of the seven products. -/
module

public import proofs.«01_k».proof.Proof.Attn.Main
public import proofs.«01_k».proof.Proof.DownDx.Main
public import proofs.«01_k».proof.Proof.DownDw.Main
public import proofs.«01_k».proof.Proof.UpDw.Main
public import proofs.«01_k».proof.Proof.OutDx.Main
public import proofs.«01_k».proof.Proof.OutDw.Main
public import proofs.«01_k».proof.Proof.Down.Main
public import proofs.«01_k».proof.Proof.OutProj.Main
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bwd.Frame
public import proofs.«01_k».proof.Proof.Fix.Frame
public import Idealize.ShloMosaic.Adequacy
public import Idealize.ShloMosaic.Init
public import Idealize.ShloMosaic.Lib.Quiescent

@[expose] public section

noncomputable section

namespace Cert.Proof

open Idealize.ShloMosaic Idealize.SL.Sem

theorem frame_p : Cert.quiescent_Kernel := fun m ρ _ => Cert.Kernel.Fix.frame m ρ
theorem frame_pi : Cert.quiescent_KernelIdeal := fun m ρ _ => Cert.KernelIdeal.Bwd.frame m ρ
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem frame_pi_finite : Cert.quiescent_KernelIdeal_pre_finite := fun m ρ _ => Cert.KernelIdeal.Bwd.frame m ρ
theorem frame_ri_finite : Cert.quiescent_ReferenceIdeal_pre_finite := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The mask's name stands for minus infinity. -/
theorem preserves : Cert.preserves_Kernel_KernelIdeal :=
  IdealRules.named_const.statement Cert.KernelIdeal.κ "mask" .f32 0xF149F2CA#32 ⊥ rfl

theorem frame_DownDx : Cert.quiescent_DownDx := fun m ρ _ => Cert.DownDx.Gen.frame m ρ
theorem frame_DownDxI : Cert.quiescent_DownDxIdeal := fun m ρ _ => Cert.DownDxIdeal.Gen.frame m ρ
theorem frame_DownDxR : Cert.quiescent_DownDxReferenceIdeal := fun m ρ _ =>
  (θ_run Cert.DownDxReferenceIdeal.defs _ _).mono (fun r h => ⟨fun c => (h c).2,
      Idealize.ShloMosaic.sem_eq_zero_of_no_sems (by decide) r.2⟩)
    (Cert.DownDxReferenceIdeal.Value.run (F := Ideal) m ρ)

theorem frame_DownDw : Cert.quiescent_DownDw := fun m ρ _ => Cert.DownDw.Gen.frame m ρ
theorem frame_DownDwI : Cert.quiescent_DownDwIdeal := fun m ρ _ => Cert.DownDwIdeal.Gen.frame m ρ
theorem frame_DownDwR : Cert.quiescent_DownDwReferenceIdeal := fun m ρ _ =>
  (θ_run Cert.DownDwReferenceIdeal.defs _ _).mono (fun r h => ⟨fun c => (h c).2,
      Idealize.ShloMosaic.sem_eq_zero_of_no_sems (by decide) r.2⟩)
    (Cert.DownDwReferenceIdeal.Value.run (F := Ideal) m ρ)

theorem frame_UpDw : Cert.quiescent_UpDw := fun m ρ _ => Cert.UpDw.Gen.frame m ρ
theorem frame_UpDwI : Cert.quiescent_UpDwIdeal := fun m ρ _ => Cert.UpDwIdeal.Gen.frame m ρ
theorem frame_UpDwR : Cert.quiescent_UpDwReferenceIdeal := fun m ρ _ =>
  (θ_run Cert.UpDwReferenceIdeal.defs _ _).mono (fun r h => ⟨fun c => (h c).2,
      Idealize.ShloMosaic.sem_eq_zero_of_no_sems (by decide) r.2⟩)
    (Cert.UpDwReferenceIdeal.Value.run (F := Ideal) m ρ)

theorem frame_OutDx : Cert.quiescent_OutDx := fun m ρ _ => Cert.OutDx.Gen.frame m ρ
theorem frame_OutDxI : Cert.quiescent_OutDxIdeal := fun m ρ _ => Cert.OutDxIdeal.Gen.frame m ρ
theorem frame_OutDxR : Cert.quiescent_OutDxReferenceIdeal := fun m ρ _ =>
  (θ_run Cert.OutDxReferenceIdeal.defs _ _).mono (fun r h => ⟨fun c => (h c).2,
      Idealize.ShloMosaic.sem_eq_zero_of_no_sems (by decide) r.2⟩)
    (Cert.OutDxReferenceIdeal.Value.run (F := Ideal) m ρ)

theorem frame_OutDw : Cert.quiescent_OutDw := fun m ρ _ => Cert.OutDw.Gen.frame m ρ
theorem frame_OutDwI : Cert.quiescent_OutDwIdeal := fun m ρ _ => Cert.OutDwIdeal.Gen.frame m ρ
theorem frame_OutDwR : Cert.quiescent_OutDwReferenceIdeal := fun m ρ _ =>
  (θ_run Cert.OutDwReferenceIdeal.defs _ _).mono (fun r h => ⟨fun c => (h c).2,
      Idealize.ShloMosaic.sem_eq_zero_of_no_sems (by decide) r.2⟩)
    (Cert.OutDwReferenceIdeal.Value.run (F := Ideal) m ρ)

theorem frame_Down : Cert.quiescent_Down := fun m ρ _ => Cert.Down.Gen.frame m ρ
theorem frame_DownI : Cert.quiescent_DownIdeal := fun m ρ _ => Cert.DownIdeal.Gen.frame m ρ
theorem frame_DownR : Cert.quiescent_DownReferenceIdeal := fun m ρ _ =>
  (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)

theorem frame_OutProj : Cert.quiescent_OutProj := fun m ρ _ => Cert.OutProj.Gen.frame m ρ
theorem frame_OutProjI : Cert.quiescent_OutProjIdeal := fun m ρ _ => Cert.OutProjIdeal.Gen.frame m ρ
theorem frame_OutProjR : Cert.quiescent_OutProjReferenceIdeal := fun m ρ _ =>
  (θ_run Cert.OutProjReferenceIdeal.defs _ _).mono (fun r h => ⟨fun c => (h c).2,
      Idealize.ShloMosaic.sem_eq_zero_of_no_sems (by decide) r.2⟩)
    (Cert.OutProjReferenceIdeal.Value.run (F := Ideal) m ρ)

theorem claim : Cert.Claim := ⟨Cert.Kernel.Gen.facts,
  Cert.KernelIdeal.Gen.facts,
  Cert.ReferenceIdeal.Gen.facts,
  Cert.DownDx.Gen.facts,
  Cert.DownDxIdeal.Gen.facts,
  Cert.DownDxReferenceIdeal.Gen.facts,
  Cert.DownDw.Gen.facts,
  Cert.DownDwIdeal.Gen.facts,
  Cert.DownDwReferenceIdeal.Gen.facts,
  Cert.UpDw.Gen.facts,
  Cert.UpDwIdeal.Gen.facts,
  Cert.UpDwReferenceIdeal.Gen.facts,
  Cert.OutDx.Gen.facts,
  Cert.OutDxIdeal.Gen.facts,
  Cert.OutDxReferenceIdeal.Gen.facts,
  Cert.OutDw.Gen.facts,
  Cert.OutDwIdeal.Gen.facts,
  Cert.OutDwReferenceIdeal.Gen.facts,
  Cert.Down.Gen.facts,
  Cert.DownIdeal.Gen.facts,
  Cert.DownReferenceIdeal.Gen.facts,
  Cert.OutProj.Gen.facts,
  Cert.OutProjIdeal.Gen.facts,
  Cert.OutProjReferenceIdeal.Gen.facts,
  Cert.Pre_finite.facts,
  frame_p, frame_pi, frame_pi_finite, frame_ri, frame_ri_finite,
  frame_DownDx, frame_DownDxI, frame_DownDxR,
  frame_DownDw, frame_DownDwI, frame_DownDwR,
  frame_UpDw, frame_UpDwI, frame_UpDwR,
  frame_OutDx, frame_OutDxI, frame_OutDxR,
  frame_OutDw, frame_OutDwI, frame_OutDwR,
  frame_Down, frame_DownI, frame_DownR,
  frame_OutProj, frame_OutProjI, frame_OutProjR,
  preserves, Cert.Attn.Main.algebraic_Attn,
  trivial, algebraic_DownDx,
  trivial, algebraic_DownDw,
  trivial, algebraic_UpDw,
  trivial, algebraic_OutDx,
  trivial, algebraic_OutDw,
  trivial, algebraic_Down,
  trivial, algebraic_OutProj⟩

end Cert.Proof

end
